-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_RefIdeal (m : (ℓ : Loc Cert.RefIdeal.nD Cert.RefIdeal.τ Cert.RefIdeal.sig) → Buf (Elt Ideal) ℓ) : Prop :=
  True

def Pre_RefIdeal_in_domain [hPre_in_domain : Cert.Pre_in_domain.Facts] (m : (ℓ : Loc Cert.RefIdeal.nD Cert.RefIdeal.τ Cert.RefIdeal.sig) → Buf (Elt Ideal) ℓ) : Prop :=
  ∀ c : Dev Cert.RefIdeal.nD,
    (Cert.Pre_in_domain.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5)) (m ((c.tc : Thread Cert.RefIdeal.nD Cert.RefIdeal.τ).loc Cert.RefIdeal.main_arg6)) (m ((c.tc : Thread Cert.RefIdeal.nD Cert.RefIdeal.τ).loc Cert.RefIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6)
      ∧ r.2.mem ((c.tc : Thread Cert.RefIdeal.nD Cert.RefIdeal.τ).loc Cert.RefIdeal.main_arg7) = m ((c.tc : Thread Cert.RefIdeal.nD Cert.RefIdeal.τ).loc Cert.RefIdeal.main_arg7))
      ∧ r.2.sem = fun _ => 0)

def quiescent_RefIdeal_pre_in_domain [hRefIdeal : Cert.RefIdeal.Facts] [hPre_in_domain : Cert.Pre_in_domain.Facts] : Prop :=
  ∀ (m : (ℓ : Loc Cert.RefIdeal.nD Cert.RefIdeal.τ Cert.RefIdeal.sig) → Buf (Elt Ideal) ℓ) (g : Dev Cert.RefIdeal.nD → PrngReg), Pre_RefIdeal_in_domain m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6)
      ∧ r.2.mem ((c.tc : Thread Cert.RefIdeal.nD Cert.RefIdeal.τ).loc Cert.RefIdeal.main_arg7) = m ((c.tc : Thread Cert.RefIdeal.nD Cert.RefIdeal.τ).loc Cert.RefIdeal.main_arg7))
      ∧ r.2.sem = fun _ => 0)

def preserves_Kernel_KernelIdeal : Prop :=
  IdealRules.named_const.Statement Cert.KernelIdeal.κ "score_scale_log2e" .f32 0x3E553B95#32 (((Real.sqrt 48)⁻¹ * (Real.log 2)⁻¹ : ℝ) : EReal)

def algebraic_KernelIdeal_RefIdeal_pre_in_domain [hKernelIdeal : Cert.KernelIdeal.Facts] [hRefIdeal : Cert.RefIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RefIdeal.nD Cert.RefIdeal.τ Cert.RefIdeal.sig) → Buf (Elt Ideal) ℓ) (g' : Dev Cert.RefIdeal.nD → PrngReg), Pre_KernelIdeal_in_domain m →
    (∀ c : Dev Cert.KernelIdeal.nD,
      m' ((c.tc : Thread Cert.RefIdeal.nD Cert.RefIdeal.τ).loc Cert.RefIdeal.main_arg0) = m ((c.tc : Thread Cert.KernelIdeal.nD Cert.KernelIdeal.τ).loc Cert.KernelIdeal.main_arg0)
      ∧ m' ((c.tc : Thread Cert.RefIdeal.nD Cert.RefIdeal.τ).loc Cert.RefIdeal.main_arg1) = m ((c.tc : Thread Cert.KernelIdeal.nD Cert.KernelIdeal.τ).loc Cert.KernelIdeal.main_arg1)
      ∧ m' ((c.tc : Thread Cert.RefIdeal.nD Cert.RefIdeal.τ).loc Cert.RefIdeal.main_arg2) = m ((c.tc : Thread Cert.KernelIdeal.nD Cert.KernelIdeal.τ).loc Cert.KernelIdeal.main_arg2)
      ∧ m' ((c.tc : Thread Cert.RefIdeal.nD Cert.RefIdeal.τ).loc Cert.RefIdeal.main_arg3) = m ((c.tc : Thread Cert.KernelIdeal.nD Cert.KernelIdeal.τ).loc Cert.KernelIdeal.main_arg3)
      ∧ m' ((c.tc : Thread Cert.RefIdeal.nD Cert.RefIdeal.τ).loc Cert.RefIdeal.main_arg4) = m ((c.tc : Thread Cert.KernelIdeal.nD Cert.KernelIdeal.τ).loc Cert.KernelIdeal.main_arg4)
      ∧ m' ((c.tc : Thread Cert.RefIdeal.nD Cert.RefIdeal.τ).loc Cert.RefIdeal.main_arg5) = m ((c.tc : Thread Cert.KernelIdeal.nD Cert.KernelIdeal.τ).loc Cert.KernelIdeal.main_arg5)
      ∧ m' ((c.tc : Thread Cert.RefIdeal.nD Cert.RefIdeal.τ).loc Cert.RefIdeal.main_arg6) = m ((c.tc : Thread Cert.KernelIdeal.nD Cert.KernelIdeal.τ).loc Cert.KernelIdeal.main_arg6)
      ∧ m' ((c.tc : Thread Cert.RefIdeal.nD Cert.RefIdeal.τ).loc Cert.RefIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v27_0) = v0 c
          ∧ r.2.mem ((c.tc : Thread Cert.RefIdeal.nD Cert.RefIdeal.τ).loc Cert.RefIdeal.main_v27_1) = v1 c
          ∧ r.2.mem ((c.tc : Thread Cert.RefIdeal.nD Cert.RefIdeal.τ).loc Cert.RefIdeal.main_v27_2) = v2 c
          ∧ r.2.mem ((c.tc : Thread Cert.RefIdeal.nD Cert.RefIdeal.τ).loc Cert.RefIdeal.main_v68) = v3 c
          ∧ r.2.mem ((c.tc : Thread Cert.RefIdeal.nD Cert.RefIdeal.τ).loc Cert.RefIdeal.main_v67) = v4 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3)
          ∧ r.2.mem ((c.tc : Thread Cert.RefIdeal.nD Cert.RefIdeal.τ).loc Cert.RefIdeal.main_arg4) = m' ((c.tc : Thread Cert.RefIdeal.nD Cert.RefIdeal.τ).loc Cert.RefIdeal.main_arg4)
          ∧ r.2.mem ((c.tc : Thread Cert.RefIdeal.nD Cert.RefIdeal.τ).loc Cert.RefIdeal.main_arg5) = m' ((c.tc : Thread Cert.RefIdeal.nD Cert.RefIdeal.τ).loc Cert.RefIdeal.main_arg5)
          ∧ r.2.mem ((c.tc : Thread Cert.RefIdeal.nD Cert.RefIdeal.τ).loc Cert.RefIdeal.main_arg6) = m' ((c.tc : Thread Cert.RefIdeal.nD Cert.RefIdeal.τ).loc Cert.RefIdeal.main_arg6)
          ∧ r.2.mem ((c.tc : Thread Cert.RefIdeal.nD Cert.RefIdeal.τ).loc Cert.RefIdeal.main_arg7) = m' ((c.tc : Thread Cert.RefIdeal.nD Cert.RefIdeal.τ).loc Cert.RefIdeal.main_arg7))

def Claim : Prop :=
  ∃ (hKernel : Cert.Kernel.Facts) (hKernelIdeal : Cert.KernelIdeal.Facts) (hRefIdeal : Cert.RefIdeal.Facts) (hPre_in_domain : Cert.Pre_in_domain.Facts),
    quiescent_Kernel (hKernel := hKernel)
    ∧ quiescent_KernelIdeal (hKernelIdeal := hKernelIdeal)
    ∧ quiescent_KernelIdeal_pre_in_domain (hKernelIdeal := hKernelIdeal) (hPre_in_domain := hPre_in_domain)
    ∧ quiescent_RefIdeal (hRefIdeal := hRefIdeal)
    ∧ quiescent_RefIdeal_pre_in_domain (hRefIdeal := hRefIdeal) (hPre_in_domain := hPre_in_domain)
    ∧ preserves_Kernel_KernelIdeal
    ∧ algebraic_KernelIdeal_RefIdeal_pre_in_domain (hKernelIdeal := hKernelIdeal) (hRefIdeal := hRefIdeal) (hPre_in_domain := hPre_in_domain)
-- ==== Pre_in_domain.lean ====
abbrev S3x12 : Shape := ⟨2, ![3, 12]⟩
abbrev S3 : Shape := ⟨1, ![3]⟩
abbrev S3x56x192x640 : Shape := ⟨4, ![3, 56, 192, 640]⟩
abbrev S192x4x48 : Shape := ⟨3, ![192, 4, 48]⟩
abbrev S4x48x192 : Shape := ⟨3, ![4, 48, 192]⟩
abbrev S_ : Shape := ⟨0, ![]⟩

class Facts : Prop where
  bcast_S_S3x12 : S_.BroadcastsInDim S3x12 (![] : Fin 0 → Fin S3x12.rank)
  reducesTo_S3x12_S_d0_1 : S3x12.ReducesTo [0, 1] S_
  h_S_ : 0 < S_.numel
  bcast_S_S3 : S_.BroadcastsInDim S3 (![] : Fin 0 → Fin S3.rank)
  reducesTo_S3_S_d0 : S3.ReducesTo [0] S_

variable [Facts]

def fn {F : FTy → Type} [FloatOps F] (main_arg0 : FVec F S3x12 .f32) (main_arg1 : IVec S3 32) (main_arg2 : FVec F S3x56x192x640 .bf16) (main_arg3 : FVec F S3x56x192x640 .f32) (main_arg4 : FVec F S192x4x48 .bf16) (main_arg5 : FVec F S192x4x48 .bf16) (main_arg6 : FVec F S192x4x48 .bf16) (main_arg7 : FVec F S4x48x192 .bf16) : IVec S_ 1 :=
  let main_cst : FVec F S_ .f32 := constant S_ .f32 0x00000000#32
  let main_v0 : FVec F S3x12 .f32 := broadcastInDim S3x12 ![] bcast_S_S3x12 main_cst
  let main_v1 : IVec S3x12 1 := cmpf .ogt main_arg0 main_v0
  let main_c : IVec S_ 1 := constantI S_ 1 1#1
  let main_v2 : IVec S_ 1 := (fun x v => Host.reduce IntOp.andi x v reducesTo_S3x12_S_d0_1 h_S_) main_v1 main_c
  let main_c_0 : IVec S_ 32 := constantI S_ 32 1#32
  let main_v3 : IVec S3 32 := broadcastInDim S3 ![] bcast_S_S3 main_c_0
  let main_v4 : IVec S3 1 := cmpi .sge main_arg1 main_v3
  let main_c_1 : IVec S_ 32 := constantI S_ 32 640#32
  let main_v5 : IVec S3 32 := broadcastInDim S3 ![] bcast_S_S3 main_c_1
  let main_v6 : IVec S3 1 := cmpi .sle main_arg1 main_v5
  let main_v7 : IVec S3 1 := andi main_v4 main_v6
  let main_c_2 : IVec S_ 1 := constantI S_ 1 1#1
  let main_v8 : IVec S_ 1 := (fun x v => Host.reduce IntOp.andi x v reducesTo_S3_S_d0 h_S_) main_v7 main_c_2
  let main_v9 : IVec S_ 1 := andi main_v2 main_v8
  main_v9
-- ==== Kernel.lean ====
abbrev S3x12 : Shape := ⟨2, ![3, 12]⟩
abbrev S3 : Shape := ⟨1, ![3]⟩
abbrev S3x56x192x640 : Shape := ⟨4, ![3, 56, 192, 640]⟩
abbrev S192x4x48 : Shape := ⟨3, ![192, 4, 48]⟩
abbrev S4x48x192 : Shape := ⟨3, ![4, 48, 192]⟩
abbrev S192x192 : Shape := ⟨2, ![192, 192]⟩
abbrev S576x192 : Shape := ⟨2, ![576, 192]⟩
abbrev S1x1x192x640 : Shape := ⟨4, ![1, 1, 192, 640]⟩
abbrev S640x192 : Shape := ⟨2, ![640, 192]⟩
abbrev S4x64x640 : Shape := ⟨3, ![4, 64, 640]⟩
abbrev S4x192x640 : Shape := ⟨3, ![4, 192, 640]⟩
abbrev S192x640 : Shape := ⟨2, ![192, 640]⟩
abbrev S1 : Shape := ⟨1, ![1]⟩
abbrev S1x1 : Shape := ⟨2, ![1, 1]⟩
abbrev S8x128 : Shape := ⟨2, ![8, 128]⟩
abbrev S48x192 : Shape := ⟨2, ![48, 192]⟩
abbrev S576x640 : Shape := ⟨2, ![576, 640]⟩
abbrev S192x1 : Shape := ⟨2, ![192, 1]⟩
abbrev S16x640 : Shape := ⟨2, ![16, 640]⟩
abbrev S48x640 : Shape := ⟨2, ![48, 640]⟩
abbrev S1x48x640 : Shape := ⟨3, ![1, 48, 640]⟩
abbrev S1x16x640 : Shape := ⟨3, ![1, 16, 640]⟩
abbrev S1x192x640 : Shape := ⟨3, ![1, 192, 640]⟩
abbrev S128x192 : Shape := ⟨2, ![128, 192]⟩
abbrev S128x640 : Shape := ⟨2, ![128, 640]⟩
abbrev S640 : Shape := ⟨1, ![640]⟩
abbrev S1x640 : Shape := ⟨2, ![1, 640]⟩
abbrev S1x64x128 : Shape := ⟨3, ![1, 64, 128]⟩
abbrev S64x128 : Shape := ⟨2, ![64, 128]⟩
abbrev S64x640 : Shape := ⟨2, ![64, 640]⟩
abbrev S256x192 : Shape := ⟨2, ![256, 192]⟩
abbrev S256x640 : Shape := ⟨2, ![256, 640]⟩
abbrev S1x64x256 : Shape := ⟨3, ![1, 64, 256]⟩
abbrev S64x256 : Shape := ⟨2, ![64, 256]⟩
abbrev S384x192 : Shape := ⟨2, ![384, 192]⟩
abbrev S384x640 : Shape := ⟨2, ![384, 640]⟩
abbrev S1x64x384 : Shape := ⟨3, ![1, 64, 384]⟩
abbrev S64x384 : Shape := ⟨2, ![64, 384]⟩
abbrev S512x192 : Shape := ⟨2, ![512, 192]⟩
abbrev S512x640 : Shape := ⟨2, ![512, 640]⟩
abbrev S1x64x512 : Shape := ⟨3, ![1, 64, 512]⟩
abbrev S64x512 : Shape := ⟨2, ![64, 512]⟩
abbrev S640x640 : Shape := ⟨2, ![640, 640]⟩
abbrev S1x64x640 : Shape := ⟨3, ![1, 64, 640]⟩

abbrev nBuf : Space → Nat
  | .hbm => 21
  | .vmem => 22
  | .smem => 2
  | _ => 0

abbrev bufTy : (tb : Table) → Fin (tcTables nBuf tb) → BufTy
  | .hbm, ⟨0, _⟩ => ⟨S3x12, .f32⟩
  | .hbm, ⟨1, _⟩ => ⟨S3, .i32⟩
  | .hbm, ⟨2, _⟩ => ⟨S3x56x192x640, .bf16⟩
  | .hbm, ⟨3, _⟩ => ⟨S3x56x192x640, .f32⟩
  | .hbm, ⟨4, _⟩ => ⟨S192x4x48, .bf16⟩
  | .hbm, ⟨5, _⟩ => ⟨S192x4x48, .bf16⟩
  | .hbm, ⟨6, _⟩ => ⟨S192x4x48, .bf16⟩
  | .hbm, ⟨7, _⟩ => ⟨S4x48x192, .bf16⟩
  | .hbm, ⟨8, _⟩ => ⟨S192x192, .bf16⟩
  | .hbm, ⟨9, _⟩ => ⟨S192x192, .bf16⟩
  | .hbm, ⟨10, _⟩ => ⟨S192x192, .bf16⟩
  | .hbm, ⟨11, _⟩ => ⟨S192x192, .bf16⟩
  | .hbm, ⟨12, _⟩ => ⟨S192x192, .bf16⟩
  | .hbm, ⟨13, _⟩ => ⟨S192x192, .bf16⟩
  | .hbm, ⟨14, _⟩ => ⟨S576x192, .bf16⟩
  | .hbm, ⟨15, _⟩ => ⟨S192x192, .bf16⟩
  | .hbm, ⟨16, _⟩ => ⟨S3x56x192x640, .fp8e4m3⟩
  | .hbm, ⟨17, _⟩ => ⟨S3x56x192x640, .fp8e4m3⟩
  | .hbm, ⟨18, _⟩ => ⟨S3x56x192x640, .fp8e4m3⟩
  | .hbm, ⟨19, _⟩ => ⟨S3x56x192x640, .bf16⟩
  | .hbm, ⟨20, _⟩ => ⟨S3x56x192x640, .bf16⟩
  | .local _ .vmem, ⟨0, _⟩ => ⟨S1x1x192x640, .bf16⟩
  | .local _ .vmem, ⟨1, _⟩ => ⟨S1x1x192x640, .bf16⟩
  | .local _ .vmem, ⟨2, _⟩ => ⟨S1x1x192x640, .f32⟩
  | .local _ .vmem, ⟨3, _⟩ => ⟨S1x1x192x640, .f32⟩
  | .local _ .vmem, ⟨4, _⟩ => ⟨S576x192, .bf16⟩
  | .local _ .vmem, ⟨5, _⟩ => ⟨S192x192, .bf16⟩
  | .local _ .vmem, ⟨6, _⟩ => ⟨S1x1x192x640, .fp8e4m3⟩
  | .local _ .vmem, ⟨7, _⟩ => ⟨S1x1x192x640, .fp8e4m3⟩
  | .local _ .vmem, ⟨8, _⟩ => ⟨S1x1x192x640, .fp8e4m3⟩
  | .local _ .vmem, ⟨9, _⟩ => ⟨S1x1x192x640, .fp8e4m3⟩
  | .local _ .vmem, ⟨10, _⟩ => ⟨S1x1x192x640, .fp8e4m3⟩
  | .local _ .vmem, ⟨11, _⟩ => ⟨S1x1x192x640, .fp8e4m3⟩
  | .local _ .vmem, ⟨12, _⟩ => ⟨S1x1x192x640, .bf16⟩
  | .local _ .vmem, ⟨13, _⟩ => ⟨S1x1x192x640, .bf16⟩
  | .local _ .vmem, ⟨14, _⟩ => ⟨S1x1x192x640, .bf16⟩
  | .local _ .vmem, ⟨15, _⟩ => ⟨S1x1x192x640, .bf16⟩
  | .local _ .vmem, ⟨16, _⟩ => ⟨S576x192, .bf16⟩
  | .local _ .vmem, ⟨17, _⟩ => ⟨S192x192, .bf16⟩
  | .local _ .vmem, ⟨18, _⟩ => ⟨S640x192, .fp8e4m3⟩
  | .local _ .vmem, ⟨19, _⟩ => ⟨S4x64x640, .bf16⟩
  | .local _ .vmem, ⟨20, _⟩ => ⟨S4x192x640, .fp8e4m3⟩
  | .local _ .vmem, ⟨21, _⟩ => ⟨S192x640, .bf16⟩
  | .local _ .smem, ⟨0, _⟩ => ⟨S3x12, .f32⟩
  | .local _ .smem, ⟨1, _⟩ => ⟨S3, .i32⟩
  | _, _ => ⟨S3x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![3, 56], ![false, false]⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_off2 (i : grid0.Coords) : Fin 2 → Nat :=
  let arg0 : BitVec 32 := BitVec.ofNat 32 (i 0).val
  let v165 : Index := Scalar.indexCast arg0
  let c0_93 : Index := 0#32
  ![v165.toNat, 0]
def k0_off3 (i : grid0.Coords) : Fin 2 → Nat :=
  let arg0 : BitVec 32 := BitVec.ofNat 32 (i 0).val
  let v180 : Index := Scalar.indexCast arg0
  let c1_99 : Index := 1#32
  ![v180.toNat, 1]
def k0_off4 (i : grid0.Coords) : Fin 2 → Nat :=
  let arg0 : BitVec 32 := BitVec.ofNat 32 (i 0).val
  let v195 : Index := Scalar.indexCast arg0
  let c2_105 : Index := 2#32
  ![v195.toNat, 2]
def k0_off5 (i : grid0.Coords) : Fin 2 → Nat :=
  let arg0 : BitVec 32 := BitVec.ofNat 32 (i 0).val
  let v210 : Index := Scalar.indexCast arg0
  let c3_110 : Index := 3#32
  ![v210.toNat, 3]
def k0_off6 (i : grid0.Coords) : Fin 2 → Nat :=
  let arg0 : BitVec 32 := BitVec.ofNat 32 (i 0).val
  let v225 : Index := Scalar.indexCast arg0
  let c4 : Index := 4#32
  ![v225.toNat, 4]
def k0_off7 (i : grid0.Coords) : Fin 2 → Nat :=
  let arg0 : BitVec 32 := BitVec.ofNat 32 (i 0).val
  let v240 : Index := Scalar.indexCast arg0
  let c5 : Index := 5#32
  ![v240.toNat, 5]
def k0_off8 (i : grid0.Coords) : Fin 2 → Nat :=
  let arg0 : BitVec 32 := BitVec.ofNat 32 (i 0).val
  let v255 : Index := Scalar.indexCast arg0
  let c6 : Index := 6#32
  ![v255.toNat, 6]
def k0_off9 (i : grid0.Coords) : Fin 2 → Nat :=
  let arg0 : BitVec 32 := BitVec.ofNat 32 (i 0).val
  let v270 : Index := Scalar.indexCast arg0
  let c7 : Index := 7#32
  ![v270.toNat, 7]
def k0_off10 (i : grid0.Coords) : Fin 2 → Nat :=
  let arg0 : BitVec 32 := BitVec.ofNat 32 (i 0).val
  let v285 : Index := Scalar.indexCast arg0
  let c8 : Index := 8#32
  ![v285.toNat, 8]
def k0_off11 (i : grid0.Coords) : Fin 2 → Nat :=
  let arg0 : BitVec 32 := BitVec.ofNat 32 (i 0).val
  let v300 : Index := Scalar.indexCast arg0
  let c9 : Index := 9#32
  ![v300.toNat, 9]
def k0_off12 (i : grid0.Coords) : Fin 2 → Nat :=
  let arg0 : BitVec 32 := BitVec.ofNat 32 (i 0).val
  let v315 : Index := Scalar.indexCast arg0
  let c10 : Index := 10#32
  ![v315.toNat, 10]
def k0_off13 (i : grid0.Coords) : Fin 2 → Nat :=
  let arg0 : BitVec 32 := BitVec.ofNat 32 (i 0).val
  let v330 : Index := Scalar.indexCast arg0
  let c11 : Index := 11#32
  ![v330.toNat, 11]
def k0_off14 (i : grid0.Coords) : Fin 2 → Nat :=
  let arg0 : BitVec 32 := BitVec.ofNat 32 (i 0).val
  let v165 : Index := Scalar.indexCast arg0
  let c0_93 : Index := 0#32
  ![v165.toNat, 0]
def k0_off15 (i : grid0.Coords) : Fin 2 → Nat :=
  let arg0 : BitVec 32 := BitVec.ofNat 32 (i 0).val
  let v167 : Index := Scalar.indexCast arg0
  let c4 : Index := 4#32
  ![v167.toNat, 4]
def k0_off16 (i : grid0.Coords) : Fin 2 → Nat :=
  let arg0 : BitVec 32 := BitVec.ofNat 32 (i 0).val
  let v196 : Index := Scalar.indexCast arg0
  let c1_109 : Index := 1#32
  ![v196.toNat, 1]
def k0_off17 (i : grid0.Coords) : Fin 2 → Nat :=
  let arg0 : BitVec 32 := BitVec.ofNat 32 (i 0).val
  let v198 : Index := Scalar.indexCast arg0
  let c5 : Index := 5#32
  ![v198.toNat, 5]
def k0_off18 (i : grid0.Coords) : Fin 2 → Nat :=
  let arg0 : BitVec 32 := BitVec.ofNat 32 (i 0).val
  let v227 : Index := Scalar.indexCast arg0
  let c2_125 : Index := 2#32
  ![v227.toNat, 2]
def k0_off19 (i : grid0.Coords) : Fin 2 → Nat :=
  let arg0 : BitVec 32 := BitVec.ofNat 32 (i 0).val
  let v229 : Index := Scalar.indexCast arg0
  let c6 : Index := 6#32
  ![v229.toNat, 6]
def k0_off20 (i : grid0.Coords) : Fin 2 → Nat :=
  let arg0 : BitVec 32 := BitVec.ofNat 32 (i 0).val
  let v258 : Index := Scalar.indexCast arg0
  let c3_140 : Index := 3#32
  ![v258.toNat, 3]
def k0_off21 (i : grid0.Coords) : Fin 2 → Nat :=
  let arg0 : BitVec 32 := BitVec.ofNat 32 (i 0).val
  let v260 : Index := Scalar.indexCast arg0
  let c7 : Index := 7#32
  ![v260.toNat, 7]
def k0_off22 (i : grid0.Coords) : Fin 2 → Nat :=
  let arg0 : BitVec 32 := BitVec.ofNat 32 (i 0).val
  let v165 : Index := Scalar.indexCast arg0
  let c0_93 : Index := 0#32
  ![v165.toNat, 0]
def k0_off23 (i : grid0.Coords) : Fin 2 → Nat :=
  let arg0 : BitVec 32 := BitVec.ofNat 32 (i 0).val
  let v167 : Index := Scalar.indexCast arg0
  let c4 : Index := 4#32
  ![v167.toNat, 4]
def k0_off24 (i : grid0.Coords) : Fin 2 → Nat :=
  let arg0 : BitVec 32 := BitVec.ofNat 32 (i 0).val
  let v196 : Index := Scalar.indexCast arg0
  let c1_109 : Index := 1#32
  ![v196.toNat, 1]
def k0_off25 (i : grid0.Coords) : Fin 2 → Nat :=
  let arg0 : BitVec 32 := BitVec.ofNat 32 (i 0).val
  let v198 : Index := Scalar.indexCast arg0
  let c5 : Index := 5#32
  ![v198.toNat, 5]
def k0_off26 (i : grid0.Coords) : Fin 2 → Nat :=
  let arg0 : BitVec 32 := BitVec.ofNat 32 (i 0).val
  let v227 : Index := Scalar.indexCast arg0
  let c2_125 : Index := 2#32
  ![v227.toNat, 2]
def k0_off27 (i : grid0.Coords) : Fin 2 → Nat :=
  let arg0 : BitVec 32 := BitVec.ofNat 32 (i 0).val
  let v229 : Index := Scalar.indexCast arg0
  let c6 : Index := 6#32
  ![v229.toNat, 6]
def k0_off28 (i : grid0.Coords) : Fin 2 → Nat :=
  let arg0 : BitVec 32 := BitVec.ofNat 32 (i 0).val
  let v258 : Index := Scalar.indexCast arg0
  let c3_140 : Index := 3#32
  ![v258.toNat, 3]
def k0_off29 (i : grid0.Coords) : Fin 2 → Nat :=
  let arg0 : BitVec 32 := BitVec.ofNat 32 (i 0).val
  let v260 : Index := Scalar.indexCast arg0
  let c7 : Index := 7#32
  ![v260.toNat, 7]
def k0_off30 (i : grid0.Coords) : Fin 2 → Nat :=
  let arg0 : BitVec 32 := BitVec.ofNat 32 (i 0).val
  let v165 : Index := Scalar.indexCast arg0
  let c0_93 : Index := 0#32
  ![v165.toNat, 0]
def k0_off31 (i : grid0.Coords) : Fin 2 → Nat :=
  let arg0 : BitVec 32 := BitVec.ofNat 32 (i 0).val
  let v167 : Index := Scalar.indexCast arg0
  let c4 : Index := 4#32
  ![v167.toNat, 4]
def k0_off32 (i : grid0.Coords) : Fin 2 → Nat :=
  let arg0 : BitVec 32 := BitVec.ofNat 32 (i 0).val
  let v196 : Index := Scalar.indexCast arg0
  let c1_109 : Index := 1#32
  ![v196.toNat, 1]
def k0_off33 (i : grid0.Coords) : Fin 2 → Nat :=
  let arg0 : BitVec 32 := BitVec.ofNat 32 (i 0).val
  let v198 : Index := Scalar.indexCast arg0
  let c5 : Index := 5#32
  ![v198.toNat, 5]
def k0_off34 (i : grid0.Coords) : Fin 2 → Nat :=
  let arg0 : BitVec 32 := BitVec.ofNat 32 (i 0).val
  let v227 : Index := Scalar.indexCast arg0
  let c2_125 : Index := 2#32
  ![v227.toNat, 2]
def k0_off35 (i : grid0.Coords) : Fin 2 → Nat :=
  let arg0 : BitVec 32 := BitVec.ofNat 32 (i 0).val
  let v229 : Index := Scalar.indexCast arg0
  let c6 : Index := 6#32
  ![v229.toNat, 6]
def k0_off36 (i : grid0.Coords) : Fin 2 → Nat :=
  let arg0 : BitVec 32 := BitVec.ofNat 32 (i 0).val
  let v258 : Index := Scalar.indexCast arg0
  let c3_140 : Index := 3#32
  ![v258.toNat, 3]
def k0_off37 (i : grid0.Coords) : Fin 2 → Nat :=
  let arg0 : BitVec 32 := BitVec.ofNat 32 (i 0).val
  let v260 : Index := Scalar.indexCast arg0
  let c7 : Index := 7#32
  ![v260.toNat, 7]
def k0_off38 (i : grid0.Coords) : Fin 2 → Nat :=
  let arg0 : BitVec 32 := BitVec.ofNat 32 (i 0).val
  let v165 : Index := Scalar.indexCast arg0
  let c0_93 : Index := 0#32
  ![v165.toNat, 0]
def k0_off39 (i : grid0.Coords) : Fin 2 → Nat :=
  let arg0 : BitVec 32 := BitVec.ofNat 32 (i 0).val
  let v167 : Index := Scalar.indexCast arg0
  let c4 : Index := 4#32
  ![v167.toNat, 4]
def k0_off40 (i : grid0.Coords) : Fin 2 → Nat :=
  let arg0 : BitVec 32 := BitVec.ofNat 32 (i 0).val
  let v196 : Index := Scalar.indexCast arg0
  let c1_109 : Index := 1#32
  ![v196.toNat, 1]
def k0_off41 (i : grid0.Coords) : Fin 2 → Nat :=
  let arg0 : BitVec 32 := BitVec.ofNat 32 (i 0).val
  let v198 : Index := Scalar.indexCast arg0
  let c5 : Index := 5#32
  ![v198.toNat, 5]
def k0_off42 (i : grid0.Coords) : Fin 2 → Nat :=
  let arg0 : BitVec 32 := BitVec.ofNat 32 (i 0).val
  let v227 : Index := Scalar.indexCast arg0
  let c2_125 : Index := 2#32
  ![v227.toNat, 2]
def k0_off43 (i : grid0.Coords) : Fin 2 → Nat :=
  let arg0 : BitVec 32 := BitVec.ofNat 32 (i 0).val
  let v229 : Index := Scalar.indexCast arg0
  let c6 : Index := 6#32
  ![v229.toNat, 6]
def k0_off44 (i : grid0.Coords) : Fin 2 → Nat :=
  let arg0 : BitVec 32 := BitVec.ofNat 32 (i 0).val
  let v258 : Index := Scalar.indexCast arg0
  let c3_140 : Index := 3#32
  ![v258.toNat, 3]
def k0_off45 (i : grid0.Coords) : Fin 2 → Nat :=
  let arg0 : BitVec 32 := BitVec.ofNat 32 (i 0).val
  let v260 : Index := Scalar.indexCast arg0
  let c7 : Index := 7#32
  ![v260.toNat, 7]
def k0_off46 (i : grid0.Coords) : Fin 2 → Nat :=
  let arg0 : BitVec 32 := BitVec.ofNat 32 (i 0).val
  let v165 : Index := Scalar.indexCast arg0
  let c0_93 : Index := 0#32
  ![v165.toNat, 0]
def k0_off47 (i : grid0.Coords) : Fin 2 → Nat :=
  let arg0 : BitVec 32 := BitVec.ofNat 32 (i 0).val
  let v167 : Index := Scalar.indexCast arg0
  let c4 : Index := 4#32
  ![v167.toNat, 4]
def k0_off48 (i : grid0.Coords) : Fin 2 → Nat :=
  let arg0 : BitVec 32 := BitVec.ofNat 32 (i 0).val
  let v196 : Index := Scalar.indexCast arg0
  let c1_109 : Index := 1#32
  ![v196.toNat, 1]
def k0_off49 (i : grid0.Coords) : Fin 2 → Nat :=
  let arg0 : BitVec 32 := BitVec.ofNat 32 (i 0).val
  let v198 : Index := Scalar.indexCast arg0
  let c5 : Index := 5#32
  ![v198.toNat, 5]
def k0_off50 (i : grid0.Coords) : Fin 2 → Nat :=
  let arg0 : BitVec 32 := BitVec.ofNat 32 (i 0).val
  let v227 : Index := Scalar.indexCast arg0
  let c2_125 : Index := 2#32
  ![v227.toNat, 2]
def k0_off51 (i : grid0.Coords) : Fin 2 → Nat :=
  let arg0 : BitVec 32 := BitVec.ofNat 32 (i 0).val
  let v229 : Index := Scalar.indexCast arg0
  let c6 : Index := 6#32
  ![v229.toNat, 6]
def k0_off52 (i : grid0.Coords) : Fin 2 → Nat :=
  let arg0 : BitVec 32 := BitVec.ofNat 32 (i 0).val
  let v258 : Index := Scalar.indexCast arg0
  let c3_140 : Index := 3#32
  ![v258.toNat, 3]
def k0_off53 (i : grid0.Coords) : Fin 2 → Nat :=
  let arg0 : BitVec 32 := BitVec.ofNat 32 (i 0).val
  let v260 : Index := Scalar.indexCast arg0
  let c7 : Index := 7#32
  ![v260.toNat, 7]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S3x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S3 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x192x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x192x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S576x192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S192x192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x192x640 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x192x640 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x192x640 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x192x640 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x192x640 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "score_scale_log2e" => some (((Real.sqrt 48)⁻¹ * (Real.log 2)⁻¹ : ℝ) : EReal)
  | _ => none
-- ==== RefIdeal.lean ====
abbrev S3x12 : Shape := ⟨2, ![3, 12]⟩
abbrev S3 : Shape := ⟨1, ![3]⟩
abbrev S3x56x192x640 : Shape := ⟨4, ![3, 56, 192, 640]⟩
abbrev S192x4x48 : Shape := ⟨3, ![192, 4, 48]⟩
abbrev S4x48x192 : Shape := ⟨3, ![4, 48, 192]⟩
abbrev S3x4 : Shape := ⟨2, ![3, 4]⟩
abbrev S4x48x3x56x640 : Shape := ⟨5, ![4, 48, 3, 56, 640]⟩
abbrev S3x56x4x48x640 : Shape := ⟨5, ![3, 56, 4, 48, 640]⟩
abbrev S_ : Shape := ⟨0, ![]⟩
abbrev S3x1x4x1x1 : Shape := ⟨5, ![3, 1, 4, 1, 1]⟩
abbrev S3x56x4x640x640 : Shape := ⟨5, ![3, 56, 4, 640, 640]⟩
abbrev S640 : Shape := ⟨1, ![640]⟩
abbrev S1x640 : Shape := ⟨2, ![1, 640]⟩
abbrev S3x1 : Shape := ⟨2, ![3, 1]⟩
abbrev S3x640 : Shape := ⟨2, ![3, 640]⟩
abbrev S3x1x1x1x640 : Shape := ⟨5, ![3, 1, 1, 1, 640]⟩
abbrev S3x56x4x640 : Shape := ⟨4, ![3, 56, 4, 640]⟩
abbrev S3x56x4x640x1 : Shape := ⟨5, ![3, 56, 4, 640, 1]⟩
abbrev S192x3x56x640 : Shape := ⟨4, ![192, 3, 56, 640]⟩

abbrev nBuf : Space → Nat
  | .hbm => 93
  | .vmem => 9
  | .smem => 0
  | _ => 0

abbrev bufTy : (tb : Table) → Fin (tcTables nBuf tb) → BufTy
  | .hbm, ⟨0, _⟩ => ⟨S3x12, .f32⟩
  | .hbm, ⟨1, _⟩ => ⟨S3, .i32⟩
  | .hbm, ⟨2, _⟩ => ⟨S3x56x192x640, .bf16⟩
  | .hbm, ⟨3, _⟩ => ⟨S3x56x192x640, .f32⟩
  | .hbm, ⟨4, _⟩ => ⟨S192x4x48, .bf16⟩
  | .hbm, ⟨5, _⟩ => ⟨S192x4x48, .bf16⟩
  | .hbm, ⟨6, _⟩ => ⟨S192x4x48, .bf16⟩
  | .hbm, ⟨7, _⟩ => ⟨S4x48x192, .bf16⟩
  | .hbm, ⟨8, _⟩ => ⟨S3x4, .f32⟩
  | .hbm, ⟨9, _⟩ => ⟨S3x4, .f32⟩
  | .hbm, ⟨10, _⟩ => ⟨S3x4, .f32⟩
  | .hbm, ⟨11, _⟩ => ⟨S4x48x3x56x640, .f32⟩
  | .hbm, ⟨12, _⟩ => ⟨S3x56x4x48x640, .f32⟩
  | .hbm, ⟨13, _⟩ => ⟨S_, .f32⟩
  | .hbm, ⟨14, _⟩ => ⟨S3x4, .f32⟩
  | .hbm, ⟨15, _⟩ => ⟨S3x4, .f32⟩
  | .hbm, ⟨16, _⟩ => ⟨S3x1x4x1x1, .f32⟩
  | .hbm, ⟨17, _⟩ => ⟨S3x56x4x48x640, .f32⟩
  | .hbm, ⟨18, _⟩ => ⟨S3x56x4x48x640, .f32⟩
  | .hbm, ⟨19, _⟩ => ⟨S3x56x192x640, .f32⟩
  | .hbm, ⟨20, _⟩ => ⟨S4x48x3x56x640, .f32⟩
  | .hbm, ⟨21, _⟩ => ⟨S3x56x4x48x640, .f32⟩
  | .hbm, ⟨22, _⟩ => ⟨S_, .f32⟩
  | .hbm, ⟨23, _⟩ => ⟨S3x4, .f32⟩
  | .hbm, ⟨24, _⟩ => ⟨S3x4, .f32⟩
  | .hbm, ⟨25, _⟩ => ⟨S3x1x4x1x1, .f32⟩
  | .hbm, ⟨26, _⟩ => ⟨S3x56x4x48x640, .f32⟩
  | .hbm, ⟨27, _⟩ => ⟨S3x56x4x48x640, .f32⟩
  | .hbm, ⟨28, _⟩ => ⟨S3x56x192x640, .f32⟩
  | .hbm, ⟨29, _⟩ => ⟨S4x48x3x56x640, .f32⟩
  | .hbm, ⟨30, _⟩ => ⟨S3x56x4x48x640, .f32⟩
  | .hbm, ⟨31, _⟩ => ⟨S_, .f32⟩
  | .hbm, ⟨32, _⟩ => ⟨S3x4, .f32⟩
  | .hbm, ⟨33, _⟩ => ⟨S3x4, .f32⟩
  | .hbm, ⟨34, _⟩ => ⟨S3x1x4x1x1, .f32⟩
  | .hbm, ⟨35, _⟩ => ⟨S3x56x4x48x640, .f32⟩
  | .hbm, ⟨36, _⟩ => ⟨S3x56x4x48x640, .f32⟩
  | .hbm, ⟨37, _⟩ => ⟨S3x56x192x640, .f32⟩
  | .hbm, ⟨38, _⟩ => ⟨S3x56x192x640, .fp8e4m3⟩
  | .hbm, ⟨39, _⟩ => ⟨S3x56x192x640, .fp8e4m3⟩
  | .hbm, ⟨40, _⟩ => ⟨S3x56x192x640, .fp8e4m3⟩
  | .hbm, ⟨41, _⟩ => ⟨S3x56x192x640, .bf16⟩
  | .hbm, ⟨42, _⟩ => ⟨S3x56x192x640, .bf16⟩
  | .hbm, ⟨43, _⟩ => ⟨S3x56x192x640, .bf16⟩
  | .hbm, ⟨44, _⟩ => ⟨S3x56x4x48x640, .bf16⟩
  | .hbm, ⟨45, _⟩ => ⟨S3x56x4x48x640, .bf16⟩
  | .hbm, ⟨46, _⟩ => ⟨S3x56x4x48x640, .bf16⟩
  | .hbm, ⟨47, _⟩ => ⟨S3x56x4x640x640, .f32⟩
  | .hbm, ⟨48, _⟩ => ⟨S3x4, .f32⟩
  | .hbm, ⟨49, _⟩ => ⟨S_, .f32⟩
  | .hbm, ⟨50, _⟩ => ⟨S_, .f32⟩
  | .hbm, ⟨51, _⟩ => ⟨S3x4, .f32⟩
  | .hbm, ⟨52, _⟩ => ⟨S3x4, .f32⟩
  | .hbm, ⟨53, _⟩ => ⟨S3x1x4x1x1, .f32⟩
  | .hbm, ⟨54, _⟩ => ⟨S3x56x4x640x640, .f32⟩
  | .hbm, ⟨55, _⟩ => ⟨S3x56x4x640x640, .f32⟩
  | .hbm, ⟨56, _⟩ => ⟨S640, .i32⟩
  | .hbm, ⟨57, _⟩ => ⟨S1x640, .i32⟩
  | .hbm, ⟨58, _⟩ => ⟨S3x1, .i32⟩
  | .hbm, ⟨59, _⟩ => ⟨S3x640, .i32⟩
  | .hbm, ⟨60, _⟩ => ⟨S3x640, .i32⟩
  | .hbm, ⟨61, _⟩ => ⟨S3x640, .i1⟩
  | .hbm, ⟨62, _⟩ => ⟨S3x1x1x1x640, .i1⟩
  | .hbm, ⟨63, _⟩ => ⟨S_, .f32⟩
  | .hbm, ⟨64, _⟩ => ⟨S_, .f32⟩
  | .hbm, ⟨65, _⟩ => ⟨S3x56x4x640x640, .i1⟩
  | .hbm, ⟨66, _⟩ => ⟨S3x56x4x640x640, .f32⟩
  | .hbm, ⟨67, _⟩ => ⟨S3x56x4x640x640, .f32⟩
  | .hbm, ⟨68, _⟩ => ⟨S_, .f32⟩
  | .hbm, ⟨69, _⟩ => ⟨S3x56x4x640, .f32⟩
  | .hbm, ⟨70, _⟩ => ⟨S_, .f32⟩
  | .hbm, ⟨71, _⟩ => ⟨S3x56x4x640, .f32⟩
  | .hbm, ⟨72, _⟩ => ⟨S3x56x4x640, .f32⟩
  | .hbm, ⟨73, _⟩ => ⟨S3x56x4x640x1, .f32⟩
  | .hbm, ⟨74, _⟩ => ⟨S3x56x4x640x640, .f32⟩
  | .hbm, ⟨75, _⟩ => ⟨S3x56x4x640x640, .f32⟩
  | .hbm, ⟨76, _⟩ => ⟨S3x56x4x640x640, .f32⟩
  | .hbm, ⟨77, _⟩ => ⟨S_, .f32⟩
  | .hbm, ⟨78, _⟩ => ⟨S3x56x4x640, .f32⟩
  | .hbm, ⟨79, _⟩ => ⟨S3x56x4x640x1, .f32⟩
  | .hbm, ⟨80, _⟩ => ⟨S3x56x4x640x640, .f32⟩
  | .hbm, ⟨81, _⟩ => ⟨S3x56x4x640x640, .f32⟩
  | .hbm, ⟨82, _⟩ => ⟨S3x56x4x640x640, .bf16⟩
  | .hbm, ⟨83, _⟩ => ⟨S3x56x4x48x640, .f32⟩
  | .hbm, ⟨84, _⟩ => ⟨S3x1x4x1x1, .f32⟩
  | .hbm, ⟨85, _⟩ => ⟨S3x56x4x48x640, .f32⟩
  | .hbm, ⟨86, _⟩ => ⟨S3x56x4x48x640, .f32⟩
  | .hbm, ⟨87, _⟩ => ⟨S3x56x4x48x640, .bf16⟩
  | .hbm, ⟨88, _⟩ => ⟨S192x3x56x640, .f32⟩
  | .hbm, ⟨89, _⟩ => ⟨S3x56x192x640, .f32⟩
  | .hbm, ⟨90, _⟩ => ⟨S3x56x192x640, .f32⟩
  | .hbm, ⟨91, _⟩ => ⟨S3x56x192x640, .bf16⟩
  | .hbm, ⟨92, _⟩ => ⟨S3x56x192x640, .bf16⟩
  | .local _ .vmem, ⟨0, _⟩ => ⟨S3x56x192x640, .f32⟩
  | .local _ .vmem, ⟨1, _⟩ => ⟨S3x56x192x640, .f32⟩
  | .local _ .vmem, ⟨2, _⟩ => ⟨S3x56x192x640, .f32⟩
  | .local _ .vmem, ⟨3, _⟩ => ⟨S3x56x192x640, .fp8e4m3⟩
  | .local _ .vmem, ⟨4, _⟩ => ⟨S3x56x192x640, .fp8e4m3⟩
  | .local _ .vmem, ⟨5, _⟩ => ⟨S3x56x192x640, .fp8e4m3⟩
  | .local _ .vmem, ⟨6, _⟩ => ⟨S3x56x192x640, .bf16⟩
  | .local _ .vmem, ⟨7, _⟩ => ⟨S3x56x192x640, .bf16⟩
  | .local _ .vmem, ⟨8, _⟩ => ⟨S3x56x192x640, .bf16⟩
  | _, _ => ⟨S3x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev main_v27_2 : Ref sig .tc := ⟨.hbm, 40, rfl⟩
abbrev main_v27_3 : Ref sig .tc := ⟨.hbm, 41, rfl⟩
abbrev main_v27_4 : Ref sig .tc := ⟨.hbm, 42, rfl⟩
abbrev main_v27_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_2 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_3 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v46 : Ref sig .tc := ⟨.hbm, 67, rfl⟩
abbrev main_cst_4 : Ref sig .tc := ⟨.hbm, 68, rfl⟩
abbrev main_v47 : Ref sig .tc := ⟨.hbm, 69, rfl⟩
abbrev main_cst_5 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_6 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S3x56x192x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x56x192x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x56x192x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x56x192x640 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x56x192x640 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x56x192x640 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x56x192x640 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x56x192x640 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x56x192x640 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.BMemrefs.lean ====
/- The buffers the kernel body is called with at a grid point. -/
module

public import proofs.«01_k».proof.Proof.Gen.Kernel.Frame
public import proofs.«01_k».proof.Proof.Gen.Kernel.Points
public import proofs.«01_k».proof.Proof.Gen.Kernel.Launch
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The staging buffer of window 0 at point `t`. -/
abbrev ms0 (t : Fin cfg0.N) : Memref sig .tc .smem S3x12 .f32 := win0_0.stage (cfg0.slots t 0)
/-- It is a whole buffer. -/
theorem hs0 (t : Fin cfg0.N) : (ms0 t).IsWhole := hstage0_0 ((cfg0.slots t 0).cast nbuf0_0)
/-- The staging buffer of window 1 at point `t`. -/
abbrev ms1 (t : Fin cfg0.N) : Memref sig .tc .smem S3 .i32 := win0_1.stage (cfg0.slots t 1)
/-- It is a whole buffer. -/
theorem hs1 (t : Fin cfg0.N) : (ms1 t).IsWhole := hstage0_1 ((cfg0.slots t 1).cast nbuf0_1)
/-- The staging buffer of window 2 at point `t`. -/
abbrev ms2 (t : Fin cfg0.N) : Memref sig .tc .vmem S1x1x192x640 .bf16 := win0_2.stage (cfg0.slots t 2)
/-- It is a whole buffer. -/
theorem hs2 (t : Fin cfg0.N) : (ms2 t).IsWhole := hstage0_2 ((cfg0.slots t 2).cast nbuf0_2)
/-- The staging buffer of window 3 at point `t`. -/
abbrev ms3 (t : Fin cfg0.N) : Memref sig .tc .vmem S1x1x192x640 .f32 := win0_3.stage (cfg0.slots t 3)
/-- It is a whole buffer. -/
theorem hs3 (t : Fin cfg0.N) : (ms3 t).IsWhole := hstage0_3 ((cfg0.slots t 3).cast nbuf0_3)
/-- The staging buffer of window 4 at point `t`. -/
abbrev ms4 (t : Fin cfg0.N) : Memref sig .tc .vmem S576x192 .bf16 := win0_4.stage (cfg0.slots t 4)
/-- It is a whole buffer. -/
theorem hs4 (t : Fin cfg0.N) : (ms4 t).IsWhole := hstage0_4 ((cfg0.slots t 4).cast nbuf0_4)
/-- The staging buffer of window 5 at point `t`. -/
abbrev ms5 (t : Fin cfg0.N) : Memref sig .tc .vmem S192x192 .bf16 := win0_5.stage (cfg0.slots t 5)
/-- It is a whole buffer. -/
theorem hs5 (t : Fin cfg0.N) : (ms5 t).IsWhole := hstage0_5 ((cfg0.slots t 5).cast nbuf0_5)
/-- The staging buffer of window 6 at point `t`. -/
abbrev ms6 (t : Fin cfg0.N) : Memref sig .tc .vmem S1x1x192x640 .fp8e4m3 := win0_6.stage (cfg0.slots t 6)
/-- It is a whole buffer. -/
theorem hs6 (t : Fin cfg0.N) : (ms6 t).IsWhole := hstage0_6 ((cfg0.slots t 6).cast nbuf0_6)
/-- The staging buffer of window 7 at point `t`. -/
abbrev ms7 (t : Fin cfg0.N) : Memref sig .tc .vmem S1x1x192x640 .fp8e4m3 := win0_7.stage (cfg0.slots t 7)
/-- It is a whole buffer. -/
theorem hs7 (t : Fin cfg0.N) : (ms7 t).IsWhole := hstage0_7 ((cfg0.slots t 7).cast nbuf0_7)
/-- The staging buffer of window 8 at point `t`. -/
abbrev ms8 (t : Fin cfg0.N) : Memref sig .tc .vmem S1x1x192x640 .fp8e4m3 := win0_8.stage (cfg0.slots t 8)
/-- It is a whole buffer. -/
theorem hs8 (t : Fin cfg0.N) : (ms8 t).IsWhole := hstage0_8 ((cfg0.slots t 8).cast nbuf0_8)
/-- The staging buffer of window 9 at point `t`. -/
abbrev ms9 (t : Fin cfg0.N) : Memref sig .tc .vmem S1x1x192x640 .bf16 := win0_9.stage (cfg0.slots t 9)
/-- It is a whole buffer. -/
theorem hs9 (t : Fin cfg0.N) : (ms9 t).IsWhole := hstage0_9 ((cfg0.slots t 9).cast nbuf0_9)
/-- The staging buffer of window 10 at point `t`. -/
abbrev ms10 (t : Fin cfg0.N) : Memref sig .tc .vmem S1x1x192x640 .bf16 := win0_10.stage (cfg0.slots t 10)
/-- It is a whole buffer. -/
theorem hs10 (t : Fin cfg0.N) : (ms10 t).IsWhole := hstage0_10 ((cfg0.slots t 10).cast nbuf0_10)
/-- Scratch buffer 0. -/
abbrev sc0 : Memref sig .tc .vmem S576x192 .bf16 := Memref.whole cc0_scratch0
/-- Scratch buffer 1. -/
abbrev sc1 : Memref sig .tc .vmem S192x192 .bf16 := Memref.whole cc0_scratch1
/-- Scratch buffer 2. -/
abbrev sc2 : Memref sig .tc .vmem S640x192 .fp8e4m3 := Memref.whole cc0_scratch2
/-- Scratch buffer 3. -/
abbrev sc3 : Memref sig .tc .vmem S4x64x640 .bf16 := Memref.whole cc0_scratch3
/-- Scratch buffer 4. -/
abbrev sc4 : Memref sig .tc .vmem S4x192x640 .fp8e4m3 := Memref.whole cc0_scratch4
/-- Scratch buffer 5. -/
abbrev sc5 : Memref sig .tc .vmem S192x640 .bf16 := Memref.whole cc0_scratch5

/-- The invariant of a frame: every scratch buffer at something, and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

end Cert.Kernel.Body

end
-- ==== Proof.BStart.lean ====
/- The first part of the kernel body: the weights scaled at a table's first feature, the projection and its codes. -/
module

public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (c : Dev nD) (i : grid0.Coords)
  (arg2 : Memref sig .tc .smem S3x12 .f32) (harg2 : arg2.IsWhole)
  (arg3 : Memref sig .tc .smem S3 .i32) (harg3 : arg3.IsWhole)
  (arg4 : Memref sig .tc .vmem S1x1x192x640 .bf16) (harg4 : arg4.IsWhole)
  (arg5 : Memref sig .tc .vmem S1x1x192x640 .f32) (harg5 : arg5.IsWhole)
  (arg6 : Memref sig .tc .vmem S576x192 .bf16) (harg6 : arg6.IsWhole)
  (arg7 : Memref sig .tc .vmem S192x192 .bf16) (harg7 : arg7.IsWhole)
  (arg8 : Memref sig .tc .vmem S1x1x192x640 .fp8e4m3) (harg8 : arg8.IsWhole)
  (arg9 : Memref sig .tc .vmem S1x1x192x640 .fp8e4m3) (harg9 : arg9.IsWhole)
  (arg10 : Memref sig .tc .vmem S1x1x192x640 .fp8e4m3) (harg10 : arg10.IsWhole)
  (arg11 : Memref sig .tc .vmem S1x1x192x640 .bf16) (harg11 : arg11.IsWhole)
  (arg12 : Memref sig .tc .vmem S1x1x192x640 .bf16) (harg12 : arg12.IsWhole)
  (arg13 : Memref sig .tc .vmem S576x192 .bf16) (harg13 : arg13.IsWhole)
  (arg14 : Memref sig .tc .vmem S192x192 .bf16) (harg14 : arg14.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16) (harg18 : arg18.IsWhole)

set_option maxHeartbeats 4000000 in
/-- The first part of the body at the first feature of a table. -/
noncomputable def startA (hc : k0_cond1 i = 1#1) (x0 : Vec F S3x12 .f32) (x1 : Vec F S3 .i32) (xh : Vec F S1x1x192x640 .bf16) (xw : Vec F S576x192 .bf16) (xo : Vec F S192x192 .bf16) :
    Σ' (L13 : (List (View.Piece (Elt F) S576x192 .bf16))) (L14 : (List (View.Piece (Elt F) S192x192 .bf16))) (L8 : (List (View.Piece (Elt F) S1x1x192x640 .fp8e4m3))) (L9 : (List (View.Piece (Elt F) S1x1x192x640 .fp8e4m3))) (L10 : (List (View.Piece (Elt F) S1x1x192x640 .fp8e4m3))), { r : (Σ' (_ : BitVec 32) (_ : Elt F .i32) (_ : FVec F S192x640 .fp8e4m3) (_ : FVec F S192x640 .fp8e4m3) (_ : FVec F S192x640 .fp8e4m3) (_ : IVec S192x640 1), FVec F S192x1 .fp8e4m3) //
      ∀ (E : Set ℕ) (K : (Σ' (_ : BitVec 32) (_ : Elt F .i32) (_ : FVec F S192x640 .fp8e4m3) (_ : FVec F S192x640 .fp8e4m3) (_ : FVec F S192x640 .fp8e4m3) (_ : IVec S192x640 1), FVec F S192x1 .fp8e4m3) → sProp 𝕄),
        iprop(owns (c : Thread nD τ) arg2 fullShare x0 ∗ owns (c : Thread nD τ) arg3 fullShare x1 ∗ owns (c : Thread nD τ) arg4 fullShare xh ∗ owns (c : Thread nD τ) arg6 fullShare xw ∗ owns (c : Thread nD τ) arg7 fullShare xo ∗ (∃ d, owns (c : Thread nD τ) arg8 fullShare d) ∗ (∃ d, owns (c : Thread nD τ) arg9 fullShare d) ∗ (∃ d, owns (c : Thread nD τ) arg10 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare xh ∗ owns (c : Thread nD τ) arg6 fullShare xw ∗ owns (c : Thread nD τ) arg7 fullShare xo ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14)) -∗ K r))
          ⊢ wp frame (wpE (defs₀ (F := F)) Variants.none c none) E (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, fun E K => ?run⟩
  case run =>
    simp only [k0_part21_eq_skeleton]; unfold k0_part21_skel
    unfold owns
    iintro ⟨⟨%f2, %hf2, H2⟩, ⟨%f3, %hf3, H3⟩, ⟨%f4, %hf4, H4⟩, ⟨%f6, %hf6, H6⟩, ⟨%f7, %hf7, H7⟩, ⟨%d8, %f8, -, H8⟩, ⟨%d9, %f9, -, H9⟩, ⟨%d10, %f10, -, H10⟩, ⟨%d13, %f13, -, H13⟩, ⟨%d14, %f14, -, H14⟩, Hk⟩
    obtain rfl := harg2.eq_unread hf2; obtain rfl := harg3.eq_unread hf3; obtain rfl := harg4.eq_unread hf4; obtain rfl := harg6.eq_unread hf6; obtain rfl := harg7.eq_unread hf7
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    isplitl [H10]; · iexists _; iexact H10
    isplitl [H13]; · iexists _; iexact H13
    iexists _; iexact H14

set_option maxHeartbeats 4000000 in
/-- The first part of the body at any other feature of a table. -/
noncomputable def startB (hc : ¬ k0_cond1 i = 1#1) (x1 : Vec F S3 .i32) (xh : Vec F S1x1x192x640 .bf16) (ws : Vec F S576x192 .bf16) :
    Σ' (L8 : (List (View.Piece (Elt F) S1x1x192x640 .fp8e4m3))) (L9 : (List (View.Piece (Elt F) S1x1x192x640 .fp8e4m3))) (L10 : (List (View.Piece (Elt F) S1x1x192x640 .fp8e4m3))), { r : (Σ' (_ : BitVec 32) (_ : Elt F .i32) (_ : FVec F S192x640 .fp8e4m3) (_ : FVec F S192x640 .fp8e4m3) (_ : FVec F S192x640 .fp8e4m3) (_ : IVec S192x640 1), FVec F S192x1 .fp8e4m3) //
      ∀ (E : Set ℕ) (K : (Σ' (_ : BitVec 32) (_ : Elt F .i32) (_ : FVec F S192x640 .fp8e4m3) (_ : FVec F S192x640 .fp8e4m3) (_ : FVec F S192x640 .fp8e4m3) (_ : IVec S192x640 1), FVec F S192x1 .fp8e4m3) → sProp 𝕄),
        iprop(owns (c : Thread nD τ) arg3 fullShare x1 ∗ owns (c : Thread nD τ) arg4 fullShare xh ∗ (∃ d, owns (c : Thread nD τ) arg8 fullShare d) ∗ (∃ d, owns (c : Thread nD τ) arg9 fullShare d) ∗ (∃ d, owns (c : Thread nD τ) arg10 fullShare d) ∗ owns (c : Thread nD τ) arg13 fullShare ws
            ∗ (iprop(owns (c : Thread nD τ) arg3 fullShare x1 ∗ owns (c : Thread nD τ) arg4 fullShare xh ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ owns (c : Thread nD τ) arg13 fullShare ws) -∗ K r))
          ⊢ wp frame (wpE (defs₀ (F := F)) Variants.none c none) E (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [k0_part21_eq_skeleton]; unfold k0_part21_skel
    unfold owns
    iintro ⟨⟨%f3, %hf3, H3⟩, ⟨%f4, %hf4, H4⟩, ⟨%d8, %f8, -, H8⟩, ⟨%d9, %f9, -, H9⟩, ⟨%d10, %f10, -, H10⟩, ⟨%f13, %hf13, H13⟩, Hk⟩
    obtain rfl := harg3.eq_unread hf3; obtain rfl := harg4.eq_unread hf4; obtain rfl := harg13.eq_unread hf13
    sl_exec (disch := first | sl_exact hc)
    sl_step
    iapply Hk
    isplitl [H3]
    · iexists _; isplitr; · ipureintro; exact harg3.read_unread _
      iexact H3
    isplitl [H4]
    · iexists _; isplitr; · ipureintro; exact harg4.read_unread _
      iexact H4
    isplitl [H8]; · iexists _; iexact H8
    isplitl [H9]; · iexists _; iexact H9
    isplitl [H10]; · iexists _; iexact H10
    iexists _; isplitr; · ipureintro; exact harg13.read_unread _
    iexact H13

end Cert.Kernel.Body

end
-- ==== Proof.BMid.lean ====
/- The middle of the kernel body: keys, values and masked queries put in their scratch buffers. -/
module

public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (c : Dev nD) (i : grid0.Coords)
  (arg2 : Memref sig .tc .smem S3x12 .f32) (harg2 : arg2.IsWhole)
  (arg3 : Memref sig .tc .smem S3 .i32) (harg3 : arg3.IsWhole)
  (arg4 : Memref sig .tc .vmem S1x1x192x640 .bf16) (harg4 : arg4.IsWhole)
  (arg5 : Memref sig .tc .vmem S1x1x192x640 .f32) (harg5 : arg5.IsWhole)
  (arg6 : Memref sig .tc .vmem S576x192 .bf16) (harg6 : arg6.IsWhole)
  (arg7 : Memref sig .tc .vmem S192x192 .bf16) (harg7 : arg7.IsWhole)
  (arg8 : Memref sig .tc .vmem S1x1x192x640 .fp8e4m3) (harg8 : arg8.IsWhole)
  (arg9 : Memref sig .tc .vmem S1x1x192x640 .fp8e4m3) (harg9 : arg9.IsWhole)
  (arg10 : Memref sig .tc .vmem S1x1x192x640 .fp8e4m3) (harg10 : arg10.IsWhole)
  (arg11 : Memref sig .tc .vmem S1x1x192x640 .bf16) (harg11 : arg11.IsWhole)
  (arg12 : Memref sig .tc .vmem S1x1x192x640 .bf16) (harg12 : arg12.IsWhole)
  (arg13 : Memref sig .tc .vmem S576x192 .bf16) (harg13 : arg13.IsWhole)
  (arg14 : Memref sig .tc .vmem S192x192 .bf16) (harg14 : arg14.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16) (harg18 : arg18.IsWhole)

set_option maxHeartbeats 4000000 in
/-- The middle of the body: the keys transposed, the values with their row of ones, the queries masked head by head. -/
noncomputable def midRun (v1 : Elt F .i32) (v14 v15 v16 : FVec F S192x640 .fp8e4m3) (v28 : IVec S192x640 1) (v30 : FVec F S192x1 .fp8e4m3) :
    Σ' (L15 : (List (View.Piece (Elt F) S640x192 .fp8e4m3))) (L16 : (List (View.Piece (Elt F) S4x64x640 .bf16))) (L17 : (List (View.Piece (Elt F) S4x192x640 .fp8e4m3))), { r : (Σ' (_ : BitVec 32), BitVec 1) //
      ∀ (E : Set ℕ) (K : (Σ' (_ : BitVec 32), BitVec 1) → sProp 𝕄),
        iprop((∃ d, owns (c : Thread nD τ) arg15 fullShare d) ∗ (∃ d, owns (c : Thread nD τ) arg16 fullShare d) ∗ (∃ d, owns (c : Thread nD τ) arg17 fullShare d)
            ∗ (iprop((∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K r))
          ⊢ wp frame (wpE (defs₀ (F := F)) Variants.none c none) E (k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v14 v15 v16 v28 v30) (fun a =>
              wp frame (wpE (defs₀ (F := F)) Variants.none c none) E (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v14 a.1 a.2.1 a.2.2.1 a.2.2.2) (fun b =>
              wp frame (wpE (defs₀ (F := F)) Variants.none c none) E (k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v14 a.2.1 a.2.2.1 b) K)) } := by
  refine ⟨?_, ?_, ?_, ?_, fun E K => ?run⟩
  case run =>
    simp only [k0_part22_eq_skeleton, k0_part23_eq_skeleton, k0_part24_eq_skeleton]
    unfold owns
    iintro ⟨⟨%d15, %f15, -, H15⟩, ⟨%d16, %f16, -, H16⟩, ⟨%d17, %f17, -, H17⟩, Hk⟩
    unfold k0_part22_skel
    sl_exec
    try sl_step
    iapply Hk
    isplitl [H15]; · iexists _; iexact H15
    isplitl [H16]; · iexists _; iexact H16
    iexists _; iexact H17

end Cert.Kernel.Body

end
-- ==== Proof.BAttend0.lean ====
/- The last part of the body when no block count from one to five is met (a number of training rows out of range): no head is attended. -/
module

public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (c : Dev nD) (i : grid0.Coords)
  (arg2 : Memref sig .tc .smem S3x12 .f32) (harg2 : arg2.IsWhole)
  (arg3 : Memref sig .tc .smem S3 .i32) (harg3 : arg3.IsWhole)
  (arg4 : Memref sig .tc .vmem S1x1x192x640 .bf16) (harg4 : arg4.IsWhole)
  (arg5 : Memref sig .tc .vmem S1x1x192x640 .f32) (harg5 : arg5.IsWhole)
  (arg6 : Memref sig .tc .vmem S576x192 .bf16) (harg6 : arg6.IsWhole)
  (arg7 : Memref sig .tc .vmem S192x192 .bf16) (harg7 : arg7.IsWhole)
  (arg8 : Memref sig .tc .vmem S1x1x192x640 .fp8e4m3) (harg8 : arg8.IsWhole)
  (arg9 : Memref sig .tc .vmem S1x1x192x640 .fp8e4m3) (harg9 : arg9.IsWhole)
  (arg10 : Memref sig .tc .vmem S1x1x192x640 .fp8e4m3) (harg10 : arg10.IsWhole)
  (arg11 : Memref sig .tc .vmem S1x1x192x640 .bf16) (harg11 : arg11.IsWhole)
  (arg12 : Memref sig .tc .vmem S1x1x192x640 .bf16) (harg12 : arg12.IsWhole)
  (arg13 : Memref sig .tc .vmem S576x192 .bf16) (harg13 : arg13.IsWhole)
  (arg14 : Memref sig .tc .vmem S192x192 .bf16) (harg14 : arg14.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16) (harg18 : arg18.IsWhole)

set_option maxHeartbeats 4000000 in
/-- The last part of the body when no block count from one to five is met (a number of training rows out of range): no head is attended. -/
noncomputable def attendNone (a0 w : BitVec 32) (p : BitVec 1) (hp : p = Scalar.cmpi .eq w 1#32) (hw1 : ¬ w = 1#32) (hw2 : ¬ w = 2#32) (hw3 : ¬ w = 3#32) (hw4 : ¬ w = 4#32) (hw5 : ¬ w = 5#32)
    (xx : Vec F S1x1x192x640 .f32) (wos : Vec F S192x192 .bf16) (o : Vec F S192x640 .bf16) :
    Σ' (L11 : (List (View.Piece (Elt F) S1x1x192x640 .bf16))), { r : FVec F S1x1x192x640 .bf16 //
      ∀ (E : Set ℕ) (K : FVec F S1x1x192x640 .bf16 → sProp 𝕄),
        iprop(owns (c : Thread nD τ) arg5 fullShare xx ∗ (∃ d, owns (c : Thread nD τ) arg11 fullShare d) ∗ (∃ d, owns (c : Thread nD τ) arg12 fullShare d) ∗ owns (c : Thread nD τ) arg14 fullShare wos ∗ owns (c : Thread nD τ) arg18 fullShare o
            ∗ (iprop(owns (c : Thread nD τ) arg5 fullShare xx ∗ (∃ f, arg11.view.loc (c : Thread nD τ) ↦[arg11.view.set]{fullShare} arg11.view.writes (Elt F) f L11) ∗ (∃ d, owns (c : Thread nD τ) arg12 fullShare d) ∗ owns (c : Thread nD τ) arg14 fullShare wos ∗ owns (c : Thread nD τ) arg18 fullShare o) -∗ K r))
          ⊢ wp frame (wpE (defs₀ (F := F)) Variants.none c none) E (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p) K } := by
  refine ⟨?_, ?_, fun E K => ?run⟩
  case run =>
    subst hp
    simp only [k0_part25_eq_skeleton]; unfold k0_part25_skel
    unfold owns
    have hk1 : ¬ Scalar.cmpi .ne (Scalar.extui (Scalar.cmpi .eq w 1#32) : BitVec 32) 0#32 = 1#1 := by
      have e : Scalar.cmpi .eq w 1#32 = 0#1 := by rw [WordCmp.scalar_cmpi_eq, WordCmp.cmpi_eq_eq, decide_eq_false hw1]; rfl
      rw [e]; decide
    have hk2 : ¬ Scalar.cmpi .ne (Scalar.extui (Scalar.cmpi .eq w 2#32) : BitVec 32) 0#32 = 1#1 := by
      have e : Scalar.cmpi .eq w 2#32 = 0#1 := by rw [WordCmp.scalar_cmpi_eq, WordCmp.cmpi_eq_eq, decide_eq_false hw2]; rfl
      rw [e]; decide
    have hk3 : ¬ Scalar.cmpi .ne (Scalar.extui (Scalar.cmpi .eq w 3#32) : BitVec 32) 0#32 = 1#1 := by
      have e : Scalar.cmpi .eq w 3#32 = 0#1 := by rw [WordCmp.scalar_cmpi_eq, WordCmp.cmpi_eq_eq, decide_eq_false hw3]; rfl
      rw [e]; decide
    have hk4 : ¬ Scalar.cmpi .ne (Scalar.extui (Scalar.cmpi .eq w 4#32) : BitVec 32) 0#32 = 1#1 := by
      have e : Scalar.cmpi .eq w 4#32 = 0#1 := by rw [WordCmp.scalar_cmpi_eq, WordCmp.cmpi_eq_eq, decide_eq_false hw4]; rfl
      rw [e]; decide
    have hk5 : ¬ Scalar.cmpi .ne (Scalar.extui (Scalar.cmpi .eq w 5#32) : BitVec 32) 0#32 = 1#1 := by
      have e : Scalar.cmpi .eq w 5#32 = 0#1 := by rw [WordCmp.scalar_cmpi_eq, WordCmp.cmpi_eq_eq, decide_eq_false hw5]; rfl
      rw [e]; decide
    iintro ⟨⟨%f5, %hf5, H5⟩, ⟨%d11, %f11, -, H11⟩, ⟨%d12, %f12, -, H12⟩, ⟨%f14, %hf14, H14⟩, ⟨%f18, %hf18, H18⟩, Hk⟩
    obtain rfl := harg5.eq_unread hf5; obtain rfl := harg14.eq_unread hf14; obtain rfl := harg18.eq_unread hf18
    sl_exec (disch := first | sl_exact hk1 | sl_exact hk2 | sl_exact hk3 | sl_exact hk4 | sl_exact hk5)
    sl_step
    iapply Hk
    isplitl [H5]
    · iexists _; isplitr; · ipureintro; exact harg5.read_unread _
      iexact H5
    isplitl [H11]; · iexists _; iexact H11
    isplitl [H12]
    · iexists _, _; isplitr; swap; · iexact H12
      ipureintro; rfl
    isplitl [H14]
    · iexists _; isplitr; · ipureintro; exact harg14.read_unread _
      iexact H14
    iexists _; isplitr; · ipureintro; exact harg18.read_unread _
    iexact H18

end Cert.Kernel.Body

end
-- ==== Proof.BAttend1.lean ====
/- The last part of the body when the table's rows fill 1 block of 128: the heads attended over 128 keys, the output projection and the residual. -/
module

public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (c : Dev nD) (i : grid0.Coords)
  (arg2 : Memref sig .tc .smem S3x12 .f32) (harg2 : arg2.IsWhole)
  (arg3 : Memref sig .tc .smem S3 .i32) (harg3 : arg3.IsWhole)
  (arg4 : Memref sig .tc .vmem S1x1x192x640 .bf16) (harg4 : arg4.IsWhole)
  (arg5 : Memref sig .tc .vmem S1x1x192x640 .f32) (harg5 : arg5.IsWhole)
  (arg6 : Memref sig .tc .vmem S576x192 .bf16) (harg6 : arg6.IsWhole)
  (arg7 : Memref sig .tc .vmem S192x192 .bf16) (harg7 : arg7.IsWhole)
  (arg8 : Memref sig .tc .vmem S1x1x192x640 .fp8e4m3) (harg8 : arg8.IsWhole)
  (arg9 : Memref sig .tc .vmem S1x1x192x640 .fp8e4m3) (harg9 : arg9.IsWhole)
  (arg10 : Memref sig .tc .vmem S1x1x192x640 .fp8e4m3) (harg10 : arg10.IsWhole)
  (arg11 : Memref sig .tc .vmem S1x1x192x640 .bf16) (harg11 : arg11.IsWhole)
  (arg12 : Memref sig .tc .vmem S1x1x192x640 .bf16) (harg12 : arg12.IsWhole)
  (arg13 : Memref sig .tc .vmem S576x192 .bf16) (harg13 : arg13.IsWhole)
  (arg14 : Memref sig .tc .vmem S192x192 .bf16) (harg14 : arg14.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16) (harg18 : arg18.IsWhole)

set_option maxHeartbeats 4000000 in
/-- The last part of the body when the table's rows fill 1 block of 128: the heads attended over 128 keys, the output projection and the residual. -/
noncomputable def attend1 (a0 w : BitVec 32) (p : BitVec 1) (hw : w = 1#32) (hp : p = Scalar.cmpi .eq w 1#32) (x0 : Vec F S3x12 .f32) (xx : Vec F S1x1x192x640 .f32) (wos : Vec F S192x192 .bf16) (kt : Vec F S640x192 .fp8e4m3) (vx : Vec F S4x64x640 .bf16) (qm : Vec F S4x192x640 .fp8e4m3) :
    Σ' (L11 : (List (View.Piece (Elt F) S1x1x192x640 .bf16))) (L18 : (List (View.Piece (Elt F) S192x640 .bf16))), { r : FVec F S1x1x192x640 .bf16 //
      ∀ (E : Set ℕ) (K : FVec F S1x1x192x640 .bf16 → sProp 𝕄),
        iprop(owns (c : Thread nD τ) arg2 fullShare x0 ∗ owns (c : Thread nD τ) arg5 fullShare xx ∗ (∃ d, owns (c : Thread nD τ) arg11 fullShare d) ∗ (∃ d, owns (c : Thread nD τ) arg12 fullShare d) ∗ owns (c : Thread nD τ) arg14 fullShare wos ∗ owns (c : Thread nD τ) arg15 fullShare kt ∗ owns (c : Thread nD τ) arg16 fullShare vx ∗ owns (c : Thread nD τ) arg17 fullShare qm ∗ (∃ d, owns (c : Thread nD τ) arg18 fullShare d)
            ∗ (iprop(owns (c : Thread nD τ) arg2 fullShare x0 ∗ owns (c : Thread nD τ) arg5 fullShare xx ∗ (∃ f, arg11.view.loc (c : Thread nD τ) ↦[arg11.view.set]{fullShare} arg11.view.writes (Elt F) f L11) ∗ (∃ d, owns (c : Thread nD τ) arg12 fullShare d) ∗ owns (c : Thread nD τ) arg14 fullShare wos ∗ owns (c : Thread nD τ) arg15 fullShare kt ∗ owns (c : Thread nD τ) arg16 fullShare vx ∗ owns (c : Thread nD τ) arg17 fullShare qm ∗ (∃ f, arg18.view.loc (c : Thread nD τ) ↦[arg18.view.set]{fullShare} arg18.view.writes (Elt F) f L18)) -∗ K r))
          ⊢ wp frame (wpE (defs₀ (F := F)) Variants.none c none) E (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p) K } := by
  refine ⟨?_, ?_, ?_, fun E K => ?run⟩
  case run =>
    subst hp; subst hw
    simp only [k0_part25_eq_skeleton]; unfold k0_part25_skel
    unfold owns
    iintro ⟨⟨%f2, %hf2, H2⟩, ⟨%f5, %hf5, H5⟩, ⟨%d11, %f11, -, H11⟩, ⟨%d12, %f12, -, H12⟩, ⟨%f14, %hf14, H14⟩, ⟨%f15, %hf15, H15⟩, ⟨%f16, %hf16, H16⟩, ⟨%f17, %hf17, H17⟩, ⟨%d18, %f18, -, H18⟩, Hk⟩
    obtain rfl := harg2.eq_unread hf2; obtain rfl := harg5.eq_unread hf5; obtain rfl := harg14.eq_unread hf14; obtain rfl := harg15.eq_unread hf15; obtain rfl := harg16.eq_unread hf16; obtain rfl := harg17.eq_unread hf17
    sl_exec (disch := decide)
    sl_step
    iapply Hk
    isplitl [H2]
    · iexists _; isplitr; · ipureintro; exact harg2.read_unread _
      iexact H2
    isplitl [H5]
    · iexists _; isplitr; · ipureintro; exact harg5.read_unread _
      iexact H5
    isplitl [H11]; · iexists _; iexact H11
    isplitl [H12]
    · iexists _, _; isplitr; swap; · iexact H12
      ipureintro; rfl
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    iexists _; iexact H18

end Cert.Kernel.Body

end
-- ==== Proof.BAttend2.lean ====
/- The last part of the body when the table's rows fill 2 blocks of 128: the heads attended over 256 keys, the output projection and the residual. -/
module

public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (c : Dev nD) (i : grid0.Coords)
  (arg2 : Memref sig .tc .smem S3x12 .f32) (harg2 : arg2.IsWhole)
  (arg3 : Memref sig .tc .smem S3 .i32) (harg3 : arg3.IsWhole)
  (arg4 : Memref sig .tc .vmem S1x1x192x640 .bf16) (harg4 : arg4.IsWhole)
  (arg5 : Memref sig .tc .vmem S1x1x192x640 .f32) (harg5 : arg5.IsWhole)
  (arg6 : Memref sig .tc .vmem S576x192 .bf16) (harg6 : arg6.IsWhole)
  (arg7 : Memref sig .tc .vmem S192x192 .bf16) (harg7 : arg7.IsWhole)
  (arg8 : Memref sig .tc .vmem S1x1x192x640 .fp8e4m3) (harg8 : arg8.IsWhole)
  (arg9 : Memref sig .tc .vmem S1x1x192x640 .fp8e4m3) (harg9 : arg9.IsWhole)
  (arg10 : Memref sig .tc .vmem S1x1x192x640 .fp8e4m3) (harg10 : arg10.IsWhole)
  (arg11 : Memref sig .tc .vmem S1x1x192x640 .bf16) (harg11 : arg11.IsWhole)
  (arg12 : Memref sig .tc .vmem S1x1x192x640 .bf16) (harg12 : arg12.IsWhole)
  (arg13 : Memref sig .tc .vmem S576x192 .bf16) (harg13 : arg13.IsWhole)
  (arg14 : Memref sig .tc .vmem S192x192 .bf16) (harg14 : arg14.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16) (harg18 : arg18.IsWhole)

set_option maxHeartbeats 4000000 in
/-- The last part of the body when the table's rows fill 2 blocks of 128: the heads attended over 256 keys, the output projection and the residual. -/
noncomputable def attend2 (a0 w : BitVec 32) (p : BitVec 1) (hw : w = 2#32) (hp : p = Scalar.cmpi .eq w 1#32) (x0 : Vec F S3x12 .f32) (xx : Vec F S1x1x192x640 .f32) (wos : Vec F S192x192 .bf16) (kt : Vec F S640x192 .fp8e4m3) (vx : Vec F S4x64x640 .bf16) (qm : Vec F S4x192x640 .fp8e4m3) :
    Σ' (L11 : (List (View.Piece (Elt F) S1x1x192x640 .bf16))) (L18 : (List (View.Piece (Elt F) S192x640 .bf16))), { r : FVec F S1x1x192x640 .bf16 //
      ∀ (E : Set ℕ) (K : FVec F S1x1x192x640 .bf16 → sProp 𝕄),
        iprop(owns (c : Thread nD τ) arg2 fullShare x0 ∗ owns (c : Thread nD τ) arg5 fullShare xx ∗ (∃ d, owns (c : Thread nD τ) arg11 fullShare d) ∗ (∃ d, owns (c : Thread nD τ) arg12 fullShare d) ∗ owns (c : Thread nD τ) arg14 fullShare wos ∗ owns (c : Thread nD τ) arg15 fullShare kt ∗ owns (c : Thread nD τ) arg16 fullShare vx ∗ owns (c : Thread nD τ) arg17 fullShare qm ∗ (∃ d, owns (c : Thread nD τ) arg18 fullShare d)
            ∗ (iprop(owns (c : Thread nD τ) arg2 fullShare x0 ∗ owns (c : Thread nD τ) arg5 fullShare xx ∗ (∃ f, arg11.view.loc (c : Thread nD τ) ↦[arg11.view.set]{fullShare} arg11.view.writes (Elt F) f L11) ∗ (∃ d, owns (c : Thread nD τ) arg12 fullShare d) ∗ owns (c : Thread nD τ) arg14 fullShare wos ∗ owns (c : Thread nD τ) arg15 fullShare kt ∗ owns (c : Thread nD τ) arg16 fullShare vx ∗ owns (c : Thread nD τ) arg17 fullShare qm ∗ (∃ f, arg18.view.loc (c : Thread nD τ) ↦[arg18.view.set]{fullShare} arg18.view.writes (Elt F) f L18)) -∗ K r))
          ⊢ wp frame (wpE (defs₀ (F := F)) Variants.none c none) E (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p) K } := by
  refine ⟨?_, ?_, ?_, fun E K => ?run⟩
  case run =>
    subst hp; subst hw
    simp only [k0_part25_eq_skeleton]; unfold k0_part25_skel
    unfold owns
    iintro ⟨⟨%f2, %hf2, H2⟩, ⟨%f5, %hf5, H5⟩, ⟨%d11, %f11, -, H11⟩, ⟨%d12, %f12, -, H12⟩, ⟨%f14, %hf14, H14⟩, ⟨%f15, %hf15, H15⟩, ⟨%f16, %hf16, H16⟩, ⟨%f17, %hf17, H17⟩, ⟨%d18, %f18, -, H18⟩, Hk⟩
    obtain rfl := harg2.eq_unread hf2; obtain rfl := harg5.eq_unread hf5; obtain rfl := harg14.eq_unread hf14; obtain rfl := harg15.eq_unread hf15; obtain rfl := harg16.eq_unread hf16; obtain rfl := harg17.eq_unread hf17
    sl_exec (disch := decide)
    sl_step
    iapply Hk
    isplitl [H2]
    · iexists _; isplitr; · ipureintro; exact harg2.read_unread _
      iexact H2
    isplitl [H5]
    · iexists _; isplitr; · ipureintro; exact harg5.read_unread _
      iexact H5
    isplitl [H11]; · iexists _; iexact H11
    isplitl [H12]
    · iexists _, _; isplitr; swap; · iexact H12
      ipureintro; rfl
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    iexists _; iexact H18

end Cert.Kernel.Body

end
-- ==== Proof.BAttend3.lean ====
/- The last part of the body when the table's rows fill 3 blocks of 128: the heads attended over 384 keys, the output projection and the residual. -/
module

public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (c : Dev nD) (i : grid0.Coords)
  (arg2 : Memref sig .tc .smem S3x12 .f32) (harg2 : arg2.IsWhole)
  (arg3 : Memref sig .tc .smem S3 .i32) (harg3 : arg3.IsWhole)
  (arg4 : Memref sig .tc .vmem S1x1x192x640 .bf16) (harg4 : arg4.IsWhole)
  (arg5 : Memref sig .tc .vmem S1x1x192x640 .f32) (harg5 : arg5.IsWhole)
  (arg6 : Memref sig .tc .vmem S576x192 .bf16) (harg6 : arg6.IsWhole)
  (arg7 : Memref sig .tc .vmem S192x192 .bf16) (harg7 : arg7.IsWhole)
  (arg8 : Memref sig .tc .vmem S1x1x192x640 .fp8e4m3) (harg8 : arg8.IsWhole)
  (arg9 : Memref sig .tc .vmem S1x1x192x640 .fp8e4m3) (harg9 : arg9.IsWhole)
  (arg10 : Memref sig .tc .vmem S1x1x192x640 .fp8e4m3) (harg10 : arg10.IsWhole)
  (arg11 : Memref sig .tc .vmem S1x1x192x640 .bf16) (harg11 : arg11.IsWhole)
  (arg12 : Memref sig .tc .vmem S1x1x192x640 .bf16) (harg12 : arg12.IsWhole)
  (arg13 : Memref sig .tc .vmem S576x192 .bf16) (harg13 : arg13.IsWhole)
  (arg14 : Memref sig .tc .vmem S192x192 .bf16) (harg14 : arg14.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16) (harg18 : arg18.IsWhole)

set_option maxHeartbeats 4000000 in
/-- The last part of the body when the table's rows fill 3 blocks of 128: the heads attended over 384 keys, the output projection and the residual. -/
noncomputable def attend3 (a0 w : BitVec 32) (p : BitVec 1) (hw : w = 3#32) (hp : p = Scalar.cmpi .eq w 1#32) (x0 : Vec F S3x12 .f32) (xx : Vec F S1x1x192x640 .f32) (wos : Vec F S192x192 .bf16) (kt : Vec F S640x192 .fp8e4m3) (vx : Vec F S4x64x640 .bf16) (qm : Vec F S4x192x640 .fp8e4m3) :
    Σ' (L11 : (List (View.Piece (Elt F) S1x1x192x640 .bf16))) (L18 : (List (View.Piece (Elt F) S192x640 .bf16))), { r : FVec F S1x1x192x640 .bf16 //
      ∀ (E : Set ℕ) (K : FVec F S1x1x192x640 .bf16 → sProp 𝕄),
        iprop(owns (c : Thread nD τ) arg2 fullShare x0 ∗ owns (c : Thread nD τ) arg5 fullShare xx ∗ (∃ d, owns (c : Thread nD τ) arg11 fullShare d) ∗ (∃ d, owns (c : Thread nD τ) arg12 fullShare d) ∗ owns (c : Thread nD τ) arg14 fullShare wos ∗ owns (c : Thread nD τ) arg15 fullShare kt ∗ owns (c : Thread nD τ) arg16 fullShare vx ∗ owns (c : Thread nD τ) arg17 fullShare qm ∗ (∃ d, owns (c : Thread nD τ) arg18 fullShare d)
            ∗ (iprop(owns (c : Thread nD τ) arg2 fullShare x0 ∗ owns (c : Thread nD τ) arg5 fullShare xx ∗ (∃ f, arg11.view.loc (c : Thread nD τ) ↦[arg11.view.set]{fullShare} arg11.view.writes (Elt F) f L11) ∗ (∃ d, owns (c : Thread nD τ) arg12 fullShare d) ∗ owns (c : Thread nD τ) arg14 fullShare wos ∗ owns (c : Thread nD τ) arg15 fullShare kt ∗ owns (c : Thread nD τ) arg16 fullShare vx ∗ owns (c : Thread nD τ) arg17 fullShare qm ∗ (∃ f, arg18.view.loc (c : Thread nD τ) ↦[arg18.view.set]{fullShare} arg18.view.writes (Elt F) f L18)) -∗ K r))
          ⊢ wp frame (wpE (defs₀ (F := F)) Variants.none c none) E (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p) K } := by
  refine ⟨?_, ?_, ?_, fun E K => ?run⟩
  case run =>
    subst hp; subst hw
    simp only [k0_part25_eq_skeleton]; unfold k0_part25_skel
    unfold owns
    iintro ⟨⟨%f2, %hf2, H2⟩, ⟨%f5, %hf5, H5⟩, ⟨%d11, %f11, -, H11⟩, ⟨%d12, %f12, -, H12⟩, ⟨%f14, %hf14, H14⟩, ⟨%f15, %hf15, H15⟩, ⟨%f16, %hf16, H16⟩, ⟨%f17, %hf17, H17⟩, ⟨%d18, %f18, -, H18⟩, Hk⟩
    obtain rfl := harg2.eq_unread hf2; obtain rfl := harg5.eq_unread hf5; obtain rfl := harg14.eq_unread hf14; obtain rfl := harg15.eq_unread hf15; obtain rfl := harg16.eq_unread hf16; obtain rfl := harg17.eq_unread hf17
    sl_exec (disch := decide)
    sl_step
    iapply Hk
    isplitl [H2]
    · iexists _; isplitr; · ipureintro; exact harg2.read_unread _
      iexact H2
    isplitl [H5]
    · iexists _; isplitr; · ipureintro; exact harg5.read_unread _
      iexact H5
    isplitl [H11]; · iexists _; iexact H11
    isplitl [H12]
    · iexists _, _; isplitr; swap; · iexact H12
      ipureintro; rfl
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    iexists _; iexact H18

end Cert.Kernel.Body

end
-- ==== Proof.BAttend4.lean ====
/- The last part of the body when the table's rows fill 4 blocks of 128: the heads attended over 512 keys, the output projection and the residual. -/
module

public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (c : Dev nD) (i : grid0.Coords)
  (arg2 : Memref sig .tc .smem S3x12 .f32) (harg2 : arg2.IsWhole)
  (arg3 : Memref sig .tc .smem S3 .i32) (harg3 : arg3.IsWhole)
  (arg4 : Memref sig .tc .vmem S1x1x192x640 .bf16) (harg4 : arg4.IsWhole)
  (arg5 : Memref sig .tc .vmem S1x1x192x640 .f32) (harg5 : arg5.IsWhole)
  (arg6 : Memref sig .tc .vmem S576x192 .bf16) (harg6 : arg6.IsWhole)
  (arg7 : Memref sig .tc .vmem S192x192 .bf16) (harg7 : arg7.IsWhole)
  (arg8 : Memref sig .tc .vmem S1x1x192x640 .fp8e4m3) (harg8 : arg8.IsWhole)
  (arg9 : Memref sig .tc .vmem S1x1x192x640 .fp8e4m3) (harg9 : arg9.IsWhole)
  (arg10 : Memref sig .tc .vmem S1x1x192x640 .fp8e4m3) (harg10 : arg10.IsWhole)
  (arg11 : Memref sig .tc .vmem S1x1x192x640 .bf16) (harg11 : arg11.IsWhole)
  (arg12 : Memref sig .tc .vmem S1x1x192x640 .bf16) (harg12 : arg12.IsWhole)
  (arg13 : Memref sig .tc .vmem S576x192 .bf16) (harg13 : arg13.IsWhole)
  (arg14 : Memref sig .tc .vmem S192x192 .bf16) (harg14 : arg14.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16) (harg18 : arg18.IsWhole)

set_option maxHeartbeats 4000000 in
/-- The last part of the body when the table's rows fill 4 blocks of 128: the heads attended over 512 keys, the output projection and the residual. -/
noncomputable def attend4 (a0 w : BitVec 32) (p : BitVec 1) (hw : w = 4#32) (hp : p = Scalar.cmpi .eq w 1#32) (x0 : Vec F S3x12 .f32) (xx : Vec F S1x1x192x640 .f32) (wos : Vec F S192x192 .bf16) (kt : Vec F S640x192 .fp8e4m3) (vx : Vec F S4x64x640 .bf16) (qm : Vec F S4x192x640 .fp8e4m3) :
    Σ' (L11 : (List (View.Piece (Elt F) S1x1x192x640 .bf16))) (L18 : (List (View.Piece (Elt F) S192x640 .bf16))), { r : FVec F S1x1x192x640 .bf16 //
      ∀ (E : Set ℕ) (K : FVec F S1x1x192x640 .bf16 → sProp 𝕄),
        iprop(owns (c : Thread nD τ) arg2 fullShare x0 ∗ owns (c : Thread nD τ) arg5 fullShare xx ∗ (∃ d, owns (c : Thread nD τ) arg11 fullShare d) ∗ (∃ d, owns (c : Thread nD τ) arg12 fullShare d) ∗ owns (c : Thread nD τ) arg14 fullShare wos ∗ owns (c : Thread nD τ) arg15 fullShare kt ∗ owns (c : Thread nD τ) arg16 fullShare vx ∗ owns (c : Thread nD τ) arg17 fullShare qm ∗ (∃ d, owns (c : Thread nD τ) arg18 fullShare d)
            ∗ (iprop(owns (c : Thread nD τ) arg2 fullShare x0 ∗ owns (c : Thread nD τ) arg5 fullShare xx ∗ (∃ f, arg11.view.loc (c : Thread nD τ) ↦[arg11.view.set]{fullShare} arg11.view.writes (Elt F) f L11) ∗ (∃ d, owns (c : Thread nD τ) arg12 fullShare d) ∗ owns (c : Thread nD τ) arg14 fullShare wos ∗ owns (c : Thread nD τ) arg15 fullShare kt ∗ owns (c : Thread nD τ) arg16 fullShare vx ∗ owns (c : Thread nD τ) arg17 fullShare qm ∗ (∃ f, arg18.view.loc (c : Thread nD τ) ↦[arg18.view.set]{fullShare} arg18.view.writes (Elt F) f L18)) -∗ K r))
          ⊢ wp frame (wpE (defs₀ (F := F)) Variants.none c none) E (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p) K } := by
  refine ⟨?_, ?_, ?_, fun E K => ?run⟩
  case run =>
    subst hp; subst hw
    simp only [k0_part25_eq_skeleton]; unfold k0_part25_skel
    unfold owns
    iintro ⟨⟨%f2, %hf2, H2⟩, ⟨%f5, %hf5, H5⟩, ⟨%d11, %f11, -, H11⟩, ⟨%d12, %f12, -, H12⟩, ⟨%f14, %hf14, H14⟩, ⟨%f15, %hf15, H15⟩, ⟨%f16, %hf16, H16⟩, ⟨%f17, %hf17, H17⟩, ⟨%d18, %f18, -, H18⟩, Hk⟩
    obtain rfl := harg2.eq_unread hf2; obtain rfl := harg5.eq_unread hf5; obtain rfl := harg14.eq_unread hf14; obtain rfl := harg15.eq_unread hf15; obtain rfl := harg16.eq_unread hf16; obtain rfl := harg17.eq_unread hf17
    sl_exec (disch := decide)
    sl_step
    iapply Hk
    isplitl [H2]
    · iexists _; isplitr; · ipureintro; exact harg2.read_unread _
      iexact H2
    isplitl [H5]
    · iexists _; isplitr; · ipureintro; exact harg5.read_unread _
      iexact H5
    isplitl [H11]; · iexists _; iexact H11
    isplitl [H12]
    · iexists _, _; isplitr; swap; · iexact H12
      ipureintro; rfl
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    iexists _; iexact H18

end Cert.Kernel.Body

end
-- ==== Proof.BAttend5.lean ====
/- The last part of the body when the table's rows fill 5 blocks of 128: the heads attended over 640 keys, the output projection and the residual. -/
module

public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (c : Dev nD) (i : grid0.Coords)
  (arg2 : Memref sig .tc .smem S3x12 .f32) (harg2 : arg2.IsWhole)
  (arg3 : Memref sig .tc .smem S3 .i32) (harg3 : arg3.IsWhole)
  (arg4 : Memref sig .tc .vmem S1x1x192x640 .bf16) (harg4 : arg4.IsWhole)
  (arg5 : Memref sig .tc .vmem S1x1x192x640 .f32) (harg5 : arg5.IsWhole)
  (arg6 : Memref sig .tc .vmem S576x192 .bf16) (harg6 : arg6.IsWhole)
  (arg7 : Memref sig .tc .vmem S192x192 .bf16) (harg7 : arg7.IsWhole)
  (arg8 : Memref sig .tc .vmem S1x1x192x640 .fp8e4m3) (harg8 : arg8.IsWhole)
  (arg9 : Memref sig .tc .vmem S1x1x192x640 .fp8e4m3) (harg9 : arg9.IsWhole)
  (arg10 : Memref sig .tc .vmem S1x1x192x640 .fp8e4m3) (harg10 : arg10.IsWhole)
  (arg11 : Memref sig .tc .vmem S1x1x192x640 .bf16) (harg11 : arg11.IsWhole)
  (arg12 : Memref sig .tc .vmem S1x1x192x640 .bf16) (harg12 : arg12.IsWhole)
  (arg13 : Memref sig .tc .vmem S576x192 .bf16) (harg13 : arg13.IsWhole)
  (arg14 : Memref sig .tc .vmem S192x192 .bf16) (harg14 : arg14.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16) (harg18 : arg18.IsWhole)

set_option maxHeartbeats 4000000 in
/-- The last part of the body when the table's rows fill 5 blocks of 128: the heads attended over 640 keys, the output projection and the residual. -/
noncomputable def attend5 (a0 w : BitVec 32) (p : BitVec 1) (hw : w = 5#32) (hp : p = Scalar.cmpi .eq w 1#32) (x0 : Vec F S3x12 .f32) (xx : Vec F S1x1x192x640 .f32) (wos : Vec F S192x192 .bf16) (kt : Vec F S640x192 .fp8e4m3) (vx : Vec F S4x64x640 .bf16) (qm : Vec F S4x192x640 .fp8e4m3) :
    Σ' (L11 : (List (View.Piece (Elt F) S1x1x192x640 .bf16))) (L18 : (List (View.Piece (Elt F) S192x640 .bf16))), { r : FVec F S1x1x192x640 .bf16 //
      ∀ (E : Set ℕ) (K : FVec F S1x1x192x640 .bf16 → sProp 𝕄),
        iprop(owns (c : Thread nD τ) arg2 fullShare x0 ∗ owns (c : Thread nD τ) arg5 fullShare xx ∗ (∃ d, owns (c : Thread nD τ) arg11 fullShare d) ∗ (∃ d, owns (c : Thread nD τ) arg12 fullShare d) ∗ owns (c : Thread nD τ) arg14 fullShare wos ∗ owns (c : Thread nD τ) arg15 fullShare kt ∗ owns (c : Thread nD τ) arg16 fullShare vx ∗ owns (c : Thread nD τ) arg17 fullShare qm ∗ (∃ d, owns (c : Thread nD τ) arg18 fullShare d)
            ∗ (iprop(owns (c : Thread nD τ) arg2 fullShare x0 ∗ owns (c : Thread nD τ) arg5 fullShare xx ∗ (∃ f, arg11.view.loc (c : Thread nD τ) ↦[arg11.view.set]{fullShare} arg11.view.writes (Elt F) f L11) ∗ (∃ d, owns (c : Thread nD τ) arg12 fullShare d) ∗ owns (c : Thread nD τ) arg14 fullShare wos ∗ owns (c : Thread nD τ) arg15 fullShare kt ∗ owns (c : Thread nD τ) arg16 fullShare vx ∗ owns (c : Thread nD τ) arg17 fullShare qm ∗ (∃ f, arg18.view.loc (c : Thread nD τ) ↦[arg18.view.set]{fullShare} arg18.view.writes (Elt F) f L18)) -∗ K r))
          ⊢ wp frame (wpE (defs₀ (F := F)) Variants.none c none) E (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p) K } := by
  refine ⟨?_, ?_, ?_, fun E K => ?run⟩
  case run =>
    subst hp; subst hw
    simp only [k0_part25_eq_skeleton]; unfold k0_part25_skel
    unfold owns
    iintro ⟨⟨%f2, %hf2, H2⟩, ⟨%f5, %hf5, H5⟩, ⟨%d11, %f11, -, H11⟩, ⟨%d12, %f12, -, H12⟩, ⟨%f14, %hf14, H14⟩, ⟨%f15, %hf15, H15⟩, ⟨%f16, %hf16, H16⟩, ⟨%f17, %hf17, H17⟩, ⟨%d18, %f18, -, H18⟩, Hk⟩
    obtain rfl := harg2.eq_unread hf2; obtain rfl := harg5.eq_unread hf5; obtain rfl := harg14.eq_unread hf14; obtain rfl := harg15.eq_unread hf15; obtain rfl := harg16.eq_unread hf16; obtain rfl := harg17.eq_unread hf17
    sl_exec (disch := decide)
    sl_step
    iapply Hk
    isplitl [H2]
    · iexists _; isplitr; · ipureintro; exact harg2.read_unread _
      iexact H2
    isplitl [H5]
    · iexists _; isplitr; · ipureintro; exact harg5.read_unread _
      iexact H5
    isplitl [H11]; · iexists _; iexact H11
    isplitl [H12]
    · iexists _, _; isplitr; swap; · iexact H12
      ipureintro; rfl
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    iexists _; iexact H18

end Cert.Kernel.Body

end
-- ==== Proof.BBody.lean ====
/- The kernel body as a whole, its results forgotten: it runs from any contents of its outputs and scratch buffers. -/
module

public import proofs.«01_k».proof.Proof.Gen.Kernel.Skeleton
public import proofs.«01_k».proof.Proof.BStart
public import proofs.«01_k».proof.Proof.BMid
public import proofs.«01_k».proof.Proof.BAttend0
public import proofs.«01_k».proof.Proof.BAttend1
public import proofs.«01_k».proof.Proof.BAttend2
public import proofs.«01_k».proof.Proof.BAttend3
public import proofs.«01_k».proof.Proof.BAttend4
public import proofs.«01_k».proof.Proof.BAttend5
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (c : Dev nD) (i : grid0.Coords)
  (arg2 : Memref sig .tc .smem S3x12 .f32) (harg2 : arg2.IsWhole)
  (arg3 : Memref sig .tc .smem S3 .i32) (harg3 : arg3.IsWhole)
  (arg4 : Memref sig .tc .vmem S1x1x192x640 .bf16) (harg4 : arg4.IsWhole)
  (arg5 : Memref sig .tc .vmem S1x1x192x640 .f32) (harg5 : arg5.IsWhole)
  (arg6 : Memref sig .tc .vmem S576x192 .bf16) (harg6 : arg6.IsWhole)
  (arg7 : Memref sig .tc .vmem S192x192 .bf16) (harg7 : arg7.IsWhole)
  (arg8 : Memref sig .tc .vmem S1x1x192x640 .fp8e4m3) (harg8 : arg8.IsWhole)
  (arg9 : Memref sig .tc .vmem S1x1x192x640 .fp8e4m3) (harg9 : arg9.IsWhole)
  (arg10 : Memref sig .tc .vmem S1x1x192x640 .fp8e4m3) (harg10 : arg10.IsWhole)
  (arg11 : Memref sig .tc .vmem S1x1x192x640 .bf16) (harg11 : arg11.IsWhole)
  (arg12 : Memref sig .tc .vmem S1x1x192x640 .bf16) (harg12 : arg12.IsWhole)
  (arg13 : Memref sig .tc .vmem S576x192 .bf16) (harg13 : arg13.IsWhole)
  (arg14 : Memref sig .tc .vmem S192x192 .bf16) (harg14 : arg14.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16) (harg18 : arg18.IsWhole)

/-- The body is its five outer parts and the last store, one after another. -/
theorem rows_eq : cc0_rows (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 >>= fun a =>
    k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a.2.1 a.2.2.1 a.2.2.2.1 a.2.2.2.2.1 a.2.2.2.2.2.1 a.2.2.2.2.2.2 >>= fun b =>
    k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a.2.2.1 b.1 b.2.1 b.2.2.1 b.2.2.2 >>= fun d =>
    k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a.2.1 a.2.2.1 b.2.1 b.2.2.1 d >>= fun e =>
    k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a.1 e.1 e.2 >>= fun v => Prog.lift (.store arg12 (Rect.unit (s := S1x1x192x640) ![0, 0, 0, 0] S1x1x192x640.size inb_S1x1x192x640_S1x1x192x640_0_0_0_0) v Finset.univ (View.stores_vmem h_S1x1x192x640 (harg12.storeExact_slice rfl _ packedbf16_S1x1x192x640_S1x1x192x640_0_0_0_0) (fun _ => rfl)) (.inl rfl)) >>= fun _ => pure ⟨⟩) := rfl

set_option maxHeartbeats 4000000 in
/-- The last part of the body and its last store, whatever the block count, the results forgotten. -/
theorem lastForget (a0 w : BitVec 32) (p : BitVec 1) (hp : p = Scalar.cmpi .eq w 1#32) (x0 : Vec F S3x12 .f32) (xx : Vec F S1x1x192x640 .f32) (wos : Vec F S192x192 .bf16)
    (E : Set ℕ) (K : PUnit → sProp 𝕄) :
    iprop(owns (c : Thread nD τ) arg2 fullShare x0 ∗ owns (c : Thread nD τ) arg5 fullShare xx ∗ (∃ d, owns (c : Thread nD τ) arg11 fullShare d) ∗ (∃ d, owns (c : Thread nD τ) arg12 fullShare d) ∗ owns (c : Thread nD τ) arg14 fullShare wos ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (iprop(owns (c : Thread nD τ) arg2 fullShare x0 ∗ owns (c : Thread nD τ) arg5 fullShare xx ∗ (∃ d, owns (c : Thread nD τ) arg11 fullShare d) ∗ (∃ d, owns (c : Thread nD τ) arg12 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) E (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p) (fun v => wp frame (wpE (defs₀ (F := F)) Variants.none c none) E (Prog.lift (.store arg12 (Rect.unit (s := S1x1x192x640) ![0, 0, 0, 0] S1x1x192x640.size inb_S1x1x192x640_S1x1x192x640_0_0_0_0) v Finset.univ (View.stores_vmem h_S1x1x192x640 (harg12.storeExact_slice rfl _ packedbf16_S1x1x192x640_S1x1x192x640_0_0_0_0) (fun _ => rfl)) (.inl rfl))) (fun _ => wp frame (wpE (defs₀ (F := F)) Variants.none c none) E (pure ⟨⟩) K)) := by
  iintro ⟨H2, H5, H11, H12, H14, ⟨%kt, H15⟩, ⟨%vx, H16⟩, ⟨%qm, H17⟩, ⟨%o, H18⟩, Hk⟩
  by_cases hw1 : w = 1#32
  · iapply ((attend1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw1 hp x0 xx wos kt vx qm).2.2.2 E _)
    isplitl [H2]; · iexact H2
    isplitl [H5]; · iexact H5
    isplitl [H11]; · iexact H11
    isplitl [H12]; · iexact H12
    isplitl [H14]; · iexact H14
    isplitl [H15]; · iexact H15
    isplitl [H16]; · iexact H16
    isplitl [H17]; · iexact H17
    isplitl [H18]; · iexists _; iexact H18
    iintro ⟨H2, H5, ⟨%f11, H11⟩, ⟨%d12, H12⟩, H14, H15, H16, H17, ⟨%f18, H18⟩⟩
    unfold owns
    icases H12 with ⟨%f12, -, H12⟩
    sl_exec
    try sl_step
    iapply Hk
    isplitl [H2]; · iexact H2
    isplitl [H5]; · iexact H5
    isplitl [H11]
    · iexists _, _; isplitr; swap; · iexact H11
      ipureintro; rfl
    isplitl [H12]
    · iexists _, _; isplitr; swap; · iexact H12
      ipureintro; rfl
    isplitl [H14]; · iexists _; iexact H14
    isplitl [H15]; · iexists _; iexact H15
    isplitl [H16]; · iexists _; iexact H16
    isplitl [H17]; · iexists _; iexact H17
    iexists _, _; isplitr; swap; · iexact H18
    ipureintro; rfl
  by_cases hw2 : w = 2#32
  · iapply ((attend2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw2 hp x0 xx wos kt vx qm).2.2.2 E _)
    isplitl [H2]; · iexact H2
    isplitl [H5]; · iexact H5
    isplitl [H11]; · iexact H11
    isplitl [H12]; · iexact H12
    isplitl [H14]; · iexact H14
    isplitl [H15]; · iexact H15
    isplitl [H16]; · iexact H16
    isplitl [H17]; · iexact H17
    isplitl [H18]; · iexists _; iexact H18
    iintro ⟨H2, H5, ⟨%f11, H11⟩, ⟨%d12, H12⟩, H14, H15, H16, H17, ⟨%f18, H18⟩⟩
    unfold owns
    icases H12 with ⟨%f12, -, H12⟩
    sl_exec
    try sl_step
    iapply Hk
    isplitl [H2]; · iexact H2
    isplitl [H5]; · iexact H5
    isplitl [H11]
    · iexists _, _; isplitr; swap; · iexact H11
      ipureintro; rfl
    isplitl [H12]
    · iexists _, _; isplitr; swap; · iexact H12
      ipureintro; rfl
    isplitl [H14]; · iexists _; iexact H14
    isplitl [H15]; · iexists _; iexact H15
    isplitl [H16]; · iexists _; iexact H16
    isplitl [H17]; · iexists _; iexact H17
    iexists _, _; isplitr; swap; · iexact H18
    ipureintro; rfl
  by_cases hw3 : w = 3#32
  · iapply ((attend3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw3 hp x0 xx wos kt vx qm).2.2.2 E _)
    isplitl [H2]; · iexact H2
    isplitl [H5]; · iexact H5
    isplitl [H11]; · iexact H11
    isplitl [H12]; · iexact H12
    isplitl [H14]; · iexact H14
    isplitl [H15]; · iexact H15
    isplitl [H16]; · iexact H16
    isplitl [H17]; · iexact H17
    isplitl [H18]; · iexists _; iexact H18
    iintro ⟨H2, H5, ⟨%f11, H11⟩, ⟨%d12, H12⟩, H14, H15, H16, H17, ⟨%f18, H18⟩⟩
    unfold owns
    icases H12 with ⟨%f12, -, H12⟩
    sl_exec
    try sl_step
    iapply Hk
    isplitl [H2]; · iexact H2
    isplitl [H5]; · iexact H5
    isplitl [H11]
    · iexists _, _; isplitr; swap; · iexact H11
      ipureintro; rfl
    isplitl [H12]
    · iexists _, _; isplitr; swap; · iexact H12
      ipureintro; rfl
    isplitl [H14]; · iexists _; iexact H14
    isplitl [H15]; · iexists _; iexact H15
    isplitl [H16]; · iexists _; iexact H16
    isplitl [H17]; · iexists _; iexact H17
    iexists _, _; isplitr; swap; · iexact H18
    ipureintro; rfl
  by_cases hw4 : w = 4#32
  · iapply ((attend4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw4 hp x0 xx wos kt vx qm).2.2.2 E _)
    isplitl [H2]; · iexact H2
    isplitl [H5]; · iexact H5
    isplitl [H11]; · iexact H11
    isplitl [H12]; · iexact H12
    isplitl [H14]; · iexact H14
    isplitl [H15]; · iexact H15
    isplitl [H16]; · iexact H16
    isplitl [H17]; · iexact H17
    isplitl [H18]; · iexists _; iexact H18
    iintro ⟨H2, H5, ⟨%f11, H11⟩, ⟨%d12, H12⟩, H14, H15, H16, H17, ⟨%f18, H18⟩⟩
    unfold owns
    icases H12 with ⟨%f12, -, H12⟩
    sl_exec
    try sl_step
    iapply Hk
    isplitl [H2]; · iexact H2
    isplitl [H5]; · iexact H5
    isplitl [H11]
    · iexists _, _; isplitr; swap; · iexact H11
      ipureintro; rfl
    isplitl [H12]
    · iexists _, _; isplitr; swap; · iexact H12
      ipureintro; rfl
    isplitl [H14]; · iexists _; iexact H14
    isplitl [H15]; · iexists _; iexact H15
    isplitl [H16]; · iexists _; iexact H16
    isplitl [H17]; · iexists _; iexact H17
    iexists _, _; isplitr; swap; · iexact H18
    ipureintro; rfl
  by_cases hw5 : w = 5#32
  · iapply ((attend5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw5 hp x0 xx wos kt vx qm).2.2.2 E _)
    isplitl [H2]; · iexact H2
    isplitl [H5]; · iexact H5
    isplitl [H11]; · iexact H11
    isplitl [H12]; · iexact H12
    isplitl [H14]; · iexact H14
    isplitl [H15]; · iexact H15
    isplitl [H16]; · iexact H16
    isplitl [H17]; · iexact H17
    isplitl [H18]; · iexists _; iexact H18
    iintro ⟨H2, H5, ⟨%f11, H11⟩, ⟨%d12, H12⟩, H14, H15, H16, H17, ⟨%f18, H18⟩⟩
    unfold owns
    icases H12 with ⟨%f12, -, H12⟩
    sl_exec
    try sl_step
    iapply Hk
    isplitl [H2]; · iexact H2
    isplitl [H5]; · iexact H5
    isplitl [H11]
    · iexists _, _; isplitr; swap; · iexact H11
      ipureintro; rfl
    isplitl [H12]
    · iexists _, _; isplitr; swap; · iexact H12
      ipureintro; rfl
    isplitl [H14]; · iexists _; iexact H14
    isplitl [H15]; · iexists _; iexact H15
    isplitl [H16]; · iexists _; iexact H16
    isplitl [H17]; · iexists _; iexact H17
    iexists _, _; isplitr; swap; · iexact H18
    ipureintro; rfl
  iapply ((attendNone c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hp hw1 hw2 hw3 hw4 hw5 xx wos o).2.2 E _)
  isplitl [H5]; · iexact H5
  isplitl [H11]; · iexact H11
  isplitl [H12]; · iexact H12
  isplitl [H14]; · iexact H14
  isplitl [H18]; · iexact H18
  iintro ⟨H5, ⟨%f11, H11⟩, ⟨%d12, H12⟩, H14, H18⟩
  unfold owns
  icases H12 with ⟨%f12, -, H12⟩
  sl_exec
  try sl_step
  iapply Hk
  isplitl [H2]; · iexact H2
  isplitl [H5]; · iexact H5
  isplitl [H11]
  · iexists _, _; isplitr; swap; · iexact H11
    ipureintro; rfl
  isplitl [H12]
  · iexists _, _; isplitr; swap; · iexact H12
    ipureintro; rfl
  isplitl [H14]; · iexists _; iexact H14
  isplitl [H15]; · iexists _; iexact H15
  isplitl [H16]; · iexists _; iexact H16
  isplitl [H17]; · iexists _; iexact H17
  iexists _; iexact H18

set_option maxHeartbeats 4000000 in
/-- The whole body, its results forgotten: from the inputs at their contents and everything else at anything it
    ends with the inputs unchanged and everything else at something. -/
theorem bodyForget (x0 : Vec F S3x12 .f32) (x1 : Vec F S3 .i32) (xh : Vec F S1x1x192x640 .bf16) (xx : Vec F S1x1x192x640 .f32) (xw : Vec F S576x192 .bf16) (xo : Vec F S192x192 .bf16)
    (E : Set ℕ) (K : PUnit → sProp 𝕄) :
    iprop(owns (c : Thread nD τ) arg2 fullShare x0 ∗ owns (c : Thread nD τ) arg3 fullShare x1 ∗ owns (c : Thread nD τ) arg4 fullShare xh ∗ owns (c : Thread nD τ) arg5 fullShare xx ∗ owns (c : Thread nD τ) arg6 fullShare xw ∗ owns (c : Thread nD τ) arg7 fullShare xo ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (iprop(owns (c : Thread nD τ) arg2 fullShare x0 ∗ owns (c : Thread nD τ) arg3 fullShare x1 ∗ owns (c : Thread nD τ) arg4 fullShare xh ∗ owns (c : Thread nD τ) arg5 fullShare xx ∗ owns (c : Thread nD τ) arg6 fullShare xw ∗ owns (c : Thread nD τ) arg7 fullShare xo ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩)) ⊢ wp frame (wpE (defs₀ (F := F)) Variants.none c none) E (cc0_rows i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [rows_eq]; simp only [wp_bind]
  iintro ⟨H2, H3, H4, H5, H6, H7, H8, H9, H10, H11, H12, H13, ⟨%wos, H14⟩, H15, H16, H17, H18, Hk⟩
  by_cases hc : k0_cond1 i = 1#1
  · iapply ((startA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 xh xw xo).2.2.2.2.2.2 E _)
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H13]; · iexact H13
    isplitl [H14]; · iexists _; iexact H14
    iintro ⟨H2, H3, H4, H6, H7, ⟨%f8, H8⟩, ⟨%f9, H9⟩, ⟨%f10, H10⟩, ⟨%f13, H13⟩, ⟨%f14, H14⟩⟩
    iapply ((midRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _).2.2.2.2 E _)
    isplitl [H15]; · iexact H15
    isplitl [H16]; · iexact H16
    isplitl [H17]; · iexact H17
    iintro ⟨⟨%f15, H15⟩, ⟨%f16, H16⟩, ⟨%f17, H17⟩⟩
    iapply (lastForget c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ rfl x0 xx _ E K)
    isplitl [H2]; · iexact H2
    isplitl [H5]; · iexact H5
    isplitl [H11]; · iexact H11
    isplitl [H12]; · iexact H12
    isplitl [H14]
    · unfold owns; iexists _; isplitr; swap; · iexact H14
      ipureintro; rfl
    isplitl [H15]
    · unfold owns; iexists _, _; isplitr; swap; · iexact H15
      ipureintro; rfl
    isplitl [H16]
    · unfold owns; iexists _, _; isplitr; swap; · iexact H16
      ipureintro; rfl
    isplitl [H17]
    · unfold owns; iexists _, _; isplitr; swap; · iexact H17
      ipureintro; rfl
    isplitl [H18]; · iexact H18
    iintro ⟨H2, H5, H11, H12, H14, H15, H16, H17, H18⟩
    iapply Hk
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _, _; isplitr; swap; · iexact H8
      ipureintro; rfl
    isplitl [H9]
    · unfold owns; iexists _, _; isplitr; swap; · iexact H9
      ipureintro; rfl
    isplitl [H10]
    · unfold owns; iexists _, _; isplitr; swap; · iexact H10
      ipureintro; rfl
    isplitl [H11]; · iexact H11
    isplitl [H12]; · iexact H12
    isplitl [H13]
    · unfold owns; iexists _, _; isplitr; swap; · iexact H13
      ipureintro; rfl
    isplitl [H14]; · iexact H14
    isplitl [H15]; · iexact H15
    isplitl [H16]; · iexact H16
    isplitl [H17]; · iexact H17
    iexact H18
  · icases H13 with ⟨%ws, H13⟩
    iapply ((startB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 xh ws).2.2.2.2 E _)
    isplitl [H3]; · iexact H3
    isplitl [H4]; · iexact H4
    isplitl [H8]; · iexact H8
    isplitl [H9]; · iexact H9
    isplitl [H10]; · iexact H10
    isplitl [H13]; · iexact H13
    iintro ⟨H3, H4, ⟨%f8, H8⟩, ⟨%f9, H9⟩, ⟨%f10, H10⟩, H13⟩
    iapply ((midRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _).2.2.2.2 E _)
    isplitl [H15]; · iexact H15
    isplitl [H16]; · iexact H16
    isplitl [H17]; · iexact H17
    iintro ⟨⟨%f15, H15⟩, ⟨%f16, H16⟩, ⟨%f17, H17⟩⟩
    iapply (lastForget c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ rfl x0 xx _ E K)
    isplitl [H2]; · iexact H2
    isplitl [H5]; · iexact H5
    isplitl [H11]; · iexact H11
    isplitl [H12]; · iexact H12
    isplitl [H14]; · iexact H14
    isplitl [H15]
    · unfold owns; iexists _, _; isplitr; swap; · iexact H15
      ipureintro; rfl
    isplitl [H16]
    · unfold owns; iexists _, _; isplitr; swap; · iexact H16
      ipureintro; rfl
    isplitl [H17]
    · unfold owns; iexists _, _; isplitr; swap; · iexact H17
      ipureintro; rfl
    isplitl [H18]; · iexact H18
    iintro ⟨H2, H5, H11, H12, H14, H15, H16, H17, H18⟩
    iapply Hk
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _, _; isplitr; swap; · iexact H8
      ipureintro; rfl
    isplitl [H9]
    · unfold owns; iexists _, _; isplitr; swap; · iexact H9
      ipureintro; rfl
    isplitl [H10]
    · unfold owns; iexists _, _; isplitr; swap; · iexact H10
      ipureintro; rfl
    isplitl [H11]; · iexact H11
    isplitl [H12]; · iexact H12
    isplitl [H13]; · iexists _; iexact H13
    isplitl [H14]; · iexact H14
    isplitl [H15]; · iexact H15
    isplitl [H16]; · iexact H16
    isplitl [H17]; · iexact H17
    iexact H18

end Cert.Kernel.Body

end
-- ==== Proof.BFrame.lean ====
/- The frame of the program: from any memory every execution ends, the arguments unchanged and the semaphores at zero. -/
module

public import proofs.«01_k».proof.Proof.Gen.Kernel.Skeleton
public import proofs.«01_k».proof.Proof.BMemrefs
public import proofs.«01_k».proof.Proof.BBody
public import Idealize.ShloMosaic.Lib.Pipeline.FrameBody
public import Idealize.ShloMosaic.Lib.Ring
public import Idealize.ShloMosaic.Lib.Claim
public import Idealize.ShloMosaic.Lib.Tactic
public import Idealize.ShloMosaic.Lib.WordCmp

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents the frame says nothing of: the five outputs. -/
def forgets0 : Fin 11 → Bool := fun w => decide (6 ≤ w.val)

/-- The proof data of the frame: the inputs at their blocks, the outputs unnamed, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- Input 0 after the body: its block. -/
theorem after0 (c : Dev nD) (t : Fin cfg0.N) : (dats m 0 c).after 0 t = iblk m c 0 t := by dsimp only [dats]
/-- Input 0 before the body: its block. -/
theorem before0 (c : Dev nD) (t : Fin cfg0.N) (d) : (dats m 0 c).before 0 t d = iblk m c 0 t :=
  before0_0_of m (dats m 0 c) (A_eq m c 0) (after0 m c) t d

/-- Input 1 after the body: its block. -/
theorem after1 (c : Dev nD) (t : Fin cfg0.N) : (dats m 0 c).after 1 t = iblk m c 1 t := by dsimp only [dats]
/-- Input 1 before the body: its block. -/
theorem before1 (c : Dev nD) (t : Fin cfg0.N) (d) : (dats m 0 c).before 1 t d = iblk m c 1 t :=
  before0_1_of m (dats m 0 c) (A_eq m c 1) (after1 m c) t d

/-- Input 2 after the body: its block. -/
theorem after2 (c : Dev nD) (t : Fin cfg0.N) : (dats m 0 c).after 2 t = iblk m c 2 t := by dsimp only [dats]
/-- Input 2 before the body: its block. -/
theorem before2 (c : Dev nD) (t : Fin cfg0.N) (d) : (dats m 0 c).before 2 t d = iblk m c 2 t :=
  before0_2_of m (dats m 0 c) (A_eq m c 2) (after2 m c) t d

/-- Input 3 after the body: its block. -/
theorem after3 (c : Dev nD) (t : Fin cfg0.N) : (dats m 0 c).after 3 t = iblk m c 3 t := by dsimp only [dats]
/-- Input 3 before the body: its block. -/
theorem before3 (c : Dev nD) (t : Fin cfg0.N) (d) : (dats m 0 c).before 3 t d = iblk m c 3 t :=
  before0_3_of m (dats m 0 c) (A_eq m c 3) (after3 m c) t d

/-- Input 4 after the body: its block. -/
theorem after4 (c : Dev nD) (t : Fin cfg0.N) : (dats m 0 c).after 4 t = iblk m c 4 t := by dsimp only [dats]
/-- Input 4 before the body: its block. -/
theorem before4 (c : Dev nD) (t : Fin cfg0.N) (d) : (dats m 0 c).before 4 t d = iblk m c 4 t :=
  before0_4_of m (dats m 0 c) (A_eq m c 4) (after4 m c) t d

/-- Input 5 after the body: its block. -/
theorem after5 (c : Dev nD) (t : Fin cfg0.N) : (dats m 0 c).after 5 t = iblk m c 5 t := by dsimp only [dats]
/-- Input 5 before the body: its block. -/
theorem before5 (c : Dev nD) (t : Fin cfg0.N) (d) : (dats m 0 c).before 5 t d = iblk m c 5 t :=
  before0_5_of m (dats m 0 c) (A_eq m c 5) (after5 m c) t d

/-- What the body is called with at point `t`. -/
def bodyPre (c : Dev nD) (t : Fin cfg0.N) : sProp 𝕄 :=
  iprop((dats m 0 c).Φ t.castSucc ∗ (dats m 0 c).owesAt () t.castSucc
        ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
        ∗ (∃ d, owns (c : Thread nD τ) (ms6 t) fullShare d)
    ∗ (∃ d, owns (c : Thread nD τ) (ms7 t) fullShare d)
    ∗ (∃ d, owns (c : Thread nD τ) (ms8 t) fullShare d)
    ∗ (∃ d, owns (c : Thread nD τ) (ms9 t) fullShare d)
    ∗ (∃ d, owns (c : Thread nD τ) (ms10 t) fullShare d))

/-- What it returns. -/
def bodyPost (c : Dev nD) (t : Fin cfg0.N) : sProp 𝕄 :=
  iprop((dats m 0 c).Φ t.succ ∗ (dats m 0 c).owesAt () t.succ
        ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
        ∗ (∃ d, owns (c : Thread nD τ) (ms6 t) fullShare d)
    ∗ (∃ d, owns (c : Thread nD τ) (ms7 t) fullShare d)
    ∗ (∃ d, owns (c : Thread nD τ) (ms8 t) fullShare d)
    ∗ (∃ d, owns (c : Thread nD τ) (ms9 t) fullShare d)
    ∗ (∃ d, owns (c : Thread nD τ) (ms10 t) fullShare d))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5]
  rw [show (dats m 0 c).Φ t.castSucc = Pipeline.ΦA spec0 c from rfl, PhiA_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, H6, H7, H8, H9, H10⟩
  iapply (bodyForget c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every execution ends, the inputs unchanged, every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged, from a run to the frame's post. -/
theorem frame_from (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-- The frame: every execution ends, the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_from m ρ (fun c => (dats m 0 c).toRForget forgets0) (A_eq m) ((θ_run defs _ _).mono (fun _ h => h.1) (run_main_quiescent m ρ)))
    ((θ_run defs _ _).mono (fun _ h => h.2) (run_main_quiescent m ρ))

end Cert.Kernel.Body

end
-- ==== Proof.IMemrefs.lean ====
/- The buffers the kernel body is called with at a grid point. -/
module

public import proofs.«01_k».proof.Proof.Gen.KernelIdeal.Frame
public import proofs.«01_k».proof.Proof.Gen.KernelIdeal.Points
public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The staging buffer of window 0 at point `t`. -/
abbrev ms0 (t : Fin cfg0.N) : Memref sig .tc .smem S3x12 .f32 := win0_0.stage (cfg0.slots t 0)
/-- It is a whole buffer. -/
theorem hs0 (t : Fin cfg0.N) : (ms0 t).IsWhole := hstage0_0 ((cfg0.slots t 0).cast nbuf0_0)
/-- The staging buffer of window 1 at point `t`. -/
abbrev ms1 (t : Fin cfg0.N) : Memref sig .tc .smem S3 .i32 := win0_1.stage (cfg0.slots t 1)
/-- It is a whole buffer. -/
theorem hs1 (t : Fin cfg0.N) : (ms1 t).IsWhole := hstage0_1 ((cfg0.slots t 1).cast nbuf0_1)
/-- The staging buffer of window 2 at point `t`. -/
abbrev ms2 (t : Fin cfg0.N) : Memref sig .tc .vmem S1x1x192x640 .bf16 := win0_2.stage (cfg0.slots t 2)
/-- It is a whole buffer. -/
theorem hs2 (t : Fin cfg0.N) : (ms2 t).IsWhole := hstage0_2 ((cfg0.slots t 2).cast nbuf0_2)
/-- The staging buffer of window 3 at point `t`. -/
abbrev ms3 (t : Fin cfg0.N) : Memref sig .tc .vmem S1x1x192x640 .f32 := win0_3.stage (cfg0.slots t 3)
/-- It is a whole buffer. -/
theorem hs3 (t : Fin cfg0.N) : (ms3 t).IsWhole := hstage0_3 ((cfg0.slots t 3).cast nbuf0_3)
/-- The staging buffer of window 4 at point `t`. -/
abbrev ms4 (t : Fin cfg0.N) : Memref sig .tc .vmem S576x192 .bf16 := win0_4.stage (cfg0.slots t 4)
/-- It is a whole buffer. -/
theorem hs4 (t : Fin cfg0.N) : (ms4 t).IsWhole := hstage0_4 ((cfg0.slots t 4).cast nbuf0_4)
/-- The staging buffer of window 5 at point `t`. -/
abbrev ms5 (t : Fin cfg0.N) : Memref sig .tc .vmem S192x192 .bf16 := win0_5.stage (cfg0.slots t 5)
/-- It is a whole buffer. -/
theorem hs5 (t : Fin cfg0.N) : (ms5 t).IsWhole := hstage0_5 ((cfg0.slots t 5).cast nbuf0_5)
/-- The staging buffer of window 6 at point `t`. -/
abbrev ms6 (t : Fin cfg0.N) : Memref sig .tc .vmem S1x1x192x640 .fp8e4m3 := win0_6.stage (cfg0.slots t 6)
/-- It is a whole buffer. -/
theorem hs6 (t : Fin cfg0.N) : (ms6 t).IsWhole := hstage0_6 ((cfg0.slots t 6).cast nbuf0_6)
/-- The staging buffer of window 7 at point `t`. -/
abbrev ms7 (t : Fin cfg0.N) : Memref sig .tc .vmem S1x1x192x640 .fp8e4m3 := win0_7.stage (cfg0.slots t 7)
/-- It is a whole buffer. -/
theorem hs7 (t : Fin cfg0.N) : (ms7 t).IsWhole := hstage0_7 ((cfg0.slots t 7).cast nbuf0_7)
/-- The staging buffer of window 8 at point `t`. -/
abbrev ms8 (t : Fin cfg0.N) : Memref sig .tc .vmem S1x1x192x640 .fp8e4m3 := win0_8.stage (cfg0.slots t 8)
/-- It is a whole buffer. -/
theorem hs8 (t : Fin cfg0.N) : (ms8 t).IsWhole := hstage0_8 ((cfg0.slots t 8).cast nbuf0_8)
/-- The staging buffer of window 9 at point `t`. -/
abbrev ms9 (t : Fin cfg0.N) : Memref sig .tc .vmem S1x1x192x640 .bf16 := win0_9.stage (cfg0.slots t 9)
/-- It is a whole buffer. -/
theorem hs9 (t : Fin cfg0.N) : (ms9 t).IsWhole := hstage0_9 ((cfg0.slots t 9).cast nbuf0_9)
/-- The staging buffer of window 10 at point `t`. -/
abbrev ms10 (t : Fin cfg0.N) : Memref sig .tc .vmem S1x1x192x640 .bf16 := win0_10.stage (cfg0.slots t 10)
/-- It is a whole buffer. -/
theorem hs10 (t : Fin cfg0.N) : (ms10 t).IsWhole := hstage0_10 ((cfg0.slots t 10).cast nbuf0_10)
/-- Scratch buffer 0. -/
abbrev sc0 : Memref sig .tc .vmem S576x192 .bf16 := Memref.whole cc0_scratch0
/-- Scratch buffer 1. -/
abbrev sc1 : Memref sig .tc .vmem S192x192 .bf16 := Memref.whole cc0_scratch1
/-- Scratch buffer 2. -/
abbrev sc2 : Memref sig .tc .vmem S640x192 .fp8e4m3 := Memref.whole cc0_scratch2
/-- Scratch buffer 3. -/
abbrev sc3 : Memref sig .tc .vmem S4x64x640 .bf16 := Memref.whole cc0_scratch3
/-- Scratch buffer 4. -/
abbrev sc4 : Memref sig .tc .vmem S4x192x640 .fp8e4m3 := Memref.whole cc0_scratch4
/-- Scratch buffer 5. -/
abbrev sc5 : Memref sig .tc .vmem S192x640 .bf16 := Memref.whole cc0_scratch5

/-- The invariant of a frame: every scratch buffer at something, and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

end Cert.KernelIdeal.Body

end
-- ==== Proof.IStart.lean ====
/- The first part of the kernel body: the weights scaled at a table's first feature, the projection and its codes. -/
module

public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
variable (c : Dev nD) (i : grid0.Coords)
  (arg2 : Memref sig .tc .smem S3x12 .f32) (harg2 : arg2.IsWhole)
  (arg3 : Memref sig .tc .smem S3 .i32) (harg3 : arg3.IsWhole)
  (arg4 : Memref sig .tc .vmem S1x1x192x640 .bf16) (harg4 : arg4.IsWhole)
  (arg5 : Memref sig .tc .vmem S1x1x192x640 .f32) (harg5 : arg5.IsWhole)
  (arg6 : Memref sig .tc .vmem S576x192 .bf16) (harg6 : arg6.IsWhole)
  (arg7 : Memref sig .tc .vmem S192x192 .bf16) (harg7 : arg7.IsWhole)
  (arg8 : Memref sig .tc .vmem S1x1x192x640 .fp8e4m3) (harg8 : arg8.IsWhole)
  (arg9 : Memref sig .tc .vmem S1x1x192x640 .fp8e4m3) (harg9 : arg9.IsWhole)
  (arg10 : Memref sig .tc .vmem S1x1x192x640 .fp8e4m3) (harg10 : arg10.IsWhole)
  (arg11 : Memref sig .tc .vmem S1x1x192x640 .bf16) (harg11 : arg11.IsWhole)
  (arg12 : Memref sig .tc .vmem S1x1x192x640 .bf16) (harg12 : arg12.IsWhole)
  (arg13 : Memref sig .tc .vmem S576x192 .bf16) (harg13 : arg13.IsWhole)
  (arg14 : Memref sig .tc .vmem S192x192 .bf16) (harg14 : arg14.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16) (harg18 : arg18.IsWhole)

set_option maxHeartbeats 4000000 in
/-- The first part of the body at the first feature of a table. -/
noncomputable def startA (hc : k0_cond1 i = 1#1) (x0 : Vec F S3x12 .f32) (x1 : Vec F S3 .i32) (xh : Vec F S1x1x192x640 .bf16) (xw : Vec F S576x192 .bf16) (xo : Vec F S192x192 .bf16) :
    Σ' (L13 : (List (View.Piece (Elt F) S576x192 .bf16))) (L14 : (List (View.Piece (Elt F) S192x192 .bf16))) (L8 : (List (View.Piece (Elt F) S1x1x192x640 .fp8e4m3))) (L9 : (List (View.Piece (Elt F) S1x1x192x640 .fp8e4m3))) (L10 : (List (View.Piece (Elt F) S1x1x192x640 .fp8e4m3))), { r : (Σ' (_ : BitVec 32) (_ : Elt F .i32) (_ : FVec F S192x640 .fp8e4m3) (_ : FVec F S192x640 .fp8e4m3) (_ : FVec F S192x640 .fp8e4m3) (_ : IVec S192x640 1), FVec F S192x1 .fp8e4m3) //
      ∀ (E : Set ℕ) (K : (Σ' (_ : BitVec 32) (_ : Elt F .i32) (_ : FVec F S192x640 .fp8e4m3) (_ : FVec F S192x640 .fp8e4m3) (_ : FVec F S192x640 .fp8e4m3) (_ : IVec S192x640 1), FVec F S192x1 .fp8e4m3) → sProp 𝕄),
        iprop(owns (c : Thread nD τ) arg2 fullShare x0 ∗ owns (c : Thread nD τ) arg3 fullShare x1 ∗ owns (c : Thread nD τ) arg4 fullShare xh ∗ owns (c : Thread nD τ) arg6 fullShare xw ∗ owns (c : Thread nD τ) arg7 fullShare xo ∗ (∃ d, owns (c : Thread nD τ) arg8 fullShare d) ∗ (∃ d, owns (c : Thread nD τ) arg9 fullShare d) ∗ (∃ d, owns (c : Thread nD τ) arg10 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare xh ∗ owns (c : Thread nD τ) arg6 fullShare xw ∗ owns (c : Thread nD τ) arg7 fullShare xo ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14)) -∗ K r))
          ⊢ wp frame (wpE (defs₀ (F := F)) Variants.none c none) E (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, fun E K => ?run⟩
  case run =>
    simp only [k0_part21_eq_skeleton]; unfold k0_part21_skel
    unfold owns
    iintro ⟨⟨%f2, %hf2, H2⟩, ⟨%f3, %hf3, H3⟩, ⟨%f4, %hf4, H4⟩, ⟨%f6, %hf6, H6⟩, ⟨%f7, %hf7, H7⟩, ⟨%d8, %f8, -, H8⟩, ⟨%d9, %f9, -, H9⟩, ⟨%d10, %f10, -, H10⟩, ⟨%d13, %f13, -, H13⟩, ⟨%d14, %f14, -, H14⟩, Hk⟩
    obtain rfl := harg2.eq_unread hf2; obtain rfl := harg3.eq_unread hf3; obtain rfl := harg4.eq_unread hf4; obtain rfl := harg6.eq_unread hf6; obtain rfl := harg7.eq_unread hf7
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    isplitl [H10]; · iexists _; iexact H10
    isplitl [H13]; · iexists _; iexact H13
    iexists _; iexact H14

set_option maxHeartbeats 4000000 in
/-- The first part of the body at any other feature of a table. -/
noncomputable def startB (hc : ¬ k0_cond1 i = 1#1) (x1 : Vec F S3 .i32) (xh : Vec F S1x1x192x640 .bf16) (ws : Vec F S576x192 .bf16) :
    Σ' (L8 : (List (View.Piece (Elt F) S1x1x192x640 .fp8e4m3))) (L9 : (List (View.Piece (Elt F) S1x1x192x640 .fp8e4m3))) (L10 : (List (View.Piece (Elt F) S1x1x192x640 .fp8e4m3))), { r : (Σ' (_ : BitVec 32) (_ : Elt F .i32) (_ : FVec F S192x640 .fp8e4m3) (_ : FVec F S192x640 .fp8e4m3) (_ : FVec F S192x640 .fp8e4m3) (_ : IVec S192x640 1), FVec F S192x1 .fp8e4m3) //
      ∀ (E : Set ℕ) (K : (Σ' (_ : BitVec 32) (_ : Elt F .i32) (_ : FVec F S192x640 .fp8e4m3) (_ : FVec F S192x640 .fp8e4m3) (_ : FVec F S192x640 .fp8e4m3) (_ : IVec S192x640 1), FVec F S192x1 .fp8e4m3) → sProp 𝕄),
        iprop(owns (c : Thread nD τ) arg3 fullShare x1 ∗ owns (c : Thread nD τ) arg4 fullShare xh ∗ (∃ d, owns (c : Thread nD τ) arg8 fullShare d) ∗ (∃ d, owns (c : Thread nD τ) arg9 fullShare d) ∗ (∃ d, owns (c : Thread nD τ) arg10 fullShare d) ∗ owns (c : Thread nD τ) arg13 fullShare ws
            ∗ (iprop(owns (c : Thread nD τ) arg3 fullShare x1 ∗ owns (c : Thread nD τ) arg4 fullShare xh ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ owns (c : Thread nD τ) arg13 fullShare ws) -∗ K r))
          ⊢ wp frame (wpE (defs₀ (F := F)) Variants.none c none) E (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [k0_part21_eq_skeleton]; unfold k0_part21_skel
    unfold owns
    iintro ⟨⟨%f3, %hf3, H3⟩, ⟨%f4, %hf4, H4⟩, ⟨%d8, %f8, -, H8⟩, ⟨%d9, %f9, -, H9⟩, ⟨%d10, %f10, -, H10⟩, ⟨%f13, %hf13, H13⟩, Hk⟩
    obtain rfl := harg3.eq_unread hf3; obtain rfl := harg4.eq_unread hf4; obtain rfl := harg13.eq_unread hf13
    sl_exec (disch := first | sl_exact hc)
    sl_step
    iapply Hk
    isplitl [H3]
    · iexists _; isplitr; · ipureintro; exact harg3.read_unread _
      iexact H3
    isplitl [H4]
    · iexists _; isplitr; · ipureintro; exact harg4.read_unread _
      iexact H4
    isplitl [H8]; · iexists _; iexact H8
    isplitl [H9]; · iexists _; iexact H9
    isplitl [H10]; · iexists _; iexact H10
    iexists _; isplitr; · ipureintro; exact harg13.read_unread _
    iexact H13

end Cert.KernelIdeal.Body

end
-- ==== Proof.IMid.lean ====
/- The middle of the kernel body: keys, values and masked queries put in their scratch buffers. -/
module

public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
variable (c : Dev nD) (i : grid0.Coords)
  (arg2 : Memref sig .tc .smem S3x12 .f32) (harg2 : arg2.IsWhole)
  (arg3 : Memref sig .tc .smem S3 .i32) (harg3 : arg3.IsWhole)
  (arg4 : Memref sig .tc .vmem S1x1x192x640 .bf16) (harg4 : arg4.IsWhole)
  (arg5 : Memref sig .tc .vmem S1x1x192x640 .f32) (harg5 : arg5.IsWhole)
  (arg6 : Memref sig .tc .vmem S576x192 .bf16) (harg6 : arg6.IsWhole)
  (arg7 : Memref sig .tc .vmem S192x192 .bf16) (harg7 : arg7.IsWhole)
  (arg8 : Memref sig .tc .vmem S1x1x192x640 .fp8e4m3) (harg8 : arg8.IsWhole)
  (arg9 : Memref sig .tc .vmem S1x1x192x640 .fp8e4m3) (harg9 : arg9.IsWhole)
  (arg10 : Memref sig .tc .vmem S1x1x192x640 .fp8e4m3) (harg10 : arg10.IsWhole)
  (arg11 : Memref sig .tc .vmem S1x1x192x640 .bf16) (harg11 : arg11.IsWhole)
  (arg12 : Memref sig .tc .vmem S1x1x192x640 .bf16) (harg12 : arg12.IsWhole)
  (arg13 : Memref sig .tc .vmem S576x192 .bf16) (harg13 : arg13.IsWhole)
  (arg14 : Memref sig .tc .vmem S192x192 .bf16) (harg14 : arg14.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16) (harg18 : arg18.IsWhole)

set_option maxHeartbeats 4000000 in
/-- The middle of the body: the keys transposed, the values with their row of ones, the queries masked head by head. -/
noncomputable def midRun (v1 : Elt F .i32) (v14 v15 v16 : FVec F S192x640 .fp8e4m3) (v28 : IVec S192x640 1) (v30 : FVec F S192x1 .fp8e4m3) :
    Σ' (L15 : (List (View.Piece (Elt F) S640x192 .fp8e4m3))) (L16 : (List (View.Piece (Elt F) S4x64x640 .bf16))) (L17 : (List (View.Piece (Elt F) S4x192x640 .fp8e4m3))), { r : (Σ' (_ : BitVec 32), BitVec 1) //
      ∀ (E : Set ℕ) (K : (Σ' (_ : BitVec 32), BitVec 1) → sProp 𝕄),
        iprop((∃ d, owns (c : Thread nD τ) arg15 fullShare d) ∗ (∃ d, owns (c : Thread nD τ) arg16 fullShare d) ∗ (∃ d, owns (c : Thread nD τ) arg17 fullShare d)
            ∗ (iprop((∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K r))
          ⊢ wp frame (wpE (defs₀ (F := F)) Variants.none c none) E (k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v14 v15 v16 v28 v30) (fun a =>
              wp frame (wpE (defs₀ (F := F)) Variants.none c none) E (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v14 a.1 a.2.1 a.2.2.1 a.2.2.2) (fun b =>
              wp frame (wpE (defs₀ (F := F)) Variants.none c none) E (k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v14 a.2.1 a.2.2.1 b) K)) } := by
  refine ⟨?_, ?_, ?_, ?_, fun E K => ?run⟩
  case run =>
    simp only [k0_part22_eq_skeleton, k0_part23_eq_skeleton, k0_part24_eq_skeleton]
    unfold owns
    iintro ⟨⟨%d15, %f15, -, H15⟩, ⟨%d16, %f16, -, H16⟩, ⟨%d17, %f17, -, H17⟩, Hk⟩
    unfold k0_part22_skel
    sl_exec
    try sl_step
    iapply Hk
    isplitl [H15]; · iexists _; iexact H15
    isplitl [H16]; · iexists _; iexact H16
    iexists _; iexact H17

end Cert.KernelIdeal.Body

end
-- ==== Proof.IAttend0.lean ====
/- The last part of the body when no block count from one to five is met (a number of training rows out of range): no head is attended. -/
module

public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
variable (c : Dev nD) (i : grid0.Coords)
  (arg2 : Memref sig .tc .smem S3x12 .f32) (harg2 : arg2.IsWhole)
  (arg3 : Memref sig .tc .smem S3 .i32) (harg3 : arg3.IsWhole)
  (arg4 : Memref sig .tc .vmem S1x1x192x640 .bf16) (harg4 : arg4.IsWhole)
  (arg5 : Memref sig .tc .vmem S1x1x192x640 .f32) (harg5 : arg5.IsWhole)
  (arg6 : Memref sig .tc .vmem S576x192 .bf16) (harg6 : arg6.IsWhole)
  (arg7 : Memref sig .tc .vmem S192x192 .bf16) (harg7 : arg7.IsWhole)
  (arg8 : Memref sig .tc .vmem S1x1x192x640 .fp8e4m3) (harg8 : arg8.IsWhole)
  (arg9 : Memref sig .tc .vmem S1x1x192x640 .fp8e4m3) (harg9 : arg9.IsWhole)
  (arg10 : Memref sig .tc .vmem S1x1x192x640 .fp8e4m3) (harg10 : arg10.IsWhole)
  (arg11 : Memref sig .tc .vmem S1x1x192x640 .bf16) (harg11 : arg11.IsWhole)
  (arg12 : Memref sig .tc .vmem S1x1x192x640 .bf16) (harg12 : arg12.IsWhole)
  (arg13 : Memref sig .tc .vmem S576x192 .bf16) (harg13 : arg13.IsWhole)
  (arg14 : Memref sig .tc .vmem S192x192 .bf16) (harg14 : arg14.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16) (harg18 : arg18.IsWhole)

set_option maxHeartbeats 4000000 in
/-- The last part of the body when no block count from one to five is met (a number of training rows out of range): no head is attended. -/
noncomputable def attendNone (a0 w : BitVec 32) (p : BitVec 1) (hp : p = Scalar.cmpi .eq w 1#32) (hw1 : ¬ w = 1#32) (hw2 : ¬ w = 2#32) (hw3 : ¬ w = 3#32) (hw4 : ¬ w = 4#32) (hw5 : ¬ w = 5#32)
    (xx : Vec F S1x1x192x640 .f32) (wos : Vec F S192x192 .bf16) (o : Vec F S192x640 .bf16) :
    Σ' (L11 : (List (View.Piece (Elt F) S1x1x192x640 .bf16))), { r : FVec F S1x1x192x640 .bf16 //
      ∀ (E : Set ℕ) (K : FVec F S1x1x192x640 .bf16 → sProp 𝕄),
        iprop(owns (c : Thread nD τ) arg5 fullShare xx ∗ (∃ d, owns (c : Thread nD τ) arg11 fullShare d) ∗ (∃ d, owns (c : Thread nD τ) arg12 fullShare d) ∗ owns (c : Thread nD τ) arg14 fullShare wos ∗ owns (c : Thread nD τ) arg18 fullShare o
            ∗ (iprop(owns (c : Thread nD τ) arg5 fullShare xx ∗ (∃ f, arg11.view.loc (c : Thread nD τ) ↦[arg11.view.set]{fullShare} arg11.view.writes (Elt F) f L11) ∗ (∃ d, owns (c : Thread nD τ) arg12 fullShare d) ∗ owns (c : Thread nD τ) arg14 fullShare wos ∗ owns (c : Thread nD τ) arg18 fullShare o) -∗ K r))
          ⊢ wp frame (wpE (defs₀ (F := F)) Variants.none c none) E (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p) K } := by
  refine ⟨?_, ?_, fun E K => ?run⟩
  case run =>
    subst hp
    simp only [k0_part25_eq_skeleton]; unfold k0_part25_skel
    unfold owns
    have hk1 : ¬ Scalar.cmpi .ne (Scalar.extui (Scalar.cmpi .eq w 1#32) : BitVec 32) 0#32 = 1#1 := by
      have e : Scalar.cmpi .eq w 1#32 = 0#1 := by rw [WordCmp.scalar_cmpi_eq, WordCmp.cmpi_eq_eq, decide_eq_false hw1]; rfl
      rw [e]; decide
    have hk2 : ¬ Scalar.cmpi .ne (Scalar.extui (Scalar.cmpi .eq w 2#32) : BitVec 32) 0#32 = 1#1 := by
      have e : Scalar.cmpi .eq w 2#32 = 0#1 := by rw [WordCmp.scalar_cmpi_eq, WordCmp.cmpi_eq_eq, decide_eq_false hw2]; rfl
      rw [e]; decide
    have hk3 : ¬ Scalar.cmpi .ne (Scalar.extui (Scalar.cmpi .eq w 3#32) : BitVec 32) 0#32 = 1#1 := by
      have e : Scalar.cmpi .eq w 3#32 = 0#1 := by rw [WordCmp.scalar_cmpi_eq, WordCmp.cmpi_eq_eq, decide_eq_false hw3]; rfl
      rw [e]; decide
    have hk4 : ¬ Scalar.cmpi .ne (Scalar.extui (Scalar.cmpi .eq w 4#32) : BitVec 32) 0#32 = 1#1 := by
      have e : Scalar.cmpi .eq w 4#32 = 0#1 := by rw [WordCmp.scalar_cmpi_eq, WordCmp.cmpi_eq_eq, decide_eq_false hw4]; rfl
      rw [e]; decide
    have hk5 : ¬ Scalar.cmpi .ne (Scalar.extui (Scalar.cmpi .eq w 5#32) : BitVec 32) 0#32 = 1#1 := by
      have e : Scalar.cmpi .eq w 5#32 = 0#1 := by rw [WordCmp.scalar_cmpi_eq, WordCmp.cmpi_eq_eq, decide_eq_false hw5]; rfl
      rw [e]; decide
    iintro ⟨⟨%f5, %hf5, H5⟩, ⟨%d11, %f11, -, H11⟩, ⟨%d12, %f12, -, H12⟩, ⟨%f14, %hf14, H14⟩, ⟨%f18, %hf18, H18⟩, Hk⟩
    obtain rfl := harg5.eq_unread hf5; obtain rfl := harg14.eq_unread hf14; obtain rfl := harg18.eq_unread hf18
    sl_exec (disch := first | sl_exact hk1 | sl_exact hk2 | sl_exact hk3 | sl_exact hk4 | sl_exact hk5)
    sl_step
    iapply Hk
    isplitl [H5]
    · iexists _; isplitr; · ipureintro; exact harg5.read_unread _
      iexact H5
    isplitl [H11]; · iexists _; iexact H11
    isplitl [H12]
    · iexists _, _; isplitr; swap; · iexact H12
      ipureintro; rfl
    isplitl [H14]
    · iexists _; isplitr; · ipureintro; exact harg14.read_unread _
      iexact H14
    iexists _; isplitr; · ipureintro; exact harg18.read_unread _
    iexact H18

end Cert.KernelIdeal.Body

end
-- ==== Proof.IAttend1.lean ====
/- The last part of the body when the table's rows fill 1 block of 128: the heads attended over 128 keys, the output projection and the residual. -/
module

public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
variable (c : Dev nD) (i : grid0.Coords)
  (arg2 : Memref sig .tc .smem S3x12 .f32) (harg2 : arg2.IsWhole)
  (arg3 : Memref sig .tc .smem S3 .i32) (harg3 : arg3.IsWhole)
  (arg4 : Memref sig .tc .vmem S1x1x192x640 .bf16) (harg4 : arg4.IsWhole)
  (arg5 : Memref sig .tc .vmem S1x1x192x640 .f32) (harg5 : arg5.IsWhole)
  (arg6 : Memref sig .tc .vmem S576x192 .bf16) (harg6 : arg6.IsWhole)
  (arg7 : Memref sig .tc .vmem S192x192 .bf16) (harg7 : arg7.IsWhole)
  (arg8 : Memref sig .tc .vmem S1x1x192x640 .fp8e4m3) (harg8 : arg8.IsWhole)
  (arg9 : Memref sig .tc .vmem S1x1x192x640 .fp8e4m3) (harg9 : arg9.IsWhole)
  (arg10 : Memref sig .tc .vmem S1x1x192x640 .fp8e4m3) (harg10 : arg10.IsWhole)
  (arg11 : Memref sig .tc .vmem S1x1x192x640 .bf16) (harg11 : arg11.IsWhole)
  (arg12 : Memref sig .tc .vmem S1x1x192x640 .bf16) (harg12 : arg12.IsWhole)
  (arg13 : Memref sig .tc .vmem S576x192 .bf16) (harg13 : arg13.IsWhole)
  (arg14 : Memref sig .tc .vmem S192x192 .bf16) (harg14 : arg14.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16) (harg18 : arg18.IsWhole)

set_option maxHeartbeats 4000000 in
/-- The last part of the body when the table's rows fill 1 block of 128: the heads attended over 128 keys, the output projection and the residual. -/
noncomputable def attend1 (a0 w : BitVec 32) (p : BitVec 1) (hw : w = 1#32) (hp : p = Scalar.cmpi .eq w 1#32) (x0 : Vec F S3x12 .f32) (xx : Vec F S1x1x192x640 .f32) (wos : Vec F S192x192 .bf16) (kt : Vec F S640x192 .fp8e4m3) (vx : Vec F S4x64x640 .bf16) (qm : Vec F S4x192x640 .fp8e4m3) :
    Σ' (L11 : (List (View.Piece (Elt F) S1x1x192x640 .bf16))) (L18 : (List (View.Piece (Elt F) S192x640 .bf16))), { r : FVec F S1x1x192x640 .bf16 //
      ∀ (E : Set ℕ) (K : FVec F S1x1x192x640 .bf16 → sProp 𝕄),
        iprop(owns (c : Thread nD τ) arg2 fullShare x0 ∗ owns (c : Thread nD τ) arg5 fullShare xx ∗ (∃ d, owns (c : Thread nD τ) arg11 fullShare d) ∗ (∃ d, owns (c : Thread nD τ) arg12 fullShare d) ∗ owns (c : Thread nD τ) arg14 fullShare wos ∗ owns (c : Thread nD τ) arg15 fullShare kt ∗ owns (c : Thread nD τ) arg16 fullShare vx ∗ owns (c : Thread nD τ) arg17 fullShare qm ∗ (∃ d, owns (c : Thread nD τ) arg18 fullShare d)
            ∗ (iprop(owns (c : Thread nD τ) arg2 fullShare x0 ∗ owns (c : Thread nD τ) arg5 fullShare xx ∗ (∃ f, arg11.view.loc (c : Thread nD τ) ↦[arg11.view.set]{fullShare} arg11.view.writes (Elt F) f L11) ∗ (∃ d, owns (c : Thread nD τ) arg12 fullShare d) ∗ owns (c : Thread nD τ) arg14 fullShare wos ∗ owns (c : Thread nD τ) arg15 fullShare kt ∗ owns (c : Thread nD τ) arg16 fullShare vx ∗ owns (c : Thread nD τ) arg17 fullShare qm ∗ (∃ f, arg18.view.loc (c : Thread nD τ) ↦[arg18.view.set]{fullShare} arg18.view.writes (Elt F) f L18)) -∗ K r))
          ⊢ wp frame (wpE (defs₀ (F := F)) Variants.none c none) E (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p) K } := by
  refine ⟨?_, ?_, ?_, fun E K => ?run⟩
  case run =>
    subst hp; subst hw
    simp only [k0_part25_eq_skeleton]; unfold k0_part25_skel
    unfold owns
    iintro ⟨⟨%f2, %hf2, H2⟩, ⟨%f5, %hf5, H5⟩, ⟨%d11, %f11, -, H11⟩, ⟨%d12, %f12, -, H12⟩, ⟨%f14, %hf14, H14⟩, ⟨%f15, %hf15, H15⟩, ⟨%f16, %hf16, H16⟩, ⟨%f17, %hf17, H17⟩, ⟨%d18, %f18, -, H18⟩, Hk⟩
    obtain rfl := harg2.eq_unread hf2; obtain rfl := harg5.eq_unread hf5; obtain rfl := harg14.eq_unread hf14; obtain rfl := harg15.eq_unread hf15; obtain rfl := harg16.eq_unread hf16; obtain rfl := harg17.eq_unread hf17
    sl_exec (disch := decide)
    sl_step
    iapply Hk
    isplitl [H2]
    · iexists _; isplitr; · ipureintro; exact harg2.read_unread _
      iexact H2
    isplitl [H5]
    · iexists _; isplitr; · ipureintro; exact harg5.read_unread _
      iexact H5
    isplitl [H11]; · iexists _; iexact H11
    isplitl [H12]
    · iexists _, _; isplitr; swap; · iexact H12
      ipureintro; rfl
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    iexists _; iexact H18

end Cert.KernelIdeal.Body

end
-- ==== Proof.IAttend2.lean ====
/- The last part of the body when the table's rows fill 2 blocks of 128: the heads attended over 256 keys, the output projection and the residual. -/
module

public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
variable (c : Dev nD) (i : grid0.Coords)
  (arg2 : Memref sig .tc .smem S3x12 .f32) (harg2 : arg2.IsWhole)
  (arg3 : Memref sig .tc .smem S3 .i32) (harg3 : arg3.IsWhole)
  (arg4 : Memref sig .tc .vmem S1x1x192x640 .bf16) (harg4 : arg4.IsWhole)
  (arg5 : Memref sig .tc .vmem S1x1x192x640 .f32) (harg5 : arg5.IsWhole)
  (arg6 : Memref sig .tc .vmem S576x192 .bf16) (harg6 : arg6.IsWhole)
  (arg7 : Memref sig .tc .vmem S192x192 .bf16) (harg7 : arg7.IsWhole)
  (arg8 : Memref sig .tc .vmem S1x1x192x640 .fp8e4m3) (harg8 : arg8.IsWhole)
  (arg9 : Memref sig .tc .vmem S1x1x192x640 .fp8e4m3) (harg9 : arg9.IsWhole)
  (arg10 : Memref sig .tc .vmem S1x1x192x640 .fp8e4m3) (harg10 : arg10.IsWhole)
  (arg11 : Memref sig .tc .vmem S1x1x192x640 .bf16) (harg11 : arg11.IsWhole)
  (arg12 : Memref sig .tc .vmem S1x1x192x640 .bf16) (harg12 : arg12.IsWhole)
  (arg13 : Memref sig .tc .vmem S576x192 .bf16) (harg13 : arg13.IsWhole)
  (arg14 : Memref sig .tc .vmem S192x192 .bf16) (harg14 : arg14.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16) (harg18 : arg18.IsWhole)

set_option maxHeartbeats 4000000 in
/-- The last part of the body when the table's rows fill 2 blocks of 128: the heads attended over 256 keys, the output projection and the residual. -/
noncomputable def attend2 (a0 w : BitVec 32) (p : BitVec 1) (hw : w = 2#32) (hp : p = Scalar.cmpi .eq w 1#32) (x0 : Vec F S3x12 .f32) (xx : Vec F S1x1x192x640 .f32) (wos : Vec F S192x192 .bf16) (kt : Vec F S640x192 .fp8e4m3) (vx : Vec F S4x64x640 .bf16) (qm : Vec F S4x192x640 .fp8e4m3) :
    Σ' (L11 : (List (View.Piece (Elt F) S1x1x192x640 .bf16))) (L18 : (List (View.Piece (Elt F) S192x640 .bf16))), { r : FVec F S1x1x192x640 .bf16 //
      ∀ (E : Set ℕ) (K : FVec F S1x1x192x640 .bf16 → sProp 𝕄),
        iprop(owns (c : Thread nD τ) arg2 fullShare x0 ∗ owns (c : Thread nD τ) arg5 fullShare xx ∗ (∃ d, owns (c : Thread nD τ) arg11 fullShare d) ∗ (∃ d, owns (c : Thread nD τ) arg12 fullShare d) ∗ owns (c : Thread nD τ) arg14 fullShare wos ∗ owns (c : Thread nD τ) arg15 fullShare kt ∗ owns (c : Thread nD τ) arg16 fullShare vx ∗ owns (c : Thread nD τ) arg17 fullShare qm ∗ (∃ d, owns (c : Thread nD τ) arg18 fullShare d)
            ∗ (iprop(owns (c : Thread nD τ) arg2 fullShare x0 ∗ owns (c : Thread nD τ) arg5 fullShare xx ∗ (∃ f, arg11.view.loc (c : Thread nD τ) ↦[arg11.view.set]{fullShare} arg11.view.writes (Elt F) f L11) ∗ (∃ d, owns (c : Thread nD τ) arg12 fullShare d) ∗ owns (c : Thread nD τ) arg14 fullShare wos ∗ owns (c : Thread nD τ) arg15 fullShare kt ∗ owns (c : Thread nD τ) arg16 fullShare vx ∗ owns (c : Thread nD τ) arg17 fullShare qm ∗ (∃ f, arg18.view.loc (c : Thread nD τ) ↦[arg18.view.set]{fullShare} arg18.view.writes (Elt F) f L18)) -∗ K r))
          ⊢ wp frame (wpE (defs₀ (F := F)) Variants.none c none) E (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p) K } := by
  refine ⟨?_, ?_, ?_, fun E K => ?run⟩
  case run =>
    subst hp; subst hw
    simp only [k0_part25_eq_skeleton]; unfold k0_part25_skel
    unfold owns
    iintro ⟨⟨%f2, %hf2, H2⟩, ⟨%f5, %hf5, H5⟩, ⟨%d11, %f11, -, H11⟩, ⟨%d12, %f12, -, H12⟩, ⟨%f14, %hf14, H14⟩, ⟨%f15, %hf15, H15⟩, ⟨%f16, %hf16, H16⟩, ⟨%f17, %hf17, H17⟩, ⟨%d18, %f18, -, H18⟩, Hk⟩
    obtain rfl := harg2.eq_unread hf2; obtain rfl := harg5.eq_unread hf5; obtain rfl := harg14.eq_unread hf14; obtain rfl := harg15.eq_unread hf15; obtain rfl := harg16.eq_unread hf16; obtain rfl := harg17.eq_unread hf17
    sl_exec (disch := decide)
    sl_step
    iapply Hk
    isplitl [H2]
    · iexists _; isplitr; · ipureintro; exact harg2.read_unread _
      iexact H2
    isplitl [H5]
    · iexists _; isplitr; · ipureintro; exact harg5.read_unread _
      iexact H5
    isplitl [H11]; · iexists _; iexact H11
    isplitl [H12]
    · iexists _, _; isplitr; swap; · iexact H12
      ipureintro; rfl
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    iexists _; iexact H18

end Cert.KernelIdeal.Body

end
-- ==== Proof.IAttend3.lean ====
/- The last part of the body when the table's rows fill 3 blocks of 128: the heads attended over 384 keys, the output projection and the residual. -/
module

public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
variable (c : Dev nD) (i : grid0.Coords)
  (arg2 : Memref sig .tc .smem S3x12 .f32) (harg2 : arg2.IsWhole)
  (arg3 : Memref sig .tc .smem S3 .i32) (harg3 : arg3.IsWhole)
  (arg4 : Memref sig .tc .vmem S1x1x192x640 .bf16) (harg4 : arg4.IsWhole)
  (arg5 : Memref sig .tc .vmem S1x1x192x640 .f32) (harg5 : arg5.IsWhole)
  (arg6 : Memref sig .tc .vmem S576x192 .bf16) (harg6 : arg6.IsWhole)
  (arg7 : Memref sig .tc .vmem S192x192 .bf16) (harg7 : arg7.IsWhole)
  (arg8 : Memref sig .tc .vmem S1x1x192x640 .fp8e4m3) (harg8 : arg8.IsWhole)
  (arg9 : Memref sig .tc .vmem S1x1x192x640 .fp8e4m3) (harg9 : arg9.IsWhole)
  (arg10 : Memref sig .tc .vmem S1x1x192x640 .fp8e4m3) (harg10 : arg10.IsWhole)
  (arg11 : Memref sig .tc .vmem S1x1x192x640 .bf16) (harg11 : arg11.IsWhole)
  (arg12 : Memref sig .tc .vmem S1x1x192x640 .bf16) (harg12 : arg12.IsWhole)
  (arg13 : Memref sig .tc .vmem S576x192 .bf16) (harg13 : arg13.IsWhole)
  (arg14 : Memref sig .tc .vmem S192x192 .bf16) (harg14 : arg14.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16) (harg18 : arg18.IsWhole)

set_option maxHeartbeats 4000000 in
/-- The last part of the body when the table's rows fill 3 blocks of 128: the heads attended over 384 keys, the output projection and the residual. -/
noncomputable def attend3 (a0 w : BitVec 32) (p : BitVec 1) (hw : w = 3#32) (hp : p = Scalar.cmpi .eq w 1#32) (x0 : Vec F S3x12 .f32) (xx : Vec F S1x1x192x640 .f32) (wos : Vec F S192x192 .bf16) (kt : Vec F S640x192 .fp8e4m3) (vx : Vec F S4x64x640 .bf16) (qm : Vec F S4x192x640 .fp8e4m3) :
    Σ' (L11 : (List (View.Piece (Elt F) S1x1x192x640 .bf16))) (L18 : (List (View.Piece (Elt F) S192x640 .bf16))), { r : FVec F S1x1x192x640 .bf16 //
      ∀ (E : Set ℕ) (K : FVec F S1x1x192x640 .bf16 → sProp 𝕄),
        iprop(owns (c : Thread nD τ) arg2 fullShare x0 ∗ owns (c : Thread nD τ) arg5 fullShare xx ∗ (∃ d, owns (c : Thread nD τ) arg11 fullShare d) ∗ (∃ d, owns (c : Thread nD τ) arg12 fullShare d) ∗ owns (c : Thread nD τ) arg14 fullShare wos ∗ owns (c : Thread nD τ) arg15 fullShare kt ∗ owns (c : Thread nD τ) arg16 fullShare vx ∗ owns (c : Thread nD τ) arg17 fullShare qm ∗ (∃ d, owns (c : Thread nD τ) arg18 fullShare d)
            ∗ (iprop(owns (c : Thread nD τ) arg2 fullShare x0 ∗ owns (c : Thread nD τ) arg5 fullShare xx ∗ (∃ f, arg11.view.loc (c : Thread nD τ) ↦[arg11.view.set]{fullShare} arg11.view.writes (Elt F) f L11) ∗ (∃ d, owns (c : Thread nD τ) arg12 fullShare d) ∗ owns (c : Thread nD τ) arg14 fullShare wos ∗ owns (c : Thread nD τ) arg15 fullShare kt ∗ owns (c : Thread nD τ) arg16 fullShare vx ∗ owns (c : Thread nD τ) arg17 fullShare qm ∗ (∃ f, arg18.view.loc (c : Thread nD τ) ↦[arg18.view.set]{fullShare} arg18.view.writes (Elt F) f L18)) -∗ K r))
          ⊢ wp frame (wpE (defs₀ (F := F)) Variants.none c none) E (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p) K } := by
  refine ⟨?_, ?_, ?_, fun E K => ?run⟩
  case run =>
    subst hp; subst hw
    simp only [k0_part25_eq_skeleton]; unfold k0_part25_skel
    unfold owns
    iintro ⟨⟨%f2, %hf2, H2⟩, ⟨%f5, %hf5, H5⟩, ⟨%d11, %f11, -, H11⟩, ⟨%d12, %f12, -, H12⟩, ⟨%f14, %hf14, H14⟩, ⟨%f15, %hf15, H15⟩, ⟨%f16, %hf16, H16⟩, ⟨%f17, %hf17, H17⟩, ⟨%d18, %f18, -, H18⟩, Hk⟩
    obtain rfl := harg2.eq_unread hf2; obtain rfl := harg5.eq_unread hf5; obtain rfl := harg14.eq_unread hf14; obtain rfl := harg15.eq_unread hf15; obtain rfl := harg16.eq_unread hf16; obtain rfl := harg17.eq_unread hf17
    sl_exec (disch := decide)
    sl_step
    iapply Hk
    isplitl [H2]
    · iexists _; isplitr; · ipureintro; exact harg2.read_unread _
      iexact H2
    isplitl [H5]
    · iexists _; isplitr; · ipureintro; exact harg5.read_unread _
      iexact H5
    isplitl [H11]; · iexists _; iexact H11
    isplitl [H12]
    · iexists _, _; isplitr; swap; · iexact H12
      ipureintro; rfl
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    iexists _; iexact H18

end Cert.KernelIdeal.Body

end
-- ==== Proof.IAttend4.lean ====
/- The last part of the body when the table's rows fill 4 blocks of 128: the heads attended over 512 keys, the output projection and the residual. -/
module

public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
variable (c : Dev nD) (i : grid0.Coords)
  (arg2 : Memref sig .tc .smem S3x12 .f32) (harg2 : arg2.IsWhole)
  (arg3 : Memref sig .tc .smem S3 .i32) (harg3 : arg3.IsWhole)
  (arg4 : Memref sig .tc .vmem S1x1x192x640 .bf16) (harg4 : arg4.IsWhole)
  (arg5 : Memref sig .tc .vmem S1x1x192x640 .f32) (harg5 : arg5.IsWhole)
  (arg6 : Memref sig .tc .vmem S576x192 .bf16) (harg6 : arg6.IsWhole)
  (arg7 : Memref sig .tc .vmem S192x192 .bf16) (harg7 : arg7.IsWhole)
  (arg8 : Memref sig .tc .vmem S1x1x192x640 .fp8e4m3) (harg8 : arg8.IsWhole)
  (arg9 : Memref sig .tc .vmem S1x1x192x640 .fp8e4m3) (harg9 : arg9.IsWhole)
  (arg10 : Memref sig .tc .vmem S1x1x192x640 .fp8e4m3) (harg10 : arg10.IsWhole)
  (arg11 : Memref sig .tc .vmem S1x1x192x640 .bf16) (harg11 : arg11.IsWhole)
  (arg12 : Memref sig .tc .vmem S1x1x192x640 .bf16) (harg12 : arg12.IsWhole)
  (arg13 : Memref sig .tc .vmem S576x192 .bf16) (harg13 : arg13.IsWhole)
  (arg14 : Memref sig .tc .vmem S192x192 .bf16) (harg14 : arg14.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16) (harg18 : arg18.IsWhole)

set_option maxHeartbeats 4000000 in
/-- The last part of the body when the table's rows fill 4 blocks of 128: the heads attended over 512 keys, the output projection and the residual. -/
noncomputable def attend4 (a0 w : BitVec 32) (p : BitVec 1) (hw : w = 4#32) (hp : p = Scalar.cmpi .eq w 1#32) (x0 : Vec F S3x12 .f32) (xx : Vec F S1x1x192x640 .f32) (wos : Vec F S192x192 .bf16) (kt : Vec F S640x192 .fp8e4m3) (vx : Vec F S4x64x640 .bf16) (qm : Vec F S4x192x640 .fp8e4m3) :
    Σ' (L11 : (List (View.Piece (Elt F) S1x1x192x640 .bf16))) (L18 : (List (View.Piece (Elt F) S192x640 .bf16))), { r : FVec F S1x1x192x640 .bf16 //
      ∀ (E : Set ℕ) (K : FVec F S1x1x192x640 .bf16 → sProp 𝕄),
        iprop(owns (c : Thread nD τ) arg2 fullShare x0 ∗ owns (c : Thread nD τ) arg5 fullShare xx ∗ (∃ d, owns (c : Thread nD τ) arg11 fullShare d) ∗ (∃ d, owns (c : Thread nD τ) arg12 fullShare d) ∗ owns (c : Thread nD τ) arg14 fullShare wos ∗ owns (c : Thread nD τ) arg15 fullShare kt ∗ owns (c : Thread nD τ) arg16 fullShare vx ∗ owns (c : Thread nD τ) arg17 fullShare qm ∗ (∃ d, owns (c : Thread nD τ) arg18 fullShare d)
            ∗ (iprop(owns (c : Thread nD τ) arg2 fullShare x0 ∗ owns (c : Thread nD τ) arg5 fullShare xx ∗ (∃ f, arg11.view.loc (c : Thread nD τ) ↦[arg11.view.set]{fullShare} arg11.view.writes (Elt F) f L11) ∗ (∃ d, owns (c : Thread nD τ) arg12 fullShare d) ∗ owns (c : Thread nD τ) arg14 fullShare wos ∗ owns (c : Thread nD τ) arg15 fullShare kt ∗ owns (c : Thread nD τ) arg16 fullShare vx ∗ owns (c : Thread nD τ) arg17 fullShare qm ∗ (∃ f, arg18.view.loc (c : Thread nD τ) ↦[arg18.view.set]{fullShare} arg18.view.writes (Elt F) f L18)) -∗ K r))
          ⊢ wp frame (wpE (defs₀ (F := F)) Variants.none c none) E (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p) K } := by
  refine ⟨?_, ?_, ?_, fun E K => ?run⟩
  case run =>
    subst hp; subst hw
    simp only [k0_part25_eq_skeleton]; unfold k0_part25_skel
    unfold owns
    iintro ⟨⟨%f2, %hf2, H2⟩, ⟨%f5, %hf5, H5⟩, ⟨%d11, %f11, -, H11⟩, ⟨%d12, %f12, -, H12⟩, ⟨%f14, %hf14, H14⟩, ⟨%f15, %hf15, H15⟩, ⟨%f16, %hf16, H16⟩, ⟨%f17, %hf17, H17⟩, ⟨%d18, %f18, -, H18⟩, Hk⟩
    obtain rfl := harg2.eq_unread hf2; obtain rfl := harg5.eq_unread hf5; obtain rfl := harg14.eq_unread hf14; obtain rfl := harg15.eq_unread hf15; obtain rfl := harg16.eq_unread hf16; obtain rfl := harg17.eq_unread hf17
    sl_exec (disch := decide)
    sl_step
    iapply Hk
    isplitl [H2]
    · iexists _; isplitr; · ipureintro; exact harg2.read_unread _
      iexact H2
    isplitl [H5]
    · iexists _; isplitr; · ipureintro; exact harg5.read_unread _
      iexact H5
    isplitl [H11]; · iexists _; iexact H11
    isplitl [H12]
    · iexists _, _; isplitr; swap; · iexact H12
      ipureintro; rfl
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    iexists _; iexact H18

end Cert.KernelIdeal.Body

end
-- ==== Proof.IAttend5.lean ====
/- The last part of the body when the table's rows fill 5 blocks of 128: the heads attended over 640 keys, the output projection and the residual. -/
module

public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
variable (c : Dev nD) (i : grid0.Coords)
  (arg2 : Memref sig .tc .smem S3x12 .f32) (harg2 : arg2.IsWhole)
  (arg3 : Memref sig .tc .smem S3 .i32) (harg3 : arg3.IsWhole)
  (arg4 : Memref sig .tc .vmem S1x1x192x640 .bf16) (harg4 : arg4.IsWhole)
  (arg5 : Memref sig .tc .vmem S1x1x192x640 .f32) (harg5 : arg5.IsWhole)
  (arg6 : Memref sig .tc .vmem S576x192 .bf16) (harg6 : arg6.IsWhole)
  (arg7 : Memref sig .tc .vmem S192x192 .bf16) (harg7 : arg7.IsWhole)
  (arg8 : Memref sig .tc .vmem S1x1x192x640 .fp8e4m3) (harg8 : arg8.IsWhole)
  (arg9 : Memref sig .tc .vmem S1x1x192x640 .fp8e4m3) (harg9 : arg9.IsWhole)
  (arg10 : Memref sig .tc .vmem S1x1x192x640 .fp8e4m3) (harg10 : arg10.IsWhole)
  (arg11 : Memref sig .tc .vmem S1x1x192x640 .bf16) (harg11 : arg11.IsWhole)
  (arg12 : Memref sig .tc .vmem S1x1x192x640 .bf16) (harg12 : arg12.IsWhole)
  (arg13 : Memref sig .tc .vmem S576x192 .bf16) (harg13 : arg13.IsWhole)
  (arg14 : Memref sig .tc .vmem S192x192 .bf16) (harg14 : arg14.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16) (harg18 : arg18.IsWhole)

set_option maxHeartbeats 4000000 in
/-- The last part of the body when the table's rows fill 5 blocks of 128: the heads attended over 640 keys, the output projection and the residual. -/
noncomputable def attend5 (a0 w : BitVec 32) (p : BitVec 1) (hw : w = 5#32) (hp : p = Scalar.cmpi .eq w 1#32) (x0 : Vec F S3x12 .f32) (xx : Vec F S1x1x192x640 .f32) (wos : Vec F S192x192 .bf16) (kt : Vec F S640x192 .fp8e4m3) (vx : Vec F S4x64x640 .bf16) (qm : Vec F S4x192x640 .fp8e4m3) :
    Σ' (L11 : (List (View.Piece (Elt F) S1x1x192x640 .bf16))) (L18 : (List (View.Piece (Elt F) S192x640 .bf16))), { r : FVec F S1x1x192x640 .bf16 //
      ∀ (E : Set ℕ) (K : FVec F S1x1x192x640 .bf16 → sProp 𝕄),
        iprop(owns (c : Thread nD τ) arg2 fullShare x0 ∗ owns (c : Thread nD τ) arg5 fullShare xx ∗ (∃ d, owns (c : Thread nD τ) arg11 fullShare d) ∗ (∃ d, owns (c : Thread nD τ) arg12 fullShare d) ∗ owns (c : Thread nD τ) arg14 fullShare wos ∗ owns (c : Thread nD τ) arg15 fullShare kt ∗ owns (c : Thread nD τ) arg16 fullShare vx ∗ owns (c : Thread nD τ) arg17 fullShare qm ∗ (∃ d, owns (c : Thread nD τ) arg18 fullShare d)
            ∗ (iprop(owns (c : Thread nD τ) arg2 fullShare x0 ∗ owns (c : Thread nD τ) arg5 fullShare xx ∗ (∃ f, arg11.view.loc (c : Thread nD τ) ↦[arg11.view.set]{fullShare} arg11.view.writes (Elt F) f L11) ∗ (∃ d, owns (c : Thread nD τ) arg12 fullShare d) ∗ owns (c : Thread nD τ) arg14 fullShare wos ∗ owns (c : Thread nD τ) arg15 fullShare kt ∗ owns (c : Thread nD τ) arg16 fullShare vx ∗ owns (c : Thread nD τ) arg17 fullShare qm ∗ (∃ f, arg18.view.loc (c : Thread nD τ) ↦[arg18.view.set]{fullShare} arg18.view.writes (Elt F) f L18)) -∗ K r))
          ⊢ wp frame (wpE (defs₀ (F := F)) Variants.none c none) E (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p) K } := by
  refine ⟨?_, ?_, ?_, fun E K => ?run⟩
  case run =>
    subst hp; subst hw
    simp only [k0_part25_eq_skeleton]; unfold k0_part25_skel
    unfold owns
    iintro ⟨⟨%f2, %hf2, H2⟩, ⟨%f5, %hf5, H5⟩, ⟨%d11, %f11, -, H11⟩, ⟨%d12, %f12, -, H12⟩, ⟨%f14, %hf14, H14⟩, ⟨%f15, %hf15, H15⟩, ⟨%f16, %hf16, H16⟩, ⟨%f17, %hf17, H17⟩, ⟨%d18, %f18, -, H18⟩, Hk⟩
    obtain rfl := harg2.eq_unread hf2; obtain rfl := harg5.eq_unread hf5; obtain rfl := harg14.eq_unread hf14; obtain rfl := harg15.eq_unread hf15; obtain rfl := harg16.eq_unread hf16; obtain rfl := harg17.eq_unread hf17
    sl_exec (disch := decide)
    sl_step
    iapply Hk
    isplitl [H2]
    · iexists _; isplitr; · ipureintro; exact harg2.read_unread _
      iexact H2
    isplitl [H5]
    · iexists _; isplitr; · ipureintro; exact harg5.read_unread _
      iexact H5
    isplitl [H11]; · iexists _; iexact H11
    isplitl [H12]
    · iexists _, _; isplitr; swap; · iexact H12
      ipureintro; rfl
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    iexists _; iexact H18

end Cert.KernelIdeal.Body

end
-- ==== Proof.IBody.lean ====
/- The kernel body as a whole, its results forgotten: it runs from any contents of its outputs and scratch buffers. -/
module

public import proofs.«01_k».proof.Proof.Gen.KernelIdeal.Skeleton
public import proofs.«01_k».proof.Proof.IStart
public import proofs.«01_k».proof.Proof.IMid
public import proofs.«01_k».proof.Proof.IAttend0
public import proofs.«01_k».proof.Proof.IAttend1
public import proofs.«01_k».proof.Proof.IAttend2
public import proofs.«01_k».proof.Proof.IAttend3
public import proofs.«01_k».proof.Proof.IAttend4
public import proofs.«01_k».proof.Proof.IAttend5
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
variable (c : Dev nD) (i : grid0.Coords)
  (arg2 : Memref sig .tc .smem S3x12 .f32) (harg2 : arg2.IsWhole)
  (arg3 : Memref sig .tc .smem S3 .i32) (harg3 : arg3.IsWhole)
  (arg4 : Memref sig .tc .vmem S1x1x192x640 .bf16) (harg4 : arg4.IsWhole)
  (arg5 : Memref sig .tc .vmem S1x1x192x640 .f32) (harg5 : arg5.IsWhole)
  (arg6 : Memref sig .tc .vmem S576x192 .bf16) (harg6 : arg6.IsWhole)
  (arg7 : Memref sig .tc .vmem S192x192 .bf16) (harg7 : arg7.IsWhole)
  (arg8 : Memref sig .tc .vmem S1x1x192x640 .fp8e4m3) (harg8 : arg8.IsWhole)
  (arg9 : Memref sig .tc .vmem S1x1x192x640 .fp8e4m3) (harg9 : arg9.IsWhole)
  (arg10 : Memref sig .tc .vmem S1x1x192x640 .fp8e4m3) (harg10 : arg10.IsWhole)
  (arg11 : Memref sig .tc .vmem S1x1x192x640 .bf16) (harg11 : arg11.IsWhole)
  (arg12 : Memref sig .tc .vmem S1x1x192x640 .bf16) (harg12 : arg12.IsWhole)
  (arg13 : Memref sig .tc .vmem S576x192 .bf16) (harg13 : arg13.IsWhole)
  (arg14 : Memref sig .tc .vmem S192x192 .bf16) (harg14 : arg14.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16) (harg18 : arg18.IsWhole)

/-- The body is its five outer parts and the last store, one after another. -/
theorem rows_eq : cc0_rows (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 >>= fun a =>
    k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a.2.1 a.2.2.1 a.2.2.2.1 a.2.2.2.2.1 a.2.2.2.2.2.1 a.2.2.2.2.2.2 >>= fun b =>
    k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a.2.2.1 b.1 b.2.1 b.2.2.1 b.2.2.2 >>= fun d =>
    k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a.2.1 a.2.2.1 b.2.1 b.2.2.1 d >>= fun e =>
    k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a.1 e.1 e.2 >>= fun v => Prog.lift (.store arg12 (Rect.unit (s := S1x1x192x640) ![0, 0, 0, 0] S1x1x192x640.size inb_S1x1x192x640_S1x1x192x640_0_0_0_0) v Finset.univ (View.stores_vmem h_S1x1x192x640 (harg12.storeExact_slice rfl _ packedbf16_S1x1x192x640_S1x1x192x640_0_0_0_0) (fun _ => rfl)) (.inl rfl)) >>= fun _ => pure ⟨⟩) := rfl

set_option maxHeartbeats 4000000 in
/-- The last part of the body and its last store, whatever the block count, the results forgotten. -/
theorem lastForget (a0 w : BitVec 32) (p : BitVec 1) (hp : p = Scalar.cmpi .eq w 1#32) (x0 : Vec F S3x12 .f32) (xx : Vec F S1x1x192x640 .f32) (wos : Vec F S192x192 .bf16)
    (E : Set ℕ) (K : PUnit → sProp 𝕄) :
    iprop(owns (c : Thread nD τ) arg2 fullShare x0 ∗ owns (c : Thread nD τ) arg5 fullShare xx ∗ (∃ d, owns (c : Thread nD τ) arg11 fullShare d) ∗ (∃ d, owns (c : Thread nD τ) arg12 fullShare d) ∗ owns (c : Thread nD τ) arg14 fullShare wos ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (iprop(owns (c : Thread nD τ) arg2 fullShare x0 ∗ owns (c : Thread nD τ) arg5 fullShare xx ∗ (∃ d, owns (c : Thread nD τ) arg11 fullShare d) ∗ (∃ d, owns (c : Thread nD τ) arg12 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) E (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p) (fun v => wp frame (wpE (defs₀ (F := F)) Variants.none c none) E (Prog.lift (.store arg12 (Rect.unit (s := S1x1x192x640) ![0, 0, 0, 0] S1x1x192x640.size inb_S1x1x192x640_S1x1x192x640_0_0_0_0) v Finset.univ (View.stores_vmem h_S1x1x192x640 (harg12.storeExact_slice rfl _ packedbf16_S1x1x192x640_S1x1x192x640_0_0_0_0) (fun _ => rfl)) (.inl rfl))) (fun _ => wp frame (wpE (defs₀ (F := F)) Variants.none c none) E (pure ⟨⟩) K)) := by
  iintro ⟨H2, H5, H11, H12, H14, ⟨%kt, H15⟩, ⟨%vx, H16⟩, ⟨%qm, H17⟩, ⟨%o, H18⟩, Hk⟩
  by_cases hw1 : w = 1#32
  · iapply ((attend1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw1 hp x0 xx wos kt vx qm).2.2.2 E _)
    isplitl [H2]; · iexact H2
    isplitl [H5]; · iexact H5
    isplitl [H11]; · iexact H11
    isplitl [H12]; · iexact H12
    isplitl [H14]; · iexact H14
    isplitl [H15]; · iexact H15
    isplitl [H16]; · iexact H16
    isplitl [H17]; · iexact H17
    isplitl [H18]; · iexists _; iexact H18
    iintro ⟨H2, H5, ⟨%f11, H11⟩, ⟨%d12, H12⟩, H14, H15, H16, H17, ⟨%f18, H18⟩⟩
    unfold owns
    icases H12 with ⟨%f12, -, H12⟩
    sl_exec
    try sl_step
    iapply Hk
    isplitl [H2]; · iexact H2
    isplitl [H5]; · iexact H5
    isplitl [H11]
    · iexists _, _; isplitr; swap; · iexact H11
      ipureintro; rfl
    isplitl [H12]
    · iexists _, _; isplitr; swap; · iexact H12
      ipureintro; rfl
    isplitl [H14]; · iexists _; iexact H14
    isplitl [H15]; · iexists _; iexact H15
    isplitl [H16]; · iexists _; iexact H16
    isplitl [H17]; · iexists _; iexact H17
    iexists _, _; isplitr; swap; · iexact H18
    ipureintro; rfl
  by_cases hw2 : w = 2#32
  · iapply ((attend2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw2 hp x0 xx wos kt vx qm).2.2.2 E _)
    isplitl [H2]; · iexact H2
    isplitl [H5]; · iexact H5
    isplitl [H11]; · iexact H11
    isplitl [H12]; · iexact H12
    isplitl [H14]; · iexact H14
    isplitl [H15]; · iexact H15
    isplitl [H16]; · iexact H16
    isplitl [H17]; · iexact H17
    isplitl [H18]; · iexists _; iexact H18
    iintro ⟨H2, H5, ⟨%f11, H11⟩, ⟨%d12, H12⟩, H14, H15, H16, H17, ⟨%f18, H18⟩⟩
    unfold owns
    icases H12 with ⟨%f12, -, H12⟩
    sl_exec
    try sl_step
    iapply Hk
    isplitl [H2]; · iexact H2
    isplitl [H5]; · iexact H5
    isplitl [H11]
    · iexists _, _; isplitr; swap; · iexact H11
      ipureintro; rfl
    isplitl [H12]
    · iexists _, _; isplitr; swap; · iexact H12
      ipureintro; rfl
    isplitl [H14]; · iexists _; iexact H14
    isplitl [H15]; · iexists _; iexact H15
    isplitl [H16]; · iexists _; iexact H16
    isplitl [H17]; · iexists _; iexact H17
    iexists _, _; isplitr; swap; · iexact H18
    ipureintro; rfl
  by_cases hw3 : w = 3#32
  · iapply ((attend3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw3 hp x0 xx wos kt vx qm).2.2.2 E _)
    isplitl [H2]; · iexact H2
    isplitl [H5]; · iexact H5
    isplitl [H11]; · iexact H11
    isplitl [H12]; · iexact H12
    isplitl [H14]; · iexact H14
    isplitl [H15]; · iexact H15
    isplitl [H16]; · iexact H16
    isplitl [H17]; · iexact H17
    isplitl [H18]; · iexists _; iexact H18
    iintro ⟨H2, H5, ⟨%f11, H11⟩, ⟨%d12, H12⟩, H14, H15, H16, H17, ⟨%f18, H18⟩⟩
    unfold owns
    icases H12 with ⟨%f12, -, H12⟩
    sl_exec
    try sl_step
    iapply Hk
    isplitl [H2]; · iexact H2
    isplitl [H5]; · iexact H5
    isplitl [H11]
    · iexists _, _; isplitr; swap; · iexact H11
      ipureintro; rfl
    isplitl [H12]
    · iexists _, _; isplitr; swap; · iexact H12
      ipureintro; rfl
    isplitl [H14]; · iexists _; iexact H14
    isplitl [H15]; · iexists _; iexact H15
    isplitl [H16]; · iexists _; iexact H16
    isplitl [H17]; · iexists _; iexact H17
    iexists _, _; isplitr; swap; · iexact H18
    ipureintro; rfl
  by_cases hw4 : w = 4#32
  · iapply ((attend4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw4 hp x0 xx wos kt vx qm).2.2.2 E _)
    isplitl [H2]; · iexact H2
    isplitl [H5]; · iexact H5
    isplitl [H11]; · iexact H11
    isplitl [H12]; · iexact H12
    isplitl [H14]; · iexact H14
    isplitl [H15]; · iexact H15
    isplitl [H16]; · iexact H16
    isplitl [H17]; · iexact H17
    isplitl [H18]; · iexists _; iexact H18
    iintro ⟨H2, H5, ⟨%f11, H11⟩, ⟨%d12, H12⟩, H14, H15, H16, H17, ⟨%f18, H18⟩⟩
    unfold owns
    icases H12 with ⟨%f12, -, H12⟩
    sl_exec
    try sl_step
    iapply Hk
    isplitl [H2]; · iexact H2
    isplitl [H5]; · iexact H5
    isplitl [H11]
    · iexists _, _; isplitr; swap; · iexact H11
      ipureintro; rfl
    isplitl [H12]
    · iexists _, _; isplitr; swap; · iexact H12
      ipureintro; rfl
    isplitl [H14]; · iexists _; iexact H14
    isplitl [H15]; · iexists _; iexact H15
    isplitl [H16]; · iexists _; iexact H16
    isplitl [H17]; · iexists _; iexact H17
    iexists _, _; isplitr; swap; · iexact H18
    ipureintro; rfl
  by_cases hw5 : w = 5#32
  · iapply ((attend5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw5 hp x0 xx wos kt vx qm).2.2.2 E _)
    isplitl [H2]; · iexact H2
    isplitl [H5]; · iexact H5
    isplitl [H11]; · iexact H11
    isplitl [H12]; · iexact H12
    isplitl [H14]; · iexact H14
    isplitl [H15]; · iexact H15
    isplitl [H16]; · iexact H16
    isplitl [H17]; · iexact H17
    isplitl [H18]; · iexists _; iexact H18
    iintro ⟨H2, H5, ⟨%f11, H11⟩, ⟨%d12, H12⟩, H14, H15, H16, H17, ⟨%f18, H18⟩⟩
    unfold owns
    icases H12 with ⟨%f12, -, H12⟩
    sl_exec
    try sl_step
    iapply Hk
    isplitl [H2]; · iexact H2
    isplitl [H5]; · iexact H5
    isplitl [H11]
    · iexists _, _; isplitr; swap; · iexact H11
      ipureintro; rfl
    isplitl [H12]
    · iexists _, _; isplitr; swap; · iexact H12
      ipureintro; rfl
    isplitl [H14]; · iexists _; iexact H14
    isplitl [H15]; · iexists _; iexact H15
    isplitl [H16]; · iexists _; iexact H16
    isplitl [H17]; · iexists _; iexact H17
    iexists _, _; isplitr; swap; · iexact H18
    ipureintro; rfl
  iapply ((attendNone c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hp hw1 hw2 hw3 hw4 hw5 xx wos o).2.2 E _)
  isplitl [H5]; · iexact H5
  isplitl [H11]; · iexact H11
  isplitl [H12]; · iexact H12
  isplitl [H14]; · iexact H14
  isplitl [H18]; · iexact H18
  iintro ⟨H5, ⟨%f11, H11⟩, ⟨%d12, H12⟩, H14, H18⟩
  unfold owns
  icases H12 with ⟨%f12, -, H12⟩
  sl_exec
  try sl_step
  iapply Hk
  isplitl [H2]; · iexact H2
  isplitl [H5]; · iexact H5
  isplitl [H11]
  · iexists _, _; isplitr; swap; · iexact H11
    ipureintro; rfl
  isplitl [H12]
  · iexists _, _; isplitr; swap; · iexact H12
    ipureintro; rfl
  isplitl [H14]; · iexists _; iexact H14
  isplitl [H15]; · iexists _; iexact H15
  isplitl [H16]; · iexists _; iexact H16
  isplitl [H17]; · iexists _; iexact H17
  iexists _; iexact H18

set_option maxHeartbeats 4000000 in
/-- The whole body, its results forgotten: from the inputs at their contents and everything else at anything it
    ends with the inputs unchanged and everything else at something. -/
theorem bodyForget (x0 : Vec F S3x12 .f32) (x1 : Vec F S3 .i32) (xh : Vec F S1x1x192x640 .bf16) (xx : Vec F S1x1x192x640 .f32) (xw : Vec F S576x192 .bf16) (xo : Vec F S192x192 .bf16)
    (E : Set ℕ) (K : PUnit → sProp 𝕄) :
    iprop(owns (c : Thread nD τ) arg2 fullShare x0 ∗ owns (c : Thread nD τ) arg3 fullShare x1 ∗ owns (c : Thread nD τ) arg4 fullShare xh ∗ owns (c : Thread nD τ) arg5 fullShare xx ∗ owns (c : Thread nD τ) arg6 fullShare xw ∗ owns (c : Thread nD τ) arg7 fullShare xo ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (iprop(owns (c : Thread nD τ) arg2 fullShare x0 ∗ owns (c : Thread nD τ) arg3 fullShare x1 ∗ owns (c : Thread nD τ) arg4 fullShare xh ∗ owns (c : Thread nD τ) arg5 fullShare xx ∗ owns (c : Thread nD τ) arg6 fullShare xw ∗ owns (c : Thread nD τ) arg7 fullShare xo ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩)) ⊢ wp frame (wpE (defs₀ (F := F)) Variants.none c none) E (cc0_rows i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [rows_eq]; simp only [wp_bind]
  iintro ⟨H2, H3, H4, H5, H6, H7, H8, H9, H10, H11, H12, H13, ⟨%wos, H14⟩, H15, H16, H17, H18, Hk⟩
  by_cases hc : k0_cond1 i = 1#1
  · iapply ((startA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 xh xw xo).2.2.2.2.2.2 E _)
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H13]; · iexact H13
    isplitl [H14]; · iexists _; iexact H14
    iintro ⟨H2, H3, H4, H6, H7, ⟨%f8, H8⟩, ⟨%f9, H9⟩, ⟨%f10, H10⟩, ⟨%f13, H13⟩, ⟨%f14, H14⟩⟩
    iapply ((midRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _).2.2.2.2 E _)
    isplitl [H15]; · iexact H15
    isplitl [H16]; · iexact H16
    isplitl [H17]; · iexact H17
    iintro ⟨⟨%f15, H15⟩, ⟨%f16, H16⟩, ⟨%f17, H17⟩⟩
    iapply (lastForget c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ rfl x0 xx _ E K)
    isplitl [H2]; · iexact H2
    isplitl [H5]; · iexact H5
    isplitl [H11]; · iexact H11
    isplitl [H12]; · iexact H12
    isplitl [H14]
    · unfold owns; iexists _; isplitr; swap; · iexact H14
      ipureintro; rfl
    isplitl [H15]
    · unfold owns; iexists _, _; isplitr; swap; · iexact H15
      ipureintro; rfl
    isplitl [H16]
    · unfold owns; iexists _, _; isplitr; swap; · iexact H16
      ipureintro; rfl
    isplitl [H17]
    · unfold owns; iexists _, _; isplitr; swap; · iexact H17
      ipureintro; rfl
    isplitl [H18]; · iexact H18
    iintro ⟨H2, H5, H11, H12, H14, H15, H16, H17, H18⟩
    iapply Hk
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _, _; isplitr; swap; · iexact H8
      ipureintro; rfl
    isplitl [H9]
    · unfold owns; iexists _, _; isplitr; swap; · iexact H9
      ipureintro; rfl
    isplitl [H10]
    · unfold owns; iexists _, _; isplitr; swap; · iexact H10
      ipureintro; rfl
    isplitl [H11]; · iexact H11
    isplitl [H12]; · iexact H12
    isplitl [H13]
    · unfold owns; iexists _, _; isplitr; swap; · iexact H13
      ipureintro; rfl
    isplitl [H14]; · iexact H14
    isplitl [H15]; · iexact H15
    isplitl [H16]; · iexact H16
    isplitl [H17]; · iexact H17
    iexact H18
  · icases H13 with ⟨%ws, H13⟩
    iapply ((startB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 xh ws).2.2.2.2 E _)
    isplitl [H3]; · iexact H3
    isplitl [H4]; · iexact H4
    isplitl [H8]; · iexact H8
    isplitl [H9]; · iexact H9
    isplitl [H10]; · iexact H10
    isplitl [H13]; · iexact H13
    iintro ⟨H3, H4, ⟨%f8, H8⟩, ⟨%f9, H9⟩, ⟨%f10, H10⟩, H13⟩
    iapply ((midRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _).2.2.2.2 E _)
    isplitl [H15]; · iexact H15
    isplitl [H16]; · iexact H16
    isplitl [H17]; · iexact H17
    iintro ⟨⟨%f15, H15⟩, ⟨%f16, H16⟩, ⟨%f17, H17⟩⟩
    iapply (lastForget c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ rfl x0 xx _ E K)
    isplitl [H2]; · iexact H2
    isplitl [H5]; · iexact H5
    isplitl [H11]; · iexact H11
    isplitl [H12]; · iexact H12
    isplitl [H14]; · iexact H14
    isplitl [H15]
    · unfold owns; iexists _, _; isplitr; swap; · iexact H15
      ipureintro; rfl
    isplitl [H16]
    · unfold owns; iexists _, _; isplitr; swap; · iexact H16
      ipureintro; rfl
    isplitl [H17]
    · unfold owns; iexists _, _; isplitr; swap; · iexact H17
      ipureintro; rfl
    isplitl [H18]; · iexact H18
    iintro ⟨H2, H5, H11, H12, H14, H15, H16, H17, H18⟩
    iapply Hk
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _, _; isplitr; swap; · iexact H8
      ipureintro; rfl
    isplitl [H9]
    · unfold owns; iexists _, _; isplitr; swap; · iexact H9
      ipureintro; rfl
    isplitl [H10]
    · unfold owns; iexists _, _; isplitr; swap; · iexact H10
      ipureintro; rfl
    isplitl [H11]; · iexact H11
    isplitl [H12]; · iexact H12
    isplitl [H13]; · iexists _; iexact H13
    isplitl [H14]; · iexact H14
    isplitl [H15]; · iexact H15
    isplitl [H16]; · iexact H16
    isplitl [H17]; · iexact H17
    iexact H18

end Cert.KernelIdeal.Body

end
-- ==== Proof.IFrame.lean ====
/- The frame of the program: from any memory every execution ends, the arguments unchanged and the semaphores at zero. -/
module

public import proofs.«01_k».proof.Proof.Gen.KernelIdeal.Skeleton
public import proofs.«01_k».proof.Proof.IMemrefs
public import proofs.«01_k».proof.Proof.IBody
public import Idealize.ShloMosaic.Lib.Pipeline.FrameBody
public import Idealize.ShloMosaic.Lib.Ring
public import Idealize.ShloMosaic.Lib.Claim
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The windows whose contents the frame says nothing of: the five outputs. -/
def forgets0 : Fin 11 → Bool := fun w => decide (6 ≤ w.val)

/-- The proof data of the frame: the inputs at their blocks, the outputs unnamed, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- Input 0 after the body: its block. -/
theorem after0 (c : Dev nD) (t : Fin cfg0.N) : (dats m 0 c).after 0 t = iblk m c 0 t := by dsimp only [dats]
/-- Input 0 before the body: its block. -/
theorem before0 (c : Dev nD) (t : Fin cfg0.N) (d) : (dats m 0 c).before 0 t d = iblk m c 0 t :=
  before0_0_of m (dats m 0 c) (A_eq m c 0) (after0 m c) t d

/-- Input 1 after the body: its block. -/
theorem after1 (c : Dev nD) (t : Fin cfg0.N) : (dats m 0 c).after 1 t = iblk m c 1 t := by dsimp only [dats]
/-- Input 1 before the body: its block. -/
theorem before1 (c : Dev nD) (t : Fin cfg0.N) (d) : (dats m 0 c).before 1 t d = iblk m c 1 t :=
  before0_1_of m (dats m 0 c) (A_eq m c 1) (after1 m c) t d

/-- Input 2 after the body: its block. -/
theorem after2 (c : Dev nD) (t : Fin cfg0.N) : (dats m 0 c).after 2 t = iblk m c 2 t := by dsimp only [dats]
/-- Input 2 before the body: its block. -/
theorem before2 (c : Dev nD) (t : Fin cfg0.N) (d) : (dats m 0 c).before 2 t d = iblk m c 2 t :=
  before0_2_of m (dats m 0 c) (A_eq m c 2) (after2 m c) t d

/-- Input 3 after the body: its block. -/
theorem after3 (c : Dev nD) (t : Fin cfg0.N) : (dats m 0 c).after 3 t = iblk m c 3 t := by dsimp only [dats]
/-- Input 3 before the body: its block. -/
theorem before3 (c : Dev nD) (t : Fin cfg0.N) (d) : (dats m 0 c).before 3 t d = iblk m c 3 t :=
  before0_3_of m (dats m 0 c) (A_eq m c 3) (after3 m c) t d

/-- Input 4 after the body: its block. -/
theorem after4 (c : Dev nD) (t : Fin cfg0.N) : (dats m 0 c).after 4 t = iblk m c 4 t := by dsimp only [dats]
/-- Input 4 before the body: its block. -/
theorem before4 (c : Dev nD) (t : Fin cfg0.N) (d) : (dats m 0 c).before 4 t d = iblk m c 4 t :=
  before0_4_of m (dats m 0 c) (A_eq m c 4) (after4 m c) t d

/-- Input 5 after the body: its block. -/
theorem after5 (c : Dev nD) (t : Fin cfg0.N) : (dats m 0 c).after 5 t = iblk m c 5 t := by dsimp only [dats]
/-- Input 5 before the body: its block. -/
theorem before5 (c : Dev nD) (t : Fin cfg0.N) (d) : (dats m 0 c).before 5 t d = iblk m c 5 t :=
  before0_5_of m (dats m 0 c) (A_eq m c 5) (after5 m c) t d

/-- What the body is called with at point `t`. -/
def bodyPre (c : Dev nD) (t : Fin cfg0.N) : sProp 𝕄 :=
  iprop((dats m 0 c).Φ t.castSucc ∗ (dats m 0 c).owesAt () t.castSucc
        ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
        ∗ (∃ d, owns (c : Thread nD τ) (ms6 t) fullShare d)
    ∗ (∃ d, owns (c : Thread nD τ) (ms7 t) fullShare d)
    ∗ (∃ d, owns (c : Thread nD τ) (ms8 t) fullShare d)
    ∗ (∃ d, owns (c : Thread nD τ) (ms9 t) fullShare d)
    ∗ (∃ d, owns (c : Thread nD τ) (ms10 t) fullShare d))

/-- What it returns. -/
def bodyPost (c : Dev nD) (t : Fin cfg0.N) : sProp 𝕄 :=
  iprop((dats m 0 c).Φ t.succ ∗ (dats m 0 c).owesAt () t.succ
        ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
        ∗ (∃ d, owns (c : Thread nD τ) (ms6 t) fullShare d)
    ∗ (∃ d, owns (c : Thread nD τ) (ms7 t) fullShare d)
    ∗ (∃ d, owns (c : Thread nD τ) (ms8 t) fullShare d)
    ∗ (∃ d, owns (c : Thread nD τ) (ms9 t) fullShare d)
    ∗ (∃ d, owns (c : Thread nD τ) (ms10 t) fullShare d))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5]
  rw [show (dats m 0 c).Φ t.castSucc = Pipeline.ΦA spec0 c from rfl, PhiA_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, H6, H7, H8, H9, H10⟩
  iapply (bodyForget c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every execution ends, the inputs unchanged, every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged, from a run to the frame's post. -/
theorem frame_from (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-- The frame: every execution ends, the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_from m ρ (fun c => (dats m 0 c).toRForget forgets0) (A_eq m) ((θ_run defs _ _).mono (fun _ h => h.1) (run_main_quiescent m ρ)))
    ((θ_run defs _ _).mono (fun _ h => h.2) (run_main_quiescent m ρ))

end Cert.KernelIdeal.Body

end
-- ==== Proof.RHost.lean ====
/- The host operations of the reference over the extended reals, read at an index. -/
module

public import proofs.«01_k».proof.Proof.Gen.RefIdeal.Frame
public import Idealize.ShloMosaic.Lib.Claim
public import Idealize.ShloMosaic.Lib.Pointwise
public import Idealize.ShloMosaic.Lib.Pipeline.ValueKit

@[expose] public section

set_option maxRecDepth 16384

noncomputable section

namespace Cert.RefIdeal.Val

open Cert.RefIdeal Cert.RefIdeal.Gen
open Idealize.ShloMosaic Idealize.ShloMosaic.TcCoe Idealize.SL.Sem

variable (σ : Valuation τ sig (Elt Ideal))

/-- The reference operation of the row maxima. -/
abbrev opsE1 {F : FTy → Type} [FloatOps F] : List (HloOp τ sig (Elt F)) :=
  [ StableHlo.nullary main_cst_4 (constant S_ .f32 0xFF800000#32),
    StableHlo.binary main_v46 main_cst_4 main_v47 ((fun x v => Host.reduce FloatOps.maximumf x v reducesTo_S3x56x4x640x640_S3x56x4x640_d4 h_S_) : (⟨S3x56x4x640x640, .f32⟩ : BufTy).Contents (Elt F) → (⟨S_, .f32⟩ : BufTy).Contents (Elt F) → (⟨S3x56x4x640, .f32⟩ : BufTy).Contents (Elt F)) ]

/-- The reference operations from the row maxima to the exponentials. -/
abbrev opsE2 {F : FTy → Type} [FloatOps F] : List (HloOp τ sig (Elt F)) :=
  [ StableHlo.nullary main_cst_5 (constant S_ .f32 0xFF800000#32),
    StableHlo.unary main_cst_5 main_v48 (broadcastInDim S3x56x4x640 ![] bcast_S_S3x56x4x640 : (⟨S_, .f32⟩ : BufTy).Contents (Elt F) → (⟨S3x56x4x640, .f32⟩ : BufTy).Contents (Elt F)),
    StableHlo.binary main_v48 main_v47 main_v49 (maximumf : (⟨S3x56x4x640, .f32⟩ : BufTy).Contents (Elt F) → (⟨S3x56x4x640, .f32⟩ : BufTy).Contents (Elt F) → (⟨S3x56x4x640, .f32⟩ : BufTy).Contents (Elt F)),
    StableHlo.unary main_v49 main_v50 (broadcastInDim S3x56x4x640x1 ![0, 1, 2, 3] bcast_S3x56x4x640_S3x56x4x640x1_0_1_2_3 : (⟨S3x56x4x640, .f32⟩ : BufTy).Contents (Elt F) → (⟨S3x56x4x640x1, .f32⟩ : BufTy).Contents (Elt F)),
    StableHlo.unary main_v50 main_v51 (broadcastInDim S3x56x4x640x640 ![0, 1, 2, 3, 4] bcast_S3x56x4x640x1_S3x56x4x640x640_0_1_2_3_4 : (⟨S3x56x4x640x1, .f32⟩ : BufTy).Contents (Elt F) → (⟨S3x56x4x640x640, .f32⟩ : BufTy).Contents (Elt F)),
    StableHlo.binary main_v46 main_v51 main_v52 (subf : (⟨S3x56x4x640x640, .f32⟩ : BufTy).Contents (Elt F) → (⟨S3x56x4x640x640, .f32⟩ : BufTy).Contents (Elt F) → (⟨S3x56x4x640x640, .f32⟩ : BufTy).Contents (Elt F)),
    StableHlo.unary main_v52 main_v53 (Host.exp : (⟨S3x56x4x640x640, .f32⟩ : BufTy).Contents (Elt F) → (⟨S3x56x4x640x640, .f32⟩ : BufTy).Contents (Elt F)) ]

/-- The reference operations from the exponentials to the probabilities. -/
abbrev opsF {F : FTy → Type} [FloatOps F] : List (HloOp τ sig (Elt F)) :=
  [ StableHlo.nullary main_cst_6 (constant S_ .f32 0x00000000#32),
    StableHlo.binary main_v53 main_cst_6 main_v54 ((fun x v => Host.reduceAdd x v reducesTo_S3x56x4x640x640_S3x56x4x640_d4 h_S_) : (⟨S3x56x4x640x640, .f32⟩ : BufTy).Contents (Elt F) → (⟨S_, .f32⟩ : BufTy).Contents (Elt F) → (⟨S3x56x4x640, .f32⟩ : BufTy).Contents (Elt F)),
    StableHlo.unary main_v54 main_v55 (broadcastInDim S3x56x4x640x1 ![0, 1, 2, 3] bcast_S3x56x4x640_S3x56x4x640x1_0_1_2_3 : (⟨S3x56x4x640, .f32⟩ : BufTy).Contents (Elt F) → (⟨S3x56x4x640x1, .f32⟩ : BufTy).Contents (Elt F)),
    StableHlo.unary main_v55 main_v56 (broadcastInDim S3x56x4x640x640 ![0, 1, 2, 3, 4] bcast_S3x56x4x640x1_S3x56x4x640x640_0_1_2_3_4 : (⟨S3x56x4x640x1, .f32⟩ : BufTy).Contents (Elt F) → (⟨S3x56x4x640x640, .f32⟩ : BufTy).Contents (Elt F)),
    StableHlo.binary main_v53 main_v56 main_v57 (Host.divf : (⟨S3x56x4x640x640, .f32⟩ : BufTy).Contents (Elt F) → (⟨S3x56x4x640x640, .f32⟩ : BufTy).Contents (Elt F) → (⟨S3x56x4x640x640, .f32⟩ : BufTy).Contents (Elt F)),
    StableHlo.unary main_v57 main_v58 ((truncf .bf16 · bitsLt_bf16_f32) : (⟨S3x56x4x640x640, .f32⟩ : BufTy).Contents (Elt F) → (⟨S3x56x4x640x640, .bf16⟩ : BufTy).Contents (Elt F)) ]

/-- The reference operations from the probabilities to the results. -/
abbrev opsG {F : FTy → Type} [FloatOps F] : List (HloOp τ sig (Elt F)) :=
  [ StableHlo.binary main_v30 main_v58 main_v59 ((fun l r => Host.dotGeneral dot_S3x56x4x48x640_S3x56x4x640x640_S3x56x4x48x640_4_4_3_3_012_012 none l r) : (⟨S3x56x4x48x640, .bf16⟩ : BufTy).Contents (Elt F) → (⟨S3x56x4x640x640, .bf16⟩ : BufTy).Contents (Elt F) → (⟨S3x56x4x48x640, .f32⟩ : BufTy).Contents (Elt F)),
    StableHlo.unary main_v2 main_v60 (broadcastInDim S3x1x4x1x1 ![0, 2] bcast_S3x4_S3x1x4x1x1_0_2 : (⟨S3x4, .f32⟩ : BufTy).Contents (Elt F) → (⟨S3x1x4x1x1, .f32⟩ : BufTy).Contents (Elt F)),
    StableHlo.unary main_v60 main_v61 (broadcastInDim S3x56x4x48x640 ![0, 1, 2, 3, 4] bcast_S3x1x4x1x1_S3x56x4x48x640_0_1_2_3_4 : (⟨S3x1x4x1x1, .f32⟩ : BufTy).Contents (Elt F) → (⟨S3x56x4x48x640, .f32⟩ : BufTy).Contents (Elt F)),
    StableHlo.binary main_v59 main_v61 main_v62 (mulf : (⟨S3x56x4x48x640, .f32⟩ : BufTy).Contents (Elt F) → (⟨S3x56x4x48x640, .f32⟩ : BufTy).Contents (Elt F) → (⟨S3x56x4x48x640, .f32⟩ : BufTy).Contents (Elt F)),
    StableHlo.unary main_v62 main_v63 ((truncf .bf16 · bitsLt_bf16_f32) : (⟨S3x56x4x48x640, .f32⟩ : BufTy).Contents (Elt F) → (⟨S3x56x4x48x640, .bf16⟩ : BufTy).Contents (Elt F)),
    StableHlo.binary main_arg7 main_v63 main_v64 ((fun l r => Host.dotGeneral dot_S4x48x192_S3x56x4x48x640_S192x3x56x640_10_32_2_014_n_n none l r) : (⟨S4x48x192, .bf16⟩ : BufTy).Contents (Elt F) → (⟨S3x56x4x48x640, .bf16⟩ : BufTy).Contents (Elt F) → (⟨S192x3x56x640, .f32⟩ : BufTy).Contents (Elt F)),
    StableHlo.unary main_v64 main_v65 ((transpose S3x56x192x640 [1, 2, 0, 3] · transposes_S192x3x56x640_S3x56x192x640_1_2_0_3) : (⟨S192x3x56x640, .f32⟩ : BufTy).Contents (Elt F) → (⟨S3x56x192x640, .f32⟩ : BufTy).Contents (Elt F)),
    StableHlo.binary main_arg3 main_v65 main_v66 (addf : (⟨S3x56x192x640, .f32⟩ : BufTy).Contents (Elt F) → (⟨S3x56x192x640, .f32⟩ : BufTy).Contents (Elt F) → (⟨S3x56x192x640, .f32⟩ : BufTy).Contents (Elt F)),
    StableHlo.unary main_v66 main_v67 ((truncf .bf16 · bitsLt_bf16_f32) : (⟨S3x56x192x640, .f32⟩ : BufTy).Contents (Elt F) → (⟨S3x56x192x640, .bf16⟩ : BufTy).Contents (Elt F)),
    StableHlo.unary main_v65 main_v68 ((truncf .bf16 · bitsLt_bf16_f32) : (⟨S3x56x192x640, .f32⟩ : BufTy).Contents (Elt F) → (⟨S3x56x192x640, .bf16⟩ : BufTy).Contents (Elt F)) ]

/-- The last operations are four runs of operations in order. -/
theorem ops_cut : (hostOps1_2 : List (HloOp τ sig (Elt Ideal))) = opsE1 ++ (opsE2 ++ (opsF ++ opsG)) := rfl

/-- The scale of a projection's code: a table entry's reciprocal. -/
abbrev inv (T : FVec Ideal S3x12 .f32) (b : Fin 3) (i : Fin 12) : EReal := Ideal.div 1 (T (ix2 b i))

set_option maxHeartbeats 2000000 in
/-- A projection scaled by the reciprocals of its column of the table. -/
theorem v10_at (b : Fin 3) (f : Fin 56) (r : Fin 192) (q : Fin 640) : (StableHlo.after (hostOps0 : List (HloOp τ sig (Elt Ideal))) σ (Proc.tc.devRef main_v10) : FVec Ideal S3x56x192x640 .f32) (ix4 b f r q) = (∑ k : Fin 192, (show FVec Ideal S192x4x48 .bf16 from σ (Proc.tc.devRef main_arg4)) (ix3 k ⟨r.val / 48, by omega⟩ ⟨r.val % 48, by omega⟩) * (show FVec Ideal S3x56x192x640 .bf16 from σ (Proc.tc.devRef main_arg2)) (ix4 b f k q)) * inv (show FVec Ideal S3x12 .f32 from σ (Proc.tc.devRef main_arg0)) b ⟨0 + r.val / 48, by omega⟩ := by
  entry_read
  pointwise

set_option maxHeartbeats 2000000 in
/-- A projection scaled by the reciprocals of its column of the table. -/
theorem v18_at (b : Fin 3) (f : Fin 56) (r : Fin 192) (q : Fin 640) : (StableHlo.after (hostOps0 : List (HloOp τ sig (Elt Ideal))) σ (Proc.tc.devRef main_v18) : FVec Ideal S3x56x192x640 .f32) (ix4 b f r q) = (∑ k : Fin 192, (show FVec Ideal S192x4x48 .bf16 from σ (Proc.tc.devRef main_arg5)) (ix3 k ⟨r.val / 48, by omega⟩ ⟨r.val % 48, by omega⟩) * (show FVec Ideal S3x56x192x640 .bf16 from σ (Proc.tc.devRef main_arg2)) (ix4 b f k q)) * inv (show FVec Ideal S3x12 .f32 from σ (Proc.tc.devRef main_arg0)) b ⟨4 + r.val / 48, by omega⟩ := by
  entry_read
  pointwise
  try rfl

set_option maxHeartbeats 2000000 in
/-- A projection scaled by the reciprocals of its column of the table. -/
theorem v26_at (b : Fin 3) (f : Fin 56) (r : Fin 192) (q : Fin 640) : (StableHlo.after (hostOps0 : List (HloOp τ sig (Elt Ideal))) σ (Proc.tc.devRef main_v26) : FVec Ideal S3x56x192x640 .f32) (ix4 b f r q) = (∑ k : Fin 192, (show FVec Ideal S192x4x48 .bf16 from σ (Proc.tc.devRef main_arg6)) (ix3 k ⟨r.val / 48, by omega⟩ ⟨r.val % 48, by omega⟩) * (show FVec Ideal S3x56x192x640 .bf16 from σ (Proc.tc.devRef main_arg2)) (ix4 b f k q)) * inv (show FVec Ideal S3x12 .f32 from σ (Proc.tc.devRef main_arg0)) b ⟨8 + r.val / 48, by omega⟩ := by
  entry_read
  pointwise
  try rfl

/-- A column group of the table. -/
theorem v0_at (b : Fin 3) (h : Fin 4) : (StableHlo.after (hostOps0 : List (HloOp τ sig (Elt Ideal))) σ (Proc.tc.devRef main_v0) : FVec Ideal S3x4 .f32) (ix2 b h) = (show FVec Ideal S3x12 .f32 from σ (Proc.tc.devRef main_arg0)) (ix2 b ⟨0 + h.val, by omega⟩) := by
  entry_read
  pointwise

/-- A column group of the table. -/
theorem v1_at (b : Fin 3) (h : Fin 4) : (StableHlo.after (hostOps0 : List (HloOp τ sig (Elt Ideal))) σ (Proc.tc.devRef main_v1) : FVec Ideal S3x4 .f32) (ix2 b h) = (show FVec Ideal S3x12 .f32 from σ (Proc.tc.devRef main_arg0)) (ix2 b ⟨4 + h.val, by omega⟩) := by
  entry_read
  pointwise
  try rfl

/-- A column group of the table. -/
theorem v2_at (b : Fin 3) (h : Fin 4) : (StableHlo.after (hostOps0 : List (HloOp τ sig (Elt Ideal))) σ (Proc.tc.devRef main_v2) : FVec Ideal S3x4 .f32) (ix2 b h) = (show FVec Ideal S3x12 .f32 from σ (Proc.tc.devRef main_arg0)) (ix2 b ⟨8 + h.val, by omega⟩) := by
  entry_read
  pointwise
  try rfl

set_option maxHeartbeats 2000000 in
/-- The scaled scores. -/
theorem v38_at (b : Fin 3) (f : Fin 56) (h : Fin 4) (q j : Fin 640) : (StableHlo.after (hostOps1 : List (HloOp τ sig (Elt Ideal))) σ (Proc.tc.devRef main_v38) : FVec Ideal S3x56x4x640x640 .f32) (ix5 b f h q j) = (∑ d : Fin 48, (show FVec Ideal S3x56x192x640 .bf16 from σ (Proc.tc.devRef main_v27_3)) (ix4 b f ⟨h.val * 48 + d.val, by omega⟩ q) * (show FVec Ideal S3x56x192x640 .bf16 from σ (Proc.tc.devRef main_v27_4)) (ix4 b f ⟨h.val * 48 + d.val, by omega⟩ j)) * Ideal.div ((show FVec Ideal S3x4 .f32 from σ (Proc.tc.devRef main_v0)) (ix2 b h) * (show FVec Ideal S3x4 .f32 from σ (Proc.tc.devRef main_v1)) (ix2 b h)) (Ideal.sqrt (Ideal.ofBits FTy.f32 1111490560#32)) := by
  entry_read
  pointwise
  try rfl

set_option maxHeartbeats 2000000 in
/-- The mask of the live keys. -/
theorem v45_at (b : Fin 3) (j : Fin 640) : (StableHlo.after (hostOps1 : List (HloOp τ sig (Elt Ideal))) σ (Proc.tc.devRef main_v45) : IVec S3x1x1x1x640 1) (ix5 b 0 0 0 j) = IntOp.cmpi CmpIPredicate.slt (BitVec.ofNat 32 j.val) ((show IVec S3 32 from σ (Proc.tc.devRef main_arg1)) (ix1 b)) := by
  entry_read
  pointwise
  try rfl

/-- The value codes, heads and rows apart. -/
theorem v30_at (b : Fin 3) (f : Fin 56) (h : Fin 4) (d : Fin 48) (j : Fin 640) : (StableHlo.after (hostOps1 : List (HloOp τ sig (Elt Ideal))) σ (Proc.tc.devRef main_v30) : FVec Ideal S3x56x4x48x640 .bf16) (ix5 b f h d j) = (show FVec Ideal S3x56x192x640 .bf16 from σ (Proc.tc.devRef main_v27_5)) (ix4 b f ⟨h.val * 48 + d.val, by omega⟩ j) := by
  entry_read
  pointwise
  try rfl

/-- The score of a dead key. -/
theorem c3_at (x : S_.Idx) : (StableHlo.after (hostOps1 : List (HloOp τ sig (Elt Ideal))) σ (Proc.tc.devRef main_cst_3) : FVec Ideal S_ .f32) x = Ideal.ofBits FTy.f32 4286578688#32 := by
  entry_read
  pointwise

set_option maxHeartbeats 2000000 in
/-- The masked scores. -/
theorem v46_at (b : Fin 3) (f : Fin 56) (h : Fin 4) (q j : Fin 640) : (StableHlo.after (hostOps1_1 : List (HloOp τ sig (Elt Ideal))) σ (Proc.tc.devRef main_v46) : FVec Ideal S3x56x4x640x640 .f32) (ix5 b f h q j) = Scalar.select ((show IVec S3x1x1x1x640 1 from σ (Proc.tc.devRef main_v45)) (ix5 b 0 0 0 j)) ((show FVec Ideal S3x56x4x640x640 .f32 from σ (Proc.tc.devRef main_v38)) (ix5 b f h q j)) ((show FVec Ideal S_ .f32 from σ (Proc.tc.devRef main_cst_3)) ix0) := by
  entry_read
  change (select (broadcastInDim S3x56x4x640x640 ![0, 1, 2, 3, 4] bcast_S3x1x1x1x640_S3x56x4x640x640_0_1_2_3_4 (show IVec S3x1x1x1x640 1 from σ (Proc.tc.devRef main_v45))) (show FVec Ideal S3x56x4x640x640 .f32 from σ (Proc.tc.devRef main_v38)) (broadcastInDim S3x56x4x640x640 ![] bcast_S_S3x56x4x640x640 (show FVec Ideal S_ .f32 from σ (Proc.tc.devRef main_cst_3)))) (ix5 b f h q j) = _
  pointwise
  try rfl

/-- The maximum over a row of scores. -/
theorem red_at (x : FVec Ideal S3x56x4x640x640 .f32) (b : Fin 3) (f : Fin 56) (h : Fin 4) (q : Fin 640) : Host.reduce FloatOps.maximumf x (constant S_ .f32 0xFF800000#32) reducesTo_S3x56x4x640x640_S3x56x4x640_d4 h_S_ (ix4 b f h q) = Finset.univ.fold max (Ideal.ofBits FTy.f32 4286578688#32) (fun j : Fin 640 => x (ix5 b f h q j)) := by
  pointwise

/-- The row maxima. -/
theorem v47_at (b : Fin 3) (f : Fin 56) (h : Fin 4) (q : Fin 640) : (StableHlo.after (opsE1 (F := Ideal)) σ (Proc.tc.devRef main_v47) : FVec Ideal S3x56x4x640 .f32) (ix4 b f h q) = Finset.univ.fold max (Ideal.ofBits FTy.f32 4286578688#32) (fun j : Fin 640 => (show FVec Ideal S3x56x4x640x640 .f32 from σ (Proc.tc.devRef main_v46)) (ix5 b f h q j)) := by
  entry_read
  exact red_at _ b f h q

set_option maxHeartbeats 2000000 in
/-- The exponentials. -/
theorem v53_at (b : Fin 3) (f : Fin 56) (h : Fin 4) (q j : Fin 640) : (StableHlo.after (opsE2 (F := Ideal)) σ (Proc.tc.devRef main_v53) : FVec Ideal S3x56x4x640x640 .f32) (ix5 b f h q j) = Ideal.exp ((show FVec Ideal S3x56x4x640x640 .f32 from σ (Proc.tc.devRef main_v46)) (ix5 b f h q j) - max (Ideal.ofBits FTy.f32 4286578688#32) ((show FVec Ideal S3x56x4x640 .f32 from σ (Proc.tc.devRef main_v47)) (ix4 b f h q))) := by
  entry_read
  pointwise
  try rfl

set_option maxHeartbeats 2000000 in
/-- The probabilities. -/
theorem v58_at (b : Fin 3) (f : Fin 56) (h : Fin 4) (q j : Fin 640) : (StableHlo.after (opsF (F := Ideal)) σ (Proc.tc.devRef main_v58) : FVec Ideal S3x56x4x640x640 .bf16) (ix5 b f h q j) = Ideal.div ((show FVec Ideal S3x56x4x640x640 .f32 from σ (Proc.tc.devRef main_v53)) (ix5 b f h q j)) (∑ x : Fin 640, (show FVec Ideal S3x56x4x640x640 .f32 from σ (Proc.tc.devRef main_v53)) (ix5 b f h q x)) := by
  entry_read
  pointwise
  try rfl

/-- The projected attention result from the probabilities. -/
abbrev attR (b : Fin 3) (f : Fin 56) (r : Fin 192) (q : Fin 640) : EReal := ∑ d : Fin 48, ∑ h : Fin 4, (show FVec Ideal S4x48x192 .bf16 from σ (Proc.tc.devRef main_arg7)) (ix3 h d r) * ((∑ j : Fin 640, (show FVec Ideal S3x56x4x48x640 .bf16 from σ (Proc.tc.devRef main_v30)) (ix5 b f h d j) * (show FVec Ideal S3x56x4x640x640 .bf16 from σ (Proc.tc.devRef main_v58)) (ix5 b f h q j)) * (show FVec Ideal S3x4 .f32 from σ (Proc.tc.devRef main_v2)) (ix2 b h))

set_option maxHeartbeats 2000000 in
/-- The attention result. -/
theorem v68_at (b : Fin 3) (f : Fin 56) (r : Fin 192) (q : Fin 640) : (StableHlo.after (opsG (F := Ideal)) σ (Proc.tc.devRef main_v68) : FVec Ideal S3x56x192x640 .bf16) (ix4 b f r q) = attR σ b f r q := by
  entry_read
  pointwise
  try rfl

set_option maxHeartbeats 2000000 in
/-- The residual result. -/
theorem v67_at (b : Fin 3) (f : Fin 56) (r : Fin 192) (q : Fin 640) : (StableHlo.after (opsG (F := Ideal)) σ (Proc.tc.devRef main_v67) : FVec Ideal S3x56x192x640 .bf16) (ix4 b f r q) = (show FVec Ideal S3x56x192x640 .f32 from σ (Proc.tc.devRef main_arg3)) (ix4 b f r q) + attR σ b f r q := by
  entry_read
  pointwise
  try rfl

/-- These operations leave this buffer alone. -/
theorem keep_0_arg0 : StableHlo.after (hostOps0 : List (HloOp τ sig (Elt Ideal))) σ (Proc.tc.devRef main_arg0) = σ (Proc.tc.devRef main_arg0) := by
  entry_read
  try rfl

/-- These operations leave this buffer alone. -/
theorem keep_0_arg1 : StableHlo.after (hostOps0 : List (HloOp τ sig (Elt Ideal))) σ (Proc.tc.devRef main_arg1) = σ (Proc.tc.devRef main_arg1) := by
  entry_read
  try rfl

/-- These operations leave this buffer alone. -/
theorem keep_0_arg2 : StableHlo.after (hostOps0 : List (HloOp τ sig (Elt Ideal))) σ (Proc.tc.devRef main_arg2) = σ (Proc.tc.devRef main_arg2) := by
  entry_read
  try rfl

/-- These operations leave this buffer alone. -/
theorem keep_0_arg3 : StableHlo.after (hostOps0 : List (HloOp τ sig (Elt Ideal))) σ (Proc.tc.devRef main_arg3) = σ (Proc.tc.devRef main_arg3) := by
  entry_read
  try rfl

/-- These operations leave this buffer alone. -/
theorem keep_0_arg7 : StableHlo.after (hostOps0 : List (HloOp τ sig (Elt Ideal))) σ (Proc.tc.devRef main_arg7) = σ (Proc.tc.devRef main_arg7) := by
  entry_read
  try rfl

/-- These operations leave this buffer alone. -/
theorem keep_1_arg3 : StableHlo.after (hostOps1 : List (HloOp τ sig (Elt Ideal))) σ (Proc.tc.devRef main_arg3) = σ (Proc.tc.devRef main_arg3) := by
  entry_read
  try rfl

/-- These operations leave this buffer alone. -/
theorem keep_1_arg7 : StableHlo.after (hostOps1 : List (HloOp τ sig (Elt Ideal))) σ (Proc.tc.devRef main_arg7) = σ (Proc.tc.devRef main_arg7) := by
  entry_read
  try rfl

/-- These operations leave this buffer alone. -/
theorem keep_1_v2 : StableHlo.after (hostOps1 : List (HloOp τ sig (Elt Ideal))) σ (Proc.tc.devRef main_v2) = σ (Proc.tc.devRef main_v2) := by
  entry_read
  try rfl

/-- These operations leave this buffer alone. -/
theorem keep_11_arg3 : StableHlo.after (hostOps1_1 : List (HloOp τ sig (Elt Ideal))) σ (Proc.tc.devRef main_arg3) = σ (Proc.tc.devRef main_arg3) := by
  entry_read
  try rfl

/-- These operations leave this buffer alone. -/
theorem keep_11_arg7 : StableHlo.after (hostOps1_1 : List (HloOp τ sig (Elt Ideal))) σ (Proc.tc.devRef main_arg7) = σ (Proc.tc.devRef main_arg7) := by
  entry_read
  try rfl

/-- These operations leave this buffer alone. -/
theorem keep_11_v2 : StableHlo.after (hostOps1_1 : List (HloOp τ sig (Elt Ideal))) σ (Proc.tc.devRef main_v2) = σ (Proc.tc.devRef main_v2) := by
  entry_read
  try rfl

/-- These operations leave this buffer alone. -/
theorem keep_11_v30 : StableHlo.after (hostOps1_1 : List (HloOp τ sig (Elt Ideal))) σ (Proc.tc.devRef main_v30) = σ (Proc.tc.devRef main_v30) := by
  entry_read
  try rfl

/-- These operations leave this buffer alone. -/
theorem keep_E1_arg3 : StableHlo.after (opsE1 (F := Ideal)) σ (Proc.tc.devRef main_arg3) = σ (Proc.tc.devRef main_arg3) := by
  entry_read
  try rfl

/-- These operations leave this buffer alone. -/
theorem keep_E1_arg7 : StableHlo.after (opsE1 (F := Ideal)) σ (Proc.tc.devRef main_arg7) = σ (Proc.tc.devRef main_arg7) := by
  entry_read
  try rfl

/-- These operations leave this buffer alone. -/
theorem keep_E1_v2 : StableHlo.after (opsE1 (F := Ideal)) σ (Proc.tc.devRef main_v2) = σ (Proc.tc.devRef main_v2) := by
  entry_read
  try rfl

/-- These operations leave this buffer alone. -/
theorem keep_E1_v30 : StableHlo.after (opsE1 (F := Ideal)) σ (Proc.tc.devRef main_v30) = σ (Proc.tc.devRef main_v30) := by
  entry_read
  try rfl

/-- These operations leave this buffer alone. -/
theorem keep_E1_v46 : StableHlo.after (opsE1 (F := Ideal)) σ (Proc.tc.devRef main_v46) = σ (Proc.tc.devRef main_v46) := by
  entry_read
  try rfl

/-- These operations leave this buffer alone. -/
theorem keep_E2_arg3 : StableHlo.after (opsE2 (F := Ideal)) σ (Proc.tc.devRef main_arg3) = σ (Proc.tc.devRef main_arg3) := by
  entry_read
  try rfl

/-- These operations leave this buffer alone. -/
theorem keep_E2_arg7 : StableHlo.after (opsE2 (F := Ideal)) σ (Proc.tc.devRef main_arg7) = σ (Proc.tc.devRef main_arg7) := by
  entry_read
  try rfl

/-- These operations leave this buffer alone. -/
theorem keep_E2_v2 : StableHlo.after (opsE2 (F := Ideal)) σ (Proc.tc.devRef main_v2) = σ (Proc.tc.devRef main_v2) := by
  entry_read
  try rfl

/-- These operations leave this buffer alone. -/
theorem keep_E2_v30 : StableHlo.after (opsE2 (F := Ideal)) σ (Proc.tc.devRef main_v30) = σ (Proc.tc.devRef main_v30) := by
  entry_read
  try rfl

/-- These operations leave this buffer alone. -/
theorem keep_F_arg3 : StableHlo.after (opsF (F := Ideal)) σ (Proc.tc.devRef main_arg3) = σ (Proc.tc.devRef main_arg3) := by
  entry_read
  try rfl

/-- These operations leave this buffer alone. -/
theorem keep_F_arg7 : StableHlo.after (opsF (F := Ideal)) σ (Proc.tc.devRef main_arg7) = σ (Proc.tc.devRef main_arg7) := by
  entry_read
  try rfl

/-- These operations leave this buffer alone. -/
theorem keep_F_v2 : StableHlo.after (opsF (F := Ideal)) σ (Proc.tc.devRef main_v2) = σ (Proc.tc.devRef main_v2) := by
  entry_read
  try rfl

/-- These operations leave this buffer alone. -/
theorem keep_F_v30 : StableHlo.after (opsF (F := Ideal)) σ (Proc.tc.devRef main_v30) = σ (Proc.tc.devRef main_v30) := by
  entry_read
  try rfl

end Cert.RefIdeal.Val
-- ==== Proof.RVal.lean ====
/- The results of the reference over the extended reals. -/
module

public import proofs.«01_k».proof.Proof.RHost

@[expose] public section

set_option maxRecDepth 16384

noncomputable section

namespace Cert.RefIdeal.Val

open Cert.RefIdeal Cert.RefIdeal.Gen
open Idealize.ShloMosaic Idealize.ShloMosaic.TcCoe Idealize.SL.Sem

variable (m : (ℓ : Loc nD τ sig) → Buf (Elt Ideal) ℓ) (ρ : Dev nD → PrngReg)

/-- The clip to the range of the codes. -/
def clip (x : EReal) : EReal := min (Ideal.ofBits FTy.f32 1138753536#32) (max (Ideal.ofBits FTy.f32 3286237184#32) x)

/-- A code of the reference. -/
def rcod (T : FVec Ideal S3x12 .f32) (w : FVec Ideal S192x4x48 .bf16) (h : FVec Ideal S3x56x192x640 .bf16) (o : Fin 3) (b : Fin 3) (f : Fin 56) (r : Fin 192) (q : Fin 640) : EReal :=
  clip ((∑ k : Fin 192, w (ix3 k ⟨r.val / 48, by omega⟩ ⟨r.val % 48, by omega⟩) * h (ix4 b f k q)) * inv T b ⟨4 * o.val + r.val / 48, by omega⟩)

/-- Reading a codes' array of the reference. -/
def rcodA (T : FVec Ideal S3x12 .f32) (w : FVec Ideal S192x4x48 .bf16) (h : FVec Ideal S3x56x192x640 .bf16) (o : Fin 3) : S3x56x192x640.Idx → EReal := fun y => rcod T w h o (y 0) (y 1) (y 2) (y 3)

/-- The masked and scaled score of a query and a key. -/
def rsc (qc kc : Fin 48 → Fin 640 → EReal) (s : EReal) (n : BitVec 32) (q j : Fin 640) : EReal :=
  Scalar.select (IntOp.cmpi CmpIPredicate.slt (BitVec.ofNat 32 j.val) n) ((∑ d : Fin 48, qc d q * kc d j) * s) (Ideal.ofBits FTy.f32 4286578688#32)

/-- The exponential of a score, the row's maximum taken off. -/
def rex (s : Fin 640 → EReal) (j : Fin 640) : EReal :=
  Ideal.exp (s j - max (Ideal.ofBits FTy.f32 4286578688#32) (Finset.univ.fold max (Ideal.ofBits FTy.f32 4286578688#32) s))

/-- The softmax of a row of scores against a row of values. -/
def rsm (s v : Fin 640 → EReal) : EReal := ∑ j : Fin 640, v j * Ideal.div (rex s j) (∑ x : Fin 640, rex s x)

/-- The scale of the scores of a head. -/
def rss (T : FVec Ideal S3x12 .f32) (b : Fin 3) (h : Fin 4) : EReal :=
  Ideal.div (T (ix2 b ⟨0 + h.val, by omega⟩) * T (ix2 b ⟨4 + h.val, by omega⟩)) (Ideal.sqrt (Ideal.ofBits FTy.f32 1111490560#32))

/-- The row of a head. -/
def hd (h : Fin 4) (d : Fin 48) : Fin 192 := ⟨h.val * 48 + d.val, by omega⟩

/-- The attention result of the reference. -/
def ratt (T : FVec Ideal S3x12 .f32) (N : IVec S3 32) (Q K Vv : S3x56x192x640.Idx → EReal) (wo : FVec Ideal S4x48x192 .bf16) (b : Fin 3) (f : Fin 56) (r : Fin 192) (q : Fin 640) : EReal :=
  ∑ d : Fin 48, ∑ h : Fin 4, wo (ix3 h d r) * (rsm (rsc (fun e x => Q (ix4 b f (hd h e) x)) (fun e x => K (ix4 b f (hd h e) x)) (rss T b h) (N (ix1 b)) q) (fun j => Vv (ix4 b f (hd h d) j)) * T (ix2 b ⟨8 + h.val, by omega⟩))

/-- The operands' windows sit at the origin. -/
theorem idx_pt : ∀ t : Fin cfg0.N, win0_0.index t = ![0, 0, 0, 0] ∧ win0_1.index t = ![0, 0, 0, 0] ∧ win0_2.index t = ![0, 0, 0, 0] := by
  decide +kernel

/-- The block of an operand is the whole operand. -/
theorem blk0 (c : Dev nD) (y : S3x56x192x640.Idx) : (show S3x56x192x640.Idx → EReal from iblk m c 0 t0_0) y = (show S3x56x192x640.Idx → EReal from V m c main_v10) y := by
  show iblk m c 0 t0_0 y = V m c main_v10 y
  blk_simp [iblk]
  refine congrArg (V m c main_v10) ?_
  blk_ext [idx_pt t0_0]

/-- The block of an operand is the whole operand. -/
theorem blk1 (c : Dev nD) (y : S3x56x192x640.Idx) : (show S3x56x192x640.Idx → EReal from iblk m c 1 t0_0) y = (show S3x56x192x640.Idx → EReal from V m c main_v18) y := by
  show iblk m c 1 t0_0 y = V m c main_v18 y
  blk_simp [iblk]
  refine congrArg (V m c main_v18) ?_
  blk_ext [idx_pt t0_0]

/-- The block of an operand is the whole operand. -/
theorem blk2 (c : Dev nD) (y : S3x56x192x640.Idx) : (show S3x56x192x640.Idx → EReal from iblk m c 2 t0_0) y = (show S3x56x192x640.Idx → EReal from V m c main_v26) y := by
  show iblk m c 2 t0_0 y = V m c main_v26 y
  blk_simp [iblk]
  refine congrArg (V m c main_v26) ?_
  blk_ext [idx_pt t0_0]

/-- The contents of an operand of the call at an index. -/
theorem opnd0 (c : Dev nD) (b : Fin 3) (f : Fin 56) (r : Fin 192) (q : Fin 640) : clip ((show S3x56x192x640.Idx → EReal from iblk m c 0 t0_0) (ix4 b f r q)) = rcod (m ((c.tc : Thread nD τ).loc main_arg0)) (m ((c.tc : Thread nD τ).loc main_arg4)) (m ((c.tc : Thread nD τ).loc main_arg2)) 0 b f r q := by
  rw [blk0 m c, show (show S3x56x192x640.Idx → EReal from V m c main_v10) (ix4 b f r q) = _ from v10_at (fun b => m (c, b)) b f r q]
  rfl

/-- The contents of an operand of the call at an index. -/
theorem opnd1 (c : Dev nD) (b : Fin 3) (f : Fin 56) (r : Fin 192) (q : Fin 640) : clip ((show S3x56x192x640.Idx → EReal from iblk m c 1 t0_0) (ix4 b f r q)) = rcod (m ((c.tc : Thread nD τ).loc main_arg0)) (m ((c.tc : Thread nD τ).loc main_arg5)) (m ((c.tc : Thread nD τ).loc main_arg2)) 1 b f r q := by
  rw [blk1 m c, show (show S3x56x192x640.Idx → EReal from V m c main_v18) (ix4 b f r q) = _ from v18_at (fun b => m (c, b)) b f r q]
  rfl

/-- The contents of an operand of the call at an index. -/
theorem opnd2 (c : Dev nD) (b : Fin 3) (f : Fin 56) (r : Fin 192) (q : Fin 640) : clip ((show S3x56x192x640.Idx → EReal from iblk m c 2 t0_0) (ix4 b f r q)) = rcod (m ((c.tc : Thread nD τ).loc main_arg0)) (m ((c.tc : Thread nD τ).loc main_arg6)) (m ((c.tc : Thread nD τ).loc main_arg2)) 2 b f r q := by
  rw [blk2 m c, show (show S3x56x192x640.Idx → EReal from V m c main_v26) (ix4 b f r q) = _ from v26_at (fun b => m (c, b)) b f r q]
  rfl

set_option maxHeartbeats 4000000 in
/-- A result array of the reference's call. -/
theorem arr3 (c : Dev nD) : (show S3x56x192x640.Idx → EReal from (dats m 0 c).arrAt 3 cfg0.N) = rcodA (m ((c.tc : Thread nD τ).loc main_arg0)) (m ((c.tc : Thread nD τ).loc main_arg4)) (m ((c.tc : Thread nD τ).loc main_arg2)) 0 := by
  refine (dats m 0 c).arrAt_eq_of_after_last 3 t0_0 (by decide +kernel) _ fun j => ?_
  blk_simp
  rw [after0_3]
  unfold out0_3
  change S3x56x192x640.Idx at j
  idx_vars j
  have hcov := cover0_3 (F := Ideal) (k0_pay3 (View.ld (iblk m c 0 t0_0) r0_0)) (ix4 j0 j1 j2 j3)
  canon_tiles x h using hcov
  clear hcov
  idx_vars x
  obtain rfl : j0 = x0 := Fin.ext (by simpa using h0)
  obtain rfl : j1 = x1 := Fin.ext (by simpa using h1)
  obtain rfl : j2 = x2 := Fin.ext (by simpa using h2)
  obtain rfl : j3 = x3 := Fin.ext (by simpa using h3)
  pointwise [k0_pay3]
  exact opnd0 m c j0 j1 j2 j3

set_option maxHeartbeats 4000000 in
/-- A result array of the reference's call. -/
theorem arr4 (c : Dev nD) : (show S3x56x192x640.Idx → EReal from (dats m 0 c).arrAt 4 cfg0.N) = rcodA (m ((c.tc : Thread nD τ).loc main_arg0)) (m ((c.tc : Thread nD τ).loc main_arg5)) (m ((c.tc : Thread nD τ).loc main_arg2)) 1 := by
  refine (dats m 0 c).arrAt_eq_of_after_last 4 t0_0 (by decide +kernel) _ fun j => ?_
  blk_simp
  rw [after0_4]
  unfold out0_4
  change S3x56x192x640.Idx at j
  idx_vars j
  have hcov := cover0_4 (F := Ideal) (k0_pay5 (View.ld (iblk m c 1 t0_0) r0_0)) (ix4 j0 j1 j2 j3)
  canon_tiles x h using hcov
  clear hcov
  idx_vars x
  obtain rfl : j0 = x0 := Fin.ext (by simpa using h0)
  obtain rfl : j1 = x1 := Fin.ext (by simpa using h1)
  obtain rfl : j2 = x2 := Fin.ext (by simpa using h2)
  obtain rfl : j3 = x3 := Fin.ext (by simpa using h3)
  pointwise [k0_pay5]
  exact opnd1 m c j0 j1 j2 j3

set_option maxHeartbeats 4000000 in
/-- A result array of the reference's call. -/
theorem arr5 (c : Dev nD) : (show S3x56x192x640.Idx → EReal from (dats m 0 c).arrAt 5 cfg0.N) = rcodA (m ((c.tc : Thread nD τ).loc main_arg0)) (m ((c.tc : Thread nD τ).loc main_arg6)) (m ((c.tc : Thread nD τ).loc main_arg2)) 2 := by
  refine (dats m 0 c).arrAt_eq_of_after_last 5 t0_0 (by decide +kernel) _ fun j => ?_
  blk_simp
  rw [after0_5]
  unfold out0_5
  change S3x56x192x640.Idx at j
  idx_vars j
  have hcov := cover0_5 (F := Ideal) (k0_pay1 (k0_pay8 (iblk m c 0 t0_0) (iblk m c 1 t0_0) (iblk m c 2 t0_0)) (Scalar.ofBits .f32 0xC3E00000#32) (Scalar.ofBits .f32 0x43E00000#32)) (ix4 j0 j1 j2 j3)
  canon_tiles x h using hcov
  clear hcov
  idx_vars x
  obtain rfl : j0 = x0 := Fin.ext (by simpa using h0)
  obtain rfl : j1 = x1 := Fin.ext (by simpa using h1)
  obtain rfl : j2 = x2 := Fin.ext (by simpa using h2)
  obtain rfl : j3 = x3 := Fin.ext (by simpa using h3)
  pointwise [k0_pay1, k0_pay8, k0_pay7]
  exact opnd2 m c j0 j1 j2 j3

set_option maxHeartbeats 4000000 in
/-- A result array of the reference's call. -/
theorem arr6 (c : Dev nD) : (show S3x56x192x640.Idx → EReal from (dats m 0 c).arrAt 6 cfg0.N) = rcodA (m ((c.tc : Thread nD τ).loc main_arg0)) (m ((c.tc : Thread nD τ).loc main_arg4)) (m ((c.tc : Thread nD τ).loc main_arg2)) 0 := by
  refine (dats m 0 c).arrAt_eq_of_after_last 6 t0_0 (by decide +kernel) _ fun j => ?_
  blk_simp
  rw [after0_6]
  unfold out0_6
  change S3x56x192x640.Idx at j
  idx_vars j
  have hcov := cover0_6 (F := Ideal) (k0_pay4 (View.ld (iblk m c 0 t0_0) r0_0)) (ix4 j0 j1 j2 j3)
  canon_tiles x h using hcov
  clear hcov
  idx_vars x
  obtain rfl : j0 = x0 := Fin.ext (by simpa using h0)
  obtain rfl : j1 = x1 := Fin.ext (by simpa using h1)
  obtain rfl : j2 = x2 := Fin.ext (by simpa using h2)
  obtain rfl : j3 = x3 := Fin.ext (by simpa using h3)
  pointwise [k0_pay4, k0_pay3]
  exact opnd0 m c j0 j1 j2 j3

set_option maxHeartbeats 4000000 in
/-- A result array of the reference's call. -/
theorem arr7 (c : Dev nD) : (show S3x56x192x640.Idx → EReal from (dats m 0 c).arrAt 7 cfg0.N) = rcodA (m ((c.tc : Thread nD τ).loc main_arg0)) (m ((c.tc : Thread nD τ).loc main_arg5)) (m ((c.tc : Thread nD τ).loc main_arg2)) 1 := by
  refine (dats m 0 c).arrAt_eq_of_after_last 7 t0_0 (by decide +kernel) _ fun j => ?_
  blk_simp
  rw [after0_7]
  unfold out0_7
  change S3x56x192x640.Idx at j
  idx_vars j
  have hcov := cover0_7 (F := Ideal) (k0_pay6 (View.ld (iblk m c 1 t0_0) r0_0)) (ix4 j0 j1 j2 j3)
  canon_tiles x h using hcov
  clear hcov
  idx_vars x
  obtain rfl : j0 = x0 := Fin.ext (by simpa using h0)
  obtain rfl : j1 = x1 := Fin.ext (by simpa using h1)
  obtain rfl : j2 = x2 := Fin.ext (by simpa using h2)
  obtain rfl : j3 = x3 := Fin.ext (by simpa using h3)
  pointwise [k0_pay6, k0_pay5]
  exact opnd1 m c j0 j1 j2 j3

set_option maxHeartbeats 4000000 in
/-- A result array of the reference's call. -/
theorem arr8 (c : Dev nD) : (show S3x56x192x640.Idx → EReal from (dats m 0 c).arrAt 8 cfg0.N) = rcodA (m ((c.tc : Thread nD τ).loc main_arg0)) (m ((c.tc : Thread nD τ).loc main_arg6)) (m ((c.tc : Thread nD τ).loc main_arg2)) 2 := by
  refine (dats m 0 c).arrAt_eq_of_after_last 8 t0_0 (by decide +kernel) _ fun j => ?_
  blk_simp
  rw [after0_8]
  unfold out0_8
  change S3x56x192x640.Idx at j
  idx_vars j
  have hcov := cover0_8 (F := Ideal) (k0_pay2 (k0_pay8 (iblk m c 0 t0_0) (iblk m c 1 t0_0) (iblk m c 2 t0_0)) (Scalar.ofBits .f32 0xC3E00000#32) (Scalar.ofBits .f32 0x43E00000#32)) (ix4 j0 j1 j2 j3)
  canon_tiles x h using hcov
  clear hcov
  idx_vars x
  obtain rfl : j0 = x0 := Fin.ext (by simpa using h0)
  obtain rfl : j1 = x1 := Fin.ext (by simpa using h1)
  obtain rfl : j2 = x2 := Fin.ext (by simpa using h2)
  obtain rfl : j3 = x3 := Fin.ext (by simpa using h3)
  pointwise [k0_pay2, k0_pay1, k0_pay8, k0_pay7]
  exact opnd2 m c j0 j1 j2 j3

/-- Running two lists of operations one after the other. -/
theorem after_app (l₁ l₂ : List (HloOp τ sig (Elt Ideal))) (σ : Valuation τ sig (Elt Ideal)) : StableHlo.after (l₁ ++ l₂) σ = StableHlo.after l₂ (StableHlo.after l₁ σ) := by
  induction l₁ generalizing σ with
  | nil => rfl
  | cons op l ih => exact ih _

/-- What the reference's call leaves in every buffer. -/
abbrev s0 (c : Dev nD) : Valuation τ sig (Elt Ideal) := Pipeline.withArrays (cfgs 0).spec c (V0 m c) fun w => (dats m 0 c).arrAt w (cfgs 0).N

/-- The buffers after the operations up to the masked scores. -/
abbrev s2 (c : Dev nD) : Valuation τ sig (Elt Ideal) := StableHlo.after hostOps1_1 (StableHlo.after hostOps1 (s0 m c))

/-- The buffers after the exponentials. -/
abbrev s4 (c : Dev nD) : Valuation τ sig (Elt Ideal) := StableHlo.after opsE2 (StableHlo.after opsE1 (s2 m c))

/-- The last operations of the reference in parts. -/
theorem tail_cut (c : Dev nD) (b : Ref sig .tc) : Pipeline.afterTail₀ cfgs (dats m) 0 (V0 m) [hostOps1, hostOps1_1, hostOps1_2] c b = StableHlo.after opsG (StableHlo.after opsF (s4 m c)) (Proc.tc.devRef b) := by
  unfold Pipeline.afterTail₀
  rw [List.flatten_cons, List.flatten_cons, List.flatten_cons, List.flatten_nil, List.append_nil, ops_cut, after_app, after_app, after_app, after_app, after_app]

/-- The call leaves the other buffers alone. -/
theorem s0_keep (c : Dev nD) (b : Ref sig .tc) (hb : ∀ w, Pipeline.arrRef spec0 w ≠ b) : s0 m c (Proc.tc.devRef b) = V0 m c (Proc.tc.devRef b) :=
  Pipeline.withArrays_of_ne _ c (V0 m c) _ b hb

/-- The wide codes after the call. -/
theorem s0_v27_3 (c : Dev nD) : (show S3x56x192x640.Idx → EReal from s0 m c (Proc.tc.devRef main_v27_3)) = rcodA (m ((c.tc : Thread nD τ).loc main_arg0)) (m ((c.tc : Thread nD τ).loc main_arg4)) (m ((c.tc : Thread nD τ).loc main_arg2)) 0 :=
  (Pipeline.withArrays_arr spec0 (by decide) c (V0 m c) (fun w => (dats m 0 c).arrAt w (cfgs 0).N) 6).trans (arr6 m c)

/-- The wide codes after the call. -/
theorem s0_v27_4 (c : Dev nD) : (show S3x56x192x640.Idx → EReal from s0 m c (Proc.tc.devRef main_v27_4)) = rcodA (m ((c.tc : Thread nD τ).loc main_arg0)) (m ((c.tc : Thread nD τ).loc main_arg5)) (m ((c.tc : Thread nD τ).loc main_arg2)) 1 :=
  (Pipeline.withArrays_arr spec0 (by decide) c (V0 m c) (fun w => (dats m 0 c).arrAt w (cfgs 0).N) 7).trans (arr7 m c)

/-- The wide codes after the call. -/
theorem s0_v27_5 (c : Dev nD) : (show S3x56x192x640.Idx → EReal from s0 m c (Proc.tc.devRef main_v27_5)) = rcodA (m ((c.tc : Thread nD τ).loc main_arg0)) (m ((c.tc : Thread nD τ).loc main_arg6)) (m ((c.tc : Thread nD τ).loc main_arg2)) 2 :=
  (Pipeline.withArrays_arr spec0 (by decide) c (V0 m c) (fun w => (dats m 0 c).arrAt w (cfgs 0).N) 8).trans (arr8 m c)

end Cert.RefIdeal.Val
-- ==== Proof.VDef.lean ====
/- What one call of the body computes, index by index, over the extended reals. -/
module

public import proofs.«01_k».proof.Proof.Gen.KernelIdeal.Skeleton
public import Idealize.ShloMosaic.Lib.Pipeline.ValueKit
public import Idealize.ShloMosaic.Lib.Pointwise

@[expose] public section

set_option maxRecDepth 16384

noncomputable section

namespace Cert.KernelIdeal.Val

open Cert.KernelIdeal Cert.KernelIdeal.Gen
open Idealize.ShloMosaic Idealize.ShloMosaic.TcCoe Idealize.SL.Sem

/-- The named constant: one over the square root of the head width, over the logarithm of two. -/
def kap : EReal := (((Real.sqrt 48)⁻¹ * (Real.log 2)⁻¹ : ℝ) : EReal)

/-- The kernel's constant is the named one. -/
theorem named_kap : (Named.named (F := Ideal) κ "score_scale_log2e" (φ := .f32) 0x3E553B95#32 : EReal) = kap :=
  IdealRules.named_const.ideal_named_scalar _ _ _ _ rfl

/-- The table index of a grid point, as a row of the scale array. -/
def tab (i : grid0.Coords) : Fin 3 := ⟨(i 0).val, (i 0).isLt⟩

/-- A score: key `j` against query `q`, head `h`. -/
def stf (kt : FVec Ideal S640x192 .fp8e4m3) (qm : FVec Ideal S4x192x640 .fp8e4m3) (h : Fin 4) (j q : Fin 640) : EReal :=
  ∑ r : Fin 192, kt (ix2 j r) * qm (ix3 h r q)

/-- A key index of the first `N`, among all. -/
def up {N : ℕ} (hN : N ≤ 640) (j : Fin N) : Fin 640 := ⟨j.val, lt_of_lt_of_le j.isLt hN⟩

/-- The largest of the first `N` scores. -/
def mxf {N : ℕ} (hN : N ≤ 640) (kt : FVec Ideal S640x192 .fp8e4m3) (qm : FVec Ideal S4x192x640 .fp8e4m3) (h : Fin 4) (q : Fin 640) : EReal :=
  Finset.univ.fold max (⊥ : EReal) fun j : Fin N => stf kt qm h (up hN j) q

/-- The factor of the scores. -/
def ccf (x0 : FVec Ideal S3x12 .f32) (b : Fin 3) (h : Fin 4) : EReal :=
  x0 (ix2 b ⟨h.val, by omega⟩) * x0 (ix2 b ⟨4 + h.val, by omega⟩) * kap

/-- A weight before normalising. -/
def exf {N : ℕ} (hN : N ≤ 640) (x0 : FVec Ideal S3x12 .f32) (b : Fin 3) (kt : FVec Ideal S640x192 .fp8e4m3) (qm : FVec Ideal S4x192x640 .fp8e4m3) (h : Fin 4) (j : Fin N) (q : Fin 640) : EReal :=
  Ideal.exp2 ((stf kt qm h (up hN j) q - mxf hN kt qm h q) * ccf x0 b h)

/-- A row of the values (or of ones) against the weights. -/
def oxf {N : ℕ} (hN : N ≤ 640) (x0 : FVec Ideal S3x12 .f32) (b : Fin 3) (kt : FVec Ideal S640x192 .fp8e4m3) (vx : FVec Ideal S4x64x640 .bf16) (qm : FVec Ideal S4x192x640 .fp8e4m3) (h : Fin 4) (d : Fin 64) (q : Fin 640) : EReal :=
  ∑ j : Fin N, vx (ix3 h d (up hN j)) * exf hN x0 b kt qm h j q

/-- The attention output of head `h`, its row `d`. -/
def oof {N : ℕ} (hN : N ≤ 640) (x0 : FVec Ideal S3x12 .f32) (b : Fin 3) (kt : FVec Ideal S640x192 .fp8e4m3) (vx : FVec Ideal S4x64x640 .bf16) (qm : FVec Ideal S4x192x640 .fp8e4m3) (h : Fin 4) (d : Fin 48) (q : Fin 640) : EReal :=
  oxf hN x0 b kt vx qm h ⟨d.val, by omega⟩ q * Ideal.div 1 (oxf hN x0 b kt vx qm h ⟨48, by omega⟩ q)

/-- The attention output over all heads, as the body stores it. -/
def oaf {N : ℕ} (hN : N ≤ 640) (x0 : FVec Ideal S3x12 .f32) (b : Fin 3) (kt : FVec Ideal S640x192 .fp8e4m3) (vx : FVec Ideal S4x64x640 .bf16) (qm : FVec Ideal S4x192x640 .fp8e4m3) (r : Fin 192) (q : Fin 640) : EReal :=
  oof hN x0 b kt vx qm ⟨r.val / 48, by omega⟩ ⟨r.val % 48, by omega⟩ q

/-- The projection. -/
def prj (wos : FVec Ideal S192x192 .bf16) (o : Fin 192 → Fin 640 → EReal) (r : Fin 192) (q : Fin 640) : EReal :=
  ∑ k : Fin 192, wos (ix2 k r) * o k q

/-- The codes of all projections: a product of the scaled weights with one block of rows, clipped. -/
def cdf (ws : FVec Ideal S576x192 .bf16) (xh : FVec Ideal S1x1x192x640 .bf16) (r : Fin 576) (j : Fin 640) : EReal :=
  min ((448 : ℝ) : EReal) (max ((-448 : ℝ) : EReal) (∑ k : Fin 192, ws (ix2 r k) * xh (ix4 0 0 k j)))

/-- One projection's codes (`o` its number). -/
def cpf (o : Fin 3) (ws : FVec Ideal S576x192 .bf16) (xh : FVec Ideal S1x1x192x640 .bf16) : FVec Ideal S192x640 .fp8e4m3 := fun y =>
  cdf ws xh ⟨192 * o.val + (y 0).val, by have := (y 0).isLt; have : S192x640.size 0 = 192 := rfl; omega⟩ (y 1)

/-- One projection's codes, as a block of the result. -/
def c4f (o : Fin 3) (ws : FVec Ideal S576x192 .bf16) (xh : FVec Ideal S1x1x192x640 .bf16) : FVec Ideal S1x1x192x640 .fp8e4m3 := fun y =>
  cdf ws xh ⟨192 * o.val + (y 2).val, by have := (y 2).isLt; have : S1x1x192x640.size 2 = 192 := rfl; omega⟩ (y 3)

/-- The keys transposed, a key past the table's rows the first key. -/
def ktf (n : ℕ) (k : FVec Ideal S192x640 .fp8e4m3) : FVec Ideal S640x192 .fp8e4m3 := fun y =>
  k (ix2 (y 1) (if (y 0).val < n then y 0 else (0 : Fin 640)))

/-- The values head by head and rows of ones under them, zero past the table's rows. -/
def vxf (n : ℕ) (v : FVec Ideal S192x640 .fp8e4m3) : FVec Ideal S4x64x640 .bf16 := fun y =>
  if (y 2).val < n then
    (if h : (y 1).val < 48 then v (ix2 ⟨48 * (y 0).val + (y 1).val, by have := (y 0).isLt; have : S4x64x640.size 0 = 4 := rfl; omega⟩ (y 2)) else 1)
  else 0

/-- The queries of each head, zero on the other heads' rows. -/
def qmf (q : FVec Ideal S192x640 .fp8e4m3) : FVec Ideal S4x192x640 .fp8e4m3 := fun y =>
  if (y 1).val / 48 = (y 0).val then q (ix2 (y 1) (y 2)) else 0

/-- The input weights over the scales. -/
def wsf (x0 : FVec Ideal S3x12 .f32) (b : Fin 3) (w : FVec Ideal S576x192 .bf16) : FVec Ideal S576x192 .bf16 := fun y =>
  w y * Ideal.div 1 (x0 (ix2 b ⟨(y 0).val / 48, by have := (y 0).isLt; have : S576x192.size 0 = 576 := rfl; omega⟩))

/-- The output weights by the scales of the values. -/
def wof (x0 : FVec Ideal S3x12 .f32) (b : Fin 3) (w : FVec Ideal S192x192 .bf16) : FVec Ideal S192x192 .bf16 := fun y =>
  w y * x0 (ix2 b ⟨8 + (y 0).val / 48, by have := (y 0).isLt; have : S192x192.size 0 = 192 := rfl; omega⟩)

/-- The attention result of one block of rows. -/
def atf {N : ℕ} (hN : N ≤ 640) (x0 : FVec Ideal S3x12 .f32) (b : Fin 3) (wos : FVec Ideal S192x192 .bf16) (kt : FVec Ideal S640x192 .fp8e4m3) (vx : FVec Ideal S4x64x640 .bf16) (qm : FVec Ideal S4x192x640 .fp8e4m3) : FVec Ideal S1x1x192x640 .bf16 := fun y =>
  prj wos (oaf hN x0 b kt vx qm) (y 2) (y 3)

/-- The residual result of one block of rows. -/
def ytf {N : ℕ} (hN : N ≤ 640) (x0 : FVec Ideal S3x12 .f32) (b : Fin 3) (xx : FVec Ideal S1x1x192x640 .f32) (wos : FVec Ideal S192x192 .bf16) (kt : FVec Ideal S640x192 .fp8e4m3) (vx : FVec Ideal S4x64x640 .bf16) (qm : FVec Ideal S4x192x640 .fp8e4m3) : FVec Ideal S1x1x192x640 .bf16 := fun y =>
  xx y + prj wos (oaf hN x0 b kt vx qm) (y 2) (y 3)

end Cert.KernelIdeal.Val

end
-- ==== Proof.VCore.lean ====
/- Reads of the scale table, the constants, and the rows of one head. -/
module

public import proofs.«01_k».proof.Proof.VDef

@[expose] public section

set_option maxRecDepth 16384

noncomputable section

namespace Cert.KernelIdeal.Val

open Cert.KernelIdeal Cert.KernelIdeal.Gen
open Idealize.ShloMosaic Idealize.ShloMosaic.TcCoe Idealize.SL.Sem

/-- The bit pattern of minus infinity. -/
theorem ninf : Ideal.ofBits .f32 0xFF800000#32 = (⊥ : EReal) := by
  simp [Ideal.ofBits, Ideal.ieee]

/-- The first grid coordinate, through the word the body holds it in. -/
theorem toNat_tab (i : grid0.Coords) : (Scalar.indexCast (BitVec.ofNat 32 (i 0))).toNat = (i 0).val := by
  have h : ∀ k : Fin 3, (Scalar.indexCast (BitVec.ofNat 32 k)).toNat = k.val := by decide +kernel
  exact h (i 0)

/-- The code range's end, of its bit pattern. -/
theorem ofBits_448 : Ideal.ofBits .f32 0x43E00000#32 = ((448 : ℝ) : EReal) := by
  simp [Ideal.ofBits, Ideal.ieee, -EReal.coe_mul]; norm_num

/-- The code range's other end, of its bit pattern. -/
theorem ofBits_n448 : Ideal.ofBits .f32 0xC3E00000#32 = ((-448 : ℝ) : EReal) := by
  simp [Ideal.ofBits, Ideal.ieee, -EReal.coe_mul]; norm_num

/-- Zero, of its bit pattern. -/
theorem ofBits_0f8 : Ideal.ofBits .fp8e4m3 0x00#8 = (0 : EReal) := by
  simp [Ideal.ofBits, Ideal.e4m3fn]

/-- The comparison of a row number with the number of rows. -/
theorem msk (x : Fin 640) (n : ℕ) (hn : n ≤ 640) : IntOp.cmpi .slt (BitVec.ofNat 32 x.val) (BitVec.ofNat 32 n) = if x.val < n then 1#1 else 0#1 := by
  have h : ∀ k : ℕ, k ≤ 640 → (BitVec.ofNat 32 k).toInt = k := fun k hk => by
    rw [BitVec.toInt_eq_toNat_of_lt] <;> simp [BitVec.toNat_ofNat] <;> omega
  have h1 := h x.val (by omega)
  have h2 := h n hn
  by_cases hx : x.val < n
  · rw [if_pos hx]; simp [IntOp.cmpi, BitVec.slt, h1, h2, hx]
  · rw [if_neg hx]; simp [IntOp.cmpi, BitVec.slt, h1, h2, hx]

/-- Whether a row lies in a head's range. -/
theorem inside (h : Fin 4) (x : Fin 192) : IntOp.andi (IntOp.cmpi .sge (BitVec.ofNat 32 x.val) (BitVec.ofNat 32 (48 * h.val))) (IntOp.cmpi .slt (BitVec.ofNat 32 x.val) (BitVec.ofNat 32 (48 * h.val + 48)))
    = if x.val / 48 = h.val then 1#1 else 0#1 := by
  revert h x; decide +kernel

/-- A query of one head, selected by the head's range. -/
theorem qsel (q : FVec Ideal S192x640 .fp8e4m3) (h k : Fin 4) (r : Fin 192) (j : Fin 640) (hk : h.val = k.val) {m : BitVec 1}
    (hm : m = if r.val / 48 = k.val then 1#1 else 0#1) :
    Scalar.select (α := EReal) m (q (ix2 r j)) (Ideal.ofBits .fp8e4m3 0x00#8) = qmf q (ix3 h r j) := by
  obtain rfl : h = k := Fin.ext hk
  show _ = if r.val / 48 = h.val then q (ix2 r j) else 0
  rw [hm, ofBits_0f8]
  by_cases hh : r.val / 48 = h.val <;> simp [hh, Scalar.select]

/-- A value of one head, masked by the row. -/
theorem vsel (v : FVec Ideal S192x640 .fp8e4m3) (h : Fin 4) (d : Fin 64) (j j' : Fin 640) (n : ℕ) (hn : n ≤ 640) (rr : Fin 192) (hd : d.val < 48)
    (hr : rr.val = 48 * h.val + d.val) (hj : j.val = j'.val) :
    Scalar.select (α := EReal) (IntOp.cmpi .slt (BitVec.ofNat 32 j'.val) (BitVec.ofNat 32 n)) (v (ix2 rr j')) (Ideal.ofBits .fp8e4m3 0x00#8) = vxf n v (ix3 h d j) := by
  obtain rfl : j = j' := Fin.ext hj
  have hb : 48 * h.val + d.val < 192 := by omega
  obtain rfl : rr = ⟨48 * h.val + d.val, hb⟩ := Fin.ext hr
  rw [msk _ n hn, ofBits_0f8]
  show _ = if j.val < n then (if h' : d.val < 48 then v (ix2 ⟨48 * h.val + d.val, _⟩ j) else 1) else 0
  rw [dif_pos hd]
  by_cases hh : j.val < n <;> simp [hh, Scalar.select]

/-- A one under the values, masked by the row. -/
theorem osel (v : FVec Ideal S192x640 .fp8e4m3) (h : Fin 4) (d : Fin 64) (j j' : Fin 640) (n : ℕ) (hn : n ≤ 640) (hd : ¬ d.val < 48) (hj : j.val = j'.val) :
    (FloatOps.sitofp (F := Ideal) .f32 (BitVec.setWidth 32 (IntOp.cmpi .slt (BitVec.ofNat 32 j'.val) (BitVec.ofNat 32 n))) : EReal) = vxf n v (ix3 h d j) := by
  obtain rfl : j = j' := Fin.ext hj
  rw [msk _ n hn]
  show _ = if j.val < n then (if h' : d.val < 48 then v (ix2 ⟨48 * h.val + d.val, _⟩ j) else 1) else 0
  rw [dif_neg hd]
  by_cases hh : j.val < n
  · rw [if_pos hh, if_pos hh]; show (((BitVec.setWidth 32 1#1).toInt : ℝ) : EReal) = 1; simp
  · rw [if_neg hh, if_neg hh]; show (((BitVec.setWidth 32 0#1).toInt : ℝ) : EReal) = 0; simp

/-- A box of the value buffer holds an index whose every coordinate it holds. -/
theorem mem3 (off size : Fin S4x64x640.rank → ℕ) (inb) (a : Fin 4) (b : Fin 64) (d : Fin 640) :
    ix3 a b d ∈ (Rect.unit (s := S4x64x640) off size inb).set
      ↔ (off 0 ≤ a.val ∧ a.val < off 0 + size 0) ∧ (off 1 ≤ b.val ∧ b.val < off 1 + size 1) ∧ (off 2 ≤ d.val ∧ d.val < off 2 + size 2) := by
  rw [Rect.mem_set_unit]
  constructor
  · intro h; exact ⟨h 0, h 1, h 2⟩
  · rintro ⟨h0, h1, h2⟩ k
    match k with
    | ⟨0, _⟩ => exact h0
    | ⟨1, _⟩ => exact h1
    | ⟨2, _⟩ => exact h2

/-- One element of the scale table, read at computed offsets. -/
theorem sread (arg2 : Memref sig .tc .smem S3x12 .f32) (harg2 : arg2.IsWhole) (x0 : Vec Ideal S3x12 .f32)
    (off : Fin S3x12.rank → ℕ) (inb) (p) (b : Fin 3) (h : Fin 12) (hb : off 0 = b.val) (hh : off 1 = h.val) :
    View.readAt (Elt Ideal) arg2.view (Rect.unit (s := S3x12) off S1x1.size inb).toLoadRect (harg2.unread x0) (Shape.Idx.first p) = x0 (ix2 b h) := by
  rw [View.readAt_eq_ld, harg2.read_unread]
  refine View.ld_unit_apply_of _ _ _ _ _ _ fun a => ?_
  have h0 : ∀ a : Fin 2, ((Shape.Idx.first p : (Rect.unit (s := S3x12) off S1x1.size inb).shape.Idx) a).val = 0 := by
    intro a
    have := (Shape.Idx.first p a).isLt
    fin_cases a <;> simp at this ⊢
  have h1 := h0 a
  match a with
  | ⟨0, _⟩ => exact (hb.symm.trans (by rw [h1]; rfl))
  | ⟨1, _⟩ => exact (hh.symm.trans (by rw [h1]; rfl))

/-- One head's row of the attention output, at its place among all rows. -/
theorem headOut {N : ℕ} (hN : N ≤ 640) (x0 : FVec Ideal S3x12 .f32) (b : Fin 3) (kt : FVec Ideal S640x192 .fp8e4m3) (vx : FVec Ideal S4x64x640 .bf16) (qm : FVec Ideal S4x192x640 .fp8e4m3)
    (h : Fin 4) (r : Fin 192) (q : Fin 640) (d : Fin 48) (q' : Fin 640) {v : EReal}
    (hr : r.val = 48 * h.val + d.val) (hq : q.val = q'.val)
    (hv : v = oof hN x0 b kt vx qm h d q') : v = oaf hN x0 b kt vx qm r q := by
  obtain rfl : q = q' := Fin.ext hq
  have h1 : (⟨r.val / 48, by omega⟩ : Fin 4) = h := Fin.ext (by show r.val / 48 = _; omega)
  have h2 : (⟨r.val % 48, by omega⟩ : Fin 48) = d := Fin.ext (by show r.val % 48 = _; omega)
  rw [hv, oaf, h1, h2]

end Cert.KernelIdeal.Val

end
-- ==== Proof.VSoft.lean ====
/- The softmax of real scores, two ways: over the live keys with a base two exponential, normalised after the
product, and over all keys masked, normalised before it. -/
module

public import proofs.«01_k».proof.Proof.RVal
public import proofs.«01_k».proof.Proof.VCore

@[expose] public section

set_option maxRecDepth 16384

noncomputable section

namespace Cert.Same

open Idealize.ShloMosaic

/-- A sum by a real that is not negative is the sum of the products. -/
theorem sum_mul_coe {ι : Type*} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm, EReal.left_distrib_of_nonneg_of_ne_top (by exact_mod_cast hc) (EReal.coe_ne_top c), mul_comm, mul_comm (c : EReal)]

/-- A sum of reals is a real. -/
theorem sum_coe {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A clipped number is a real. -/
theorem clip_real (x : EReal) : ∃ r : ℝ, min ((448 : ℝ) : EReal) (max ((-448 : ℝ) : EReal) x) = (r : EReal) := by
  induction x using EReal.rec with
  | bot => exact ⟨-448, by rw [max_eq_left bot_le, min_eq_right (by exact_mod_cast (by norm_num : (-448 : ℝ) ≤ 448))]⟩
  | top => exact ⟨448, by rw [max_eq_right le_top, min_eq_left le_top]⟩
  | coe r => exact ⟨min 448 (max (-448) r), by rw [EReal.coe_strictMono.monotone.map_min, EReal.coe_strictMono.monotone.map_max]⟩

/-- Zero is not clipped. -/
theorem clip_zero : min ((448 : ℝ) : EReal) (max ((-448 : ℝ) : EReal) 0) = 0 := by
  rw [max_eq_right (by exact_mod_cast (by norm_num : (-448 : ℝ) ≤ 0)), min_eq_right (by exact_mod_cast (by norm_num : (0 : ℝ) ≤ 448))]

/-- One over a positive number is a real that is not negative. -/
theorem inv_real (x : EReal) (h : 0 < x) : ∃ r : ℝ, 0 ≤ r ∧ Ideal.div 1 x = (r : EReal) := by
  induction x using EReal.rec with
  | bot => exact absurd h (by simp)
  | top => exact ⟨0, le_rfl, by simp [Ideal.div]⟩
  | coe r =>
    have hr : 0 < r := by exact_mod_cast h
    exact ⟨1 / r, by positivity, by rw [Ideal.div_coe hr.ne', one_mul]⟩

/-- One over plus infinity. -/
theorem inv_top : Ideal.div 1 ⊤ = 0 := by simp [Ideal.div]

/-- The largest of a row, of one that is it and bounds the others. -/
theorem fold_max_eq {N : ℕ} (f : Fin N → EReal) (X : EReal) (j0 : Fin N) (h0 : f j0 = X) (hX : ∀ j, f j ≤ X) : Finset.univ.fold max (⊥ : EReal) f = X := by
  apply le_antisymm
  · rw [Finset.fold_max_le]; exact ⟨bot_le, fun j _ => hX j⟩
  · rw [Finset.le_fold_max]; exact Or.inr ⟨j0, Finset.mem_univ _, h0.ge⟩

/-- A sum over the first keys is the sum over all keys where the others add nothing. -/
theorem sum_live {N : ℕ} (n : ℕ) (hn : n ≤ N) (hN : N ≤ 640) (g : ℕ → ℝ) (hg : ∀ j, ¬ j < n → g j = 0) : (∑ j : Fin N, g j.val) = ∑ j : Fin 640, g j.val := by
  rw [Fin.sum_univ_eq_sum_range g N, Fin.sum_univ_eq_sum_range g 640]
  refine Finset.sum_subset (fun x hx => ?_) fun x _ hx => hg x ?_
  · simp at hx ⊢; omega
  · simp at hx; omega

/-- The base two exponential of a product by one over the logarithm of two. -/
theorem exp2_log (x : ℝ) : Ideal.exp2 ((x * (Real.log 2)⁻¹ : ℝ) : EReal) = ((Real.exp x : ℝ) : EReal) := by
  rw [Ideal.exp2_coe]
  congr 1
  show (2 : ℝ) ^ (x * (Real.log 2)⁻¹) = _
  rw [Real.rpow_def_of_pos (by norm_num)]
  congr 1
  have : Real.log 2 ≠ 0 := (Real.log_pos (by norm_num)).ne'
  field_simp

/-- The softmax of real scores over the live keys, the dead keys repeating the first, by the base two exponential
and normalised after the product, is the masked softmax normalised before it. -/
theorem soft (n N : ℕ) (h1 : 1 ≤ n) (hn : n ≤ N) (hN : N ≤ 640) (a v : Fin 640 → ℝ) (t : ℝ) (ht : 0 < t) (C : EReal)
    (hC : ∀ i j, ((a i - a j : ℝ) : EReal) * C = (((a i - a j) * t * (Real.log 2)⁻¹ : ℝ) : EReal))
    (S : Fin 640 → EReal) (hS : ∀ j, S j = if j.val < n then ((a j * t : ℝ) : EReal) else ⊥)
    (A : Fin N → EReal) (hA : ∀ j, A j = ((a (if j.val < n then KernelIdeal.Val.up hN j else 0) : ℝ) : EReal))
    (V O : Fin N → EReal) (hV : ∀ j, V j = if j.val < n then (v (KernelIdeal.Val.up hN j) : EReal) else 0) (hO : ∀ j, O j = if j.val < n then 1 else 0) :
    (∑ j, V j * Ideal.exp2 ((A j - Finset.univ.fold max (⊥ : EReal) A) * C)) * Ideal.div 1 (∑ j, O j * Ideal.exp2 ((A j - Finset.univ.fold max (⊥ : EReal) A) * C))
      = RefIdeal.Val.rsm S (fun j => (v j : EReal)) := by
  -- the largest live score
  obtain ⟨j0, hj0, hmax⟩ := Finset.exists_max_image (Finset.univ.filter fun j : Fin 640 => j.val < n) a ⟨⟨0, by omega⟩, by simp; omega⟩
  have hj0 : j0.val < n := by simpa using hj0
  have hmax : ∀ j : Fin 640, j.val < n → a j ≤ a j0 := fun j hj => hmax j (by simpa using hj)
  have hMk : Finset.univ.fold max (⊥ : EReal) A = ((a j0 : ℝ) : EReal) := by
    refine fold_max_eq A _ ⟨j0.val, by omega⟩ ?_ fun j => ?_
    · rw [hA, if_pos hj0]; rfl
    · rw [hA]
      by_cases hj : j.val < n
      · rw [if_pos hj]; exact_mod_cast hmax _ hj
      · rw [if_neg hj]; exact_mod_cast hmax _ (by show (0 : ℕ) < n; omega)
  have hMr : Finset.univ.fold max (⊥ : EReal) S = ((a j0 * t : ℝ) : EReal) := by
    refine fold_max_eq S _ j0 ?_ fun j => ?_
    · rw [hS, if_pos hj0]
    · rw [hS]
      by_cases hj : j.val < n
      · rw [if_pos hj]; exact_mod_cast mul_le_mul_of_nonneg_right (hmax _ hj) ht.le
      · rw [if_neg hj]; exact bot_le
  -- the weights
  let E : ℕ → ℝ := fun k => if h : k < n then Real.exp ((a ⟨k, by omega⟩ - a j0) * t) else 0
  have hE : ∀ k, ¬ k < n → E k = 0 := fun k hk => dif_neg hk
  have hEr : ∀ j, RefIdeal.Val.rex S j = (E j.val : EReal) := fun j => by
    unfold RefIdeal.Val.rex
    rw [show Ideal.ofBits FTy.f32 4286578688#32 = ⊥ from KernelIdeal.Val.ninf, hMr, max_eq_right bot_le, hS]
    by_cases hj : j.val < n
    · rw [if_pos hj, ← EReal.coe_sub, Ideal.exp_coe, ← sub_mul]; simp only [E, dif_pos hj]
    · rw [if_neg hj, hE _ hj]; simp
  have hEk : ∀ j : Fin N, j.val < n → Ideal.exp2 ((A j - Finset.univ.fold max (⊥ : EReal) A) * C) = (E j.val : EReal) := fun j hj => by
    rw [hMk, hA, if_pos hj, ← EReal.coe_sub, hC, exp2_log]; simp only [E, dif_pos hj]; rfl
  -- the sums
  let vE : ℕ → ℝ := fun k => if h : k < 640 then v ⟨k, h⟩ * E k else 0
  have hvE : ∀ k, ¬ k < n → vE k = 0 := fun k hk => by simp only [vE, hE k hk]; split <;> simp
  have hO' : (∑ j, O j * Ideal.exp2 ((A j - Finset.univ.fold max (⊥ : EReal) A) * C)) = ((∑ j : Fin 640, E j.val : ℝ) : EReal) := by
    rw [← sum_live n hn hN E hE, ← sum_coe]
    refine Finset.sum_congr rfl fun j _ => ?_
    by_cases hj : j.val < n
    · rw [hEk j hj, hO, if_pos hj, one_mul]
    · rw [hO, if_neg hj, zero_mul, hE _ hj]; rfl
  have hV' : (∑ j, V j * Ideal.exp2 ((A j - Finset.univ.fold max (⊥ : EReal) A) * C)) = ((∑ j : Fin 640, vE j.val : ℝ) : EReal) := by
    rw [← sum_live n hn hN vE hvE, ← sum_coe]
    refine Finset.sum_congr rfl fun j _ => ?_
    by_cases hj : j.val < n
    · rw [hEk j hj, hV, if_pos hj, ← EReal.coe_mul]; simp only [vE, dif_pos (show j.val < 640 by omega)]; rfl
    · rw [hV, if_neg hj, zero_mul, hvE _ hj]; rfl
  have hD : 0 < ∑ j : Fin 640, E j.val := by
    refine Finset.sum_pos' (fun j _ => ?_) ⟨j0, Finset.mem_univ _, ?_⟩
    · simp only [E]; split
      · exact (Real.exp_pos _).le
      · exact le_rfl
    · simp only [E, dif_pos hj0]; exact Real.exp_pos _
  rw [hO', hV', Ideal.div_coe hD.ne', one_mul, ← EReal.coe_mul]
  unfold RefIdeal.Val.rsm
  have hs : (∑ x : Fin 640, RefIdeal.Val.rex S x) = ((∑ j : Fin 640, E j.val : ℝ) : EReal) := by
    rw [← sum_coe]; exact Finset.sum_congr rfl fun j _ => hEr j
  rw [hs, Finset.sum_mul, ← sum_coe]
  refine Finset.sum_congr rfl fun j _ => ?_
  rw [Ideal.div_coe hD.ne', hEr, ← EReal.coe_mul, ← EReal.coe_mul]
  simp only [vE, dif_pos j.isLt, mul_assoc]

/-- The scale of the scores is that of one positive real on any scores that are zero where a scale is infinite. -/
theorem scale (x y : EReal) (hx : 0 < x) (hy : 0 < y) (a : Fin 640 → ℝ) (h : (x = ⊤ ∨ y = ⊤) → ∀ j, a j = 0) :
    ∃ t : ℝ, 0 < t ∧ (∀ j, (a j : EReal) * Ideal.div (x * y) (Ideal.sqrt (Ideal.ofBits FTy.f32 1111490560#32)) = ((a j * t : ℝ) : EReal))
      ∧ ∀ i j, ((a i - a j : ℝ) : EReal) * (x * y * KernelIdeal.Val.kap) = (((a i - a j) * t * (Real.log 2)⁻¹ : ℝ) : EReal) := by
  have h48 : Ideal.ofBits FTy.f32 1111490560#32 = ((48 : ℝ) : EReal) := by
    simp [Ideal.ofBits, Ideal.ieee, -EReal.coe_mul]; norm_num
  have hs : 0 < Real.sqrt 48 := Real.sqrt_pos.mpr (by norm_num)
  by_cases ht : x = ⊤ ∨ y = ⊤
  · have ha := h ht
    exact ⟨1, one_pos, fun j => by simp [ha], fun i j => by simp [ha]⟩
  · have hx' : x ≠ ⊤ := fun e => ht (Or.inl e)
    have hy' : y ≠ ⊤ := fun e => ht (Or.inr e)
    lift x to ℝ using ⟨hx', (lt_of_le_of_lt bot_le hx).ne'⟩
    lift y to ℝ using ⟨hy', (lt_of_le_of_lt bot_le hy).ne'⟩
    have hx : 0 < x := by exact_mod_cast hx
    have hy : 0 < y := by exact_mod_cast hy
    refine ⟨x * y * (1 / Real.sqrt 48), by positivity, fun j => ?_, fun i j => ?_⟩
    · rw [h48, Ideal.sqrt_coe, if_neg (by norm_num), Ideal.div_coe hs.ne', ← EReal.coe_mul, ← EReal.coe_mul, ← EReal.coe_mul]
    · unfold KernelIdeal.Val.kap
      rw [← EReal.coe_mul, ← EReal.coe_mul, ← EReal.coe_mul]
      congr 1
      rw [one_div]; ring

end Cert.Same

end
-- ==== Proof.VStart.lean ====
/- What the first part of the body stores, index by index. -/
module

public import proofs.«01_k».proof.Proof.VCore
public import proofs.«01_k».proof.Proof.IStart

@[expose] public section

set_option maxRecDepth 16384

noncomputable section

namespace Cert.KernelIdeal.Val

open Cert.KernelIdeal Cert.KernelIdeal.Gen Cert.KernelIdeal.Body
open Idealize.ShloMosaic Idealize.ShloMosaic.TcCoe Idealize.SL.Sem

variable (c : Dev nD) (i : grid0.Coords)
  (arg2 : Memref sig .tc .smem S3x12 .f32) (harg2 : arg2.IsWhole)
  (arg3 : Memref sig .tc .smem S3 .i32) (harg3 : arg3.IsWhole)
  (arg4 : Memref sig .tc .vmem S1x1x192x640 .bf16) (harg4 : arg4.IsWhole)
  (arg5 : Memref sig .tc .vmem S1x1x192x640 .f32) (harg5 : arg5.IsWhole)
  (arg6 : Memref sig .tc .vmem S576x192 .bf16) (harg6 : arg6.IsWhole)
  (arg7 : Memref sig .tc .vmem S192x192 .bf16) (harg7 : arg7.IsWhole)
  (arg8 : Memref sig .tc .vmem S1x1x192x640 .fp8e4m3) (harg8 : arg8.IsWhole)
  (arg9 : Memref sig .tc .vmem S1x1x192x640 .fp8e4m3) (harg9 : arg9.IsWhole)
  (arg10 : Memref sig .tc .vmem S1x1x192x640 .fp8e4m3) (harg10 : arg10.IsWhole)
  (arg11 : Memref sig .tc .vmem S1x1x192x640 .bf16) (harg11 : arg11.IsWhole)
  (arg12 : Memref sig .tc .vmem S1x1x192x640 .bf16) (harg12 : arg12.IsWhole)
  (arg13 : Memref sig .tc .vmem S576x192 .bf16) (harg13 : arg13.IsWhole)
  (arg14 : Memref sig .tc .vmem S192x192 .bf16) (harg14 : arg14.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16) (harg18 : arg18.IsWhole)
  (hc : k0_cond1 i = 1#1) (tb : Vec Ideal S3x12 .f32) (xn : Vec Ideal S3 .i32) (xh : Vec Ideal S1x1x192x640 .bf16) (xw : Vec Ideal S576x192 .bf16) (xo : Vec Ideal S192x192 .bf16)

/-- One scaled input weight. -/
theorem wsAt (tb : FVec Ideal S3x12 .f32) (b : Fin 3) (w : FVec Ideal S576x192 .bf16) (y : S576x192.Idx) (k : Fin 12) (hk : (y 0).val / 48 = k.val) :
    w y * Ideal.div 1 (tb (ix2 b k)) = wsf tb b w y := by
  show _ = w y * Ideal.div 1 (tb (ix2 b ⟨(y 0).val / 48, _⟩))
  congr 4
  exact Fin.ext hk.symm

/-- The stores of the scaled input weights cover the buffer. -/
theorem cov13 (y : S576x192.Idx) : ∃ p ∈ (startA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo).1, y ∈ p.1.set :=
  View.cover_of_tiledL (startA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo).1 S48x192.size (by sl_kernel_rfl) y

/-- The stores of the scaled output weights cover the buffer. -/
theorem cov14 (y : S192x192.Idx) : ∃ p ∈ (startA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo).2.1, y ∈ p.1.set :=
  View.cover_of_tiledL (startA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo).2.1 S48x192.size (by sl_kernel_rfl) y

/-- The stores of the query codes cover the block. -/
theorem cov8A (y : S1x1x192x640.Idx) : ∃ p ∈ (startA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo).2.2.1, y ∈ p.1.set :=
  View.cover_of_tiledL (startA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo).2.2.1 S1x1x192x640.size (by sl_kernel_rfl) y

/-- The stores of the key codes cover the block. -/
theorem cov9A (y : S1x1x192x640.Idx) : ∃ p ∈ (startA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo).2.2.2.1, y ∈ p.1.set :=
  View.cover_of_tiledL (startA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo).2.2.2.1 S1x1x192x640.size (by sl_kernel_rfl) y

/-- The stores of the value codes cover the block. -/
theorem cov10A (y : S1x1x192x640.Idx) : ∃ p ∈ (startA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo).2.2.2.2.1, y ∈ p.1.set :=
  View.cover_of_tiledL (startA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo).2.2.2.2.1 S1x1x192x640.size (by sl_kernel_rfl) y

set_option maxHeartbeats 8000000 in
/-- The scaled input weights. -/
theorem ws_valA : View.canon (startA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo).1 = wsf tb (tab i) xw := by
  funext y
  idx_vars y
  have hcov := cov13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo (ix2 y0 y1)
  revert hcov
  unfold startA
  dsimp only
  unfold startA.sl.H13_12
  intro hcov
  canon_tiles x h using hcov
  all_goals (clear hcov; idx_vars x)
  all_goals obtain rfl : y1 = x1 := Fin.ext (by simpa using h1)
  · have hb : 528 + x0.val < 576 := by omega
    obtain rfl : y0 = ⟨528 + x0.val, hb⟩ := Fin.ext (by simpa using h0)
    pointwise [startA.sl.v344, startA.sl.v341, startA.sl.v340, startA.sl.v338, startA.sl.v337, startA.sl.v339, startA.sl.v335, startA.sl.v334, startA.sl.v332, startA.sl.v168, startA.sl.cst_94, startA.sl.r_12, View.readAt_eq_ld, Memref.IsWhole.read_unread]
    rw [show ∀ p, (⟨k0_off13 i 0, p⟩ : Fin 3) = tab i from fun _ => Fin.ext (toNat_tab i), show ∀ p, (⟨k0_off13 i 1, p⟩ : Fin 12) = ⟨11, by decide⟩ from fun _ => rfl]
    exact wsAt tb (tab i) xw _ _ (by show (528 + x0.val) / 48 = 11; omega)
  · have hb : 480 + x0.val < 576 := by omega
    obtain rfl : y0 = ⟨480 + x0.val, hb⟩ := Fin.ext (by simpa using h0)
    pointwise [startA.sl.v329, startA.sl.v326, startA.sl.v325, startA.sl.v323, startA.sl.v322, startA.sl.v324, startA.sl.v320, startA.sl.v319, startA.sl.v317, startA.sl.v168, startA.sl.cst_94, startA.sl.r_11, View.readAt_eq_ld, Memref.IsWhole.read_unread]
    rw [show ∀ p, (⟨k0_off12 i 0, p⟩ : Fin 3) = tab i from fun _ => Fin.ext (toNat_tab i), show ∀ p, (⟨k0_off12 i 1, p⟩ : Fin 12) = ⟨10, by decide⟩ from fun _ => rfl]
    exact wsAt tb (tab i) xw _ _ (by show (480 + x0.val) / 48 = 10; omega)
  · have hb : 432 + x0.val < 576 := by omega
    obtain rfl : y0 = ⟨432 + x0.val, hb⟩ := Fin.ext (by simpa using h0)
    pointwise [startA.sl.v314, startA.sl.v311, startA.sl.v310, startA.sl.v308, startA.sl.v307, startA.sl.v309, startA.sl.v305, startA.sl.v304, startA.sl.v302, startA.sl.v168, startA.sl.cst_94, startA.sl.r_10, View.readAt_eq_ld, Memref.IsWhole.read_unread]
    rw [show ∀ p, (⟨k0_off11 i 0, p⟩ : Fin 3) = tab i from fun _ => Fin.ext (toNat_tab i), show ∀ p, (⟨k0_off11 i 1, p⟩ : Fin 12) = ⟨9, by decide⟩ from fun _ => rfl]
    exact wsAt tb (tab i) xw _ _ (by show (432 + x0.val) / 48 = 9; omega)
  · have hb : 384 + x0.val < 576 := by omega
    obtain rfl : y0 = ⟨384 + x0.val, hb⟩ := Fin.ext (by simpa using h0)
    pointwise [startA.sl.v299, startA.sl.v296, startA.sl.v295, startA.sl.v293, startA.sl.v292, startA.sl.v294, startA.sl.v290, startA.sl.v289, startA.sl.v287, startA.sl.v168, startA.sl.cst_94, startA.sl.r_9, View.readAt_eq_ld, Memref.IsWhole.read_unread]
    rw [show ∀ p, (⟨k0_off10 i 0, p⟩ : Fin 3) = tab i from fun _ => Fin.ext (toNat_tab i), show ∀ p, (⟨k0_off10 i 1, p⟩ : Fin 12) = ⟨8, by decide⟩ from fun _ => rfl]
    exact wsAt tb (tab i) xw _ _ (by show (384 + x0.val) / 48 = 8; omega)
  · have hb : 336 + x0.val < 576 := by omega
    obtain rfl : y0 = ⟨336 + x0.val, hb⟩ := Fin.ext (by simpa using h0)
    pointwise [startA.sl.v284, startA.sl.v281, startA.sl.v280, startA.sl.v278, startA.sl.v277, startA.sl.v279, startA.sl.v275, startA.sl.v274, startA.sl.v272, startA.sl.v168, startA.sl.cst_94, startA.sl.r_8, View.readAt_eq_ld, Memref.IsWhole.read_unread]
    rw [show ∀ p, (⟨k0_off9 i 0, p⟩ : Fin 3) = tab i from fun _ => Fin.ext (toNat_tab i), show ∀ p, (⟨k0_off9 i 1, p⟩ : Fin 12) = ⟨7, by decide⟩ from fun _ => rfl]
    exact wsAt tb (tab i) xw _ _ (by show (336 + x0.val) / 48 = 7; omega)
  · have hb : 288 + x0.val < 576 := by omega
    obtain rfl : y0 = ⟨288 + x0.val, hb⟩ := Fin.ext (by simpa using h0)
    pointwise [startA.sl.v269, startA.sl.v266, startA.sl.v265, startA.sl.v263, startA.sl.v262, startA.sl.v264, startA.sl.v260, startA.sl.v259, startA.sl.v257, startA.sl.v168, startA.sl.cst_94, startA.sl.r_7, View.readAt_eq_ld, Memref.IsWhole.read_unread]
    rw [show ∀ p, (⟨k0_off8 i 0, p⟩ : Fin 3) = tab i from fun _ => Fin.ext (toNat_tab i), show ∀ p, (⟨k0_off8 i 1, p⟩ : Fin 12) = ⟨6, by decide⟩ from fun _ => rfl]
    exact wsAt tb (tab i) xw _ _ (by show (288 + x0.val) / 48 = 6; omega)
  · have hb : 240 + x0.val < 576 := by omega
    obtain rfl : y0 = ⟨240 + x0.val, hb⟩ := Fin.ext (by simpa using h0)
    pointwise [startA.sl.v254, startA.sl.v251, startA.sl.v250, startA.sl.v248, startA.sl.v247, startA.sl.v249, startA.sl.v245, startA.sl.v244, startA.sl.v242, startA.sl.v168, startA.sl.cst_94, startA.sl.r_6, View.readAt_eq_ld, Memref.IsWhole.read_unread]
    rw [show ∀ p, (⟨k0_off7 i 0, p⟩ : Fin 3) = tab i from fun _ => Fin.ext (toNat_tab i), show ∀ p, (⟨k0_off7 i 1, p⟩ : Fin 12) = ⟨5, by decide⟩ from fun _ => rfl]
    exact wsAt tb (tab i) xw _ _ (by show (240 + x0.val) / 48 = 5; omega)
  · have hb : 192 + x0.val < 576 := by omega
    obtain rfl : y0 = ⟨192 + x0.val, hb⟩ := Fin.ext (by simpa using h0)
    pointwise [startA.sl.v239, startA.sl.v236, startA.sl.v235, startA.sl.v233, startA.sl.v232, startA.sl.v234, startA.sl.v230, startA.sl.v229, startA.sl.v227, startA.sl.v168, startA.sl.cst_94, startA.sl.r_5, View.readAt_eq_ld, Memref.IsWhole.read_unread]
    rw [show ∀ p, (⟨k0_off6 i 0, p⟩ : Fin 3) = tab i from fun _ => Fin.ext (toNat_tab i), show ∀ p, (⟨k0_off6 i 1, p⟩ : Fin 12) = ⟨4, by decide⟩ from fun _ => rfl]
    exact wsAt tb (tab i) xw _ _ (by show (192 + x0.val) / 48 = 4; omega)
  · have hb : 144 + x0.val < 576 := by omega
    obtain rfl : y0 = ⟨144 + x0.val, hb⟩ := Fin.ext (by simpa using h0)
    pointwise [startA.sl.v224, startA.sl.v221, startA.sl.v220, startA.sl.v218, startA.sl.v217, startA.sl.v219, startA.sl.v215, startA.sl.v214, startA.sl.v212, startA.sl.v168, startA.sl.cst_94, startA.sl.r_4, View.readAt_eq_ld, Memref.IsWhole.read_unread]
    rw [show ∀ p, (⟨k0_off5 i 0, p⟩ : Fin 3) = tab i from fun _ => Fin.ext (toNat_tab i), show ∀ p, (⟨k0_off5 i 1, p⟩ : Fin 12) = ⟨3, by decide⟩ from fun _ => rfl]
    exact wsAt tb (tab i) xw _ _ (by show (144 + x0.val) / 48 = 3; omega)
  · have hb : 96 + x0.val < 576 := by omega
    obtain rfl : y0 = ⟨96 + x0.val, hb⟩ := Fin.ext (by simpa using h0)
    pointwise [startA.sl.v209, startA.sl.v206, startA.sl.v205, startA.sl.v203, startA.sl.v202, startA.sl.v204, startA.sl.v200, startA.sl.v199, startA.sl.v197, startA.sl.v168, startA.sl.cst_94, startA.sl.r_3, View.readAt_eq_ld, Memref.IsWhole.read_unread]
    rw [show ∀ p, (⟨k0_off4 i 0, p⟩ : Fin 3) = tab i from fun _ => Fin.ext (toNat_tab i), show ∀ p, (⟨k0_off4 i 1, p⟩ : Fin 12) = ⟨2, by decide⟩ from fun _ => rfl]
    exact wsAt tb (tab i) xw _ _ (by show (96 + x0.val) / 48 = 2; omega)
  · have hb : 48 + x0.val < 576 := by omega
    obtain rfl : y0 = ⟨48 + x0.val, hb⟩ := Fin.ext (by simpa using h0)
    pointwise [startA.sl.v194, startA.sl.v191, startA.sl.v190, startA.sl.v188, startA.sl.v187, startA.sl.v189, startA.sl.v185, startA.sl.v184, startA.sl.v182, startA.sl.v168, startA.sl.cst_94, startA.sl.r_2, View.readAt_eq_ld, Memref.IsWhole.read_unread]
    rw [show ∀ p, (⟨k0_off3 i 0, p⟩ : Fin 3) = tab i from fun _ => Fin.ext (toNat_tab i), show ∀ p, (⟨k0_off3 i 1, p⟩ : Fin 12) = ⟨1, by decide⟩ from fun _ => rfl]
    exact wsAt tb (tab i) xw _ _ (by show (48 + x0.val) / 48 = 1; omega)
  · have hb : x0.val < 576 := by omega
    obtain rfl : y0 = ⟨x0.val, hb⟩ := Fin.ext (by simpa using h0)
    pointwise [startA.sl.v179, startA.sl.v176, startA.sl.v175, startA.sl.v173, startA.sl.v172, startA.sl.v174, startA.sl.v170, startA.sl.v169, startA.sl.v167, startA.sl.v168, startA.sl.cst_94, startA.sl.r_1, View.readAt_eq_ld, Memref.IsWhole.read_unread]
    rw [show ∀ p, (⟨k0_off2 i 0, p⟩ : Fin 3) = tab i from fun _ => Fin.ext (toNat_tab i), show ∀ p, (⟨k0_off2 i 1, p⟩ : Fin 12) = ⟨0, by decide⟩ from fun _ => rfl]
    exact wsAt tb (tab i) xw _ _ (by show x0.val / 48 = 0; omega)

end Cert.KernelIdeal.Val

end
-- ==== Proof.VStartB.lean ====
/- What the first part of the body stores and hands on. -/
module

public import proofs.«01_k».proof.Proof.VStart

@[expose] public section

set_option maxRecDepth 16384

noncomputable section

namespace Cert.KernelIdeal.Val

open Cert.KernelIdeal Cert.KernelIdeal.Gen Cert.KernelIdeal.Body
open Idealize.ShloMosaic Idealize.ShloMosaic.TcCoe Idealize.SL.Sem

/-- The codes of all projections. -/
theorem pay66_at (v5 : Vec Ideal S576x192 .bf16) (v6 : Vec Ideal S1x1x192x640 .bf16) (r : Fin 576) (j : Fin 640) :
    k0_pay66 (F := Ideal) v5 v6 (ix2 r j) = cdf v5 v6 r j := by
  pointwise [k0_pay66]
  rw [ofBits_448, ofBits_n448]
  rfl

/-- The codes of projection 0. -/
theorem pay67_eq (v5 : Vec Ideal S576x192 .bf16) (v6 : Vec Ideal S1x1x192x640 .bf16) : k0_pay67 (F := Ideal) v5 v6 = cpf 0 v5 v6 := by
  funext y
  idx_vars y
  pointwise [k0_pay67]
  exact (pay66_at v5 v6 _ _).trans (congrArg (fun r => cdf v5 v6 r y1) (Fin.ext (by simp)))

/-- The codes of projection 0, as stored. -/
theorem pay70_eq (v5 : Vec Ideal S576x192 .bf16) (v6 : Vec Ideal S1x1x192x640 .bf16) : k0_pay70 (F := Ideal) v5 v6 = c4f 0 v5 v6 := by
  funext y
  idx_vars y
  obtain rfl : y0 = 0 := Subsingleton.elim _ _
  obtain rfl : y1 = 0 := Subsingleton.elim _ _
  pointwise [k0_pay70]
  rw [pay67_eq]
  rfl

/-- The codes of projection 1. -/
theorem pay68_eq (v5 : Vec Ideal S576x192 .bf16) (v6 : Vec Ideal S1x1x192x640 .bf16) : k0_pay68 (F := Ideal) v5 v6 = cpf 1 v5 v6 := by
  funext y
  idx_vars y
  pointwise [k0_pay68]
  exact (pay66_at v5 v6 _ _).trans (congrArg (fun r => cdf v5 v6 r y1) (Fin.ext (by simp)))

/-- The codes of projection 1, as stored. -/
theorem pay71_eq (v5 : Vec Ideal S576x192 .bf16) (v6 : Vec Ideal S1x1x192x640 .bf16) : k0_pay71 (F := Ideal) v5 v6 = c4f 1 v5 v6 := by
  funext y
  idx_vars y
  obtain rfl : y0 = 0 := Subsingleton.elim _ _
  obtain rfl : y1 = 0 := Subsingleton.elim _ _
  pointwise [k0_pay71]
  rw [pay68_eq]
  rfl

/-- The codes of projection 2. -/
theorem pay69_eq (v5 : Vec Ideal S576x192 .bf16) (v6 : Vec Ideal S1x1x192x640 .bf16) : k0_pay69 (F := Ideal) v5 v6 = cpf 2 v5 v6 := by
  funext y
  idx_vars y
  pointwise [k0_pay69]
  exact (pay66_at v5 v6 _ _).trans (congrArg (fun r => cdf v5 v6 r y1) (Fin.ext (by simp)))

/-- The codes of projection 2, as stored. -/
theorem pay72_eq (v5 : Vec Ideal S576x192 .bf16) (v6 : Vec Ideal S1x1x192x640 .bf16) : k0_pay72 (F := Ideal) v5 v6 = c4f 2 v5 v6 := by
  funext y
  idx_vars y
  obtain rfl : y0 = 0 := Subsingleton.elim _ _
  obtain rfl : y1 = 0 := Subsingleton.elim _ _
  pointwise [k0_pay72]
  rw [pay69_eq]
  rfl

/-- The first column of the key codes. -/
theorem pay74_at (v5 : Vec Ideal S576x192 .bf16) (v6 : Vec Ideal S1x1x192x640 .bf16) (r : Fin 192) :
    k0_pay74 (F := Ideal) v5 v6 (ix2 r 0) = cpf 1 v5 v6 (ix2 r 0) := by
  pointwise [k0_pay74]
  rw [pay68_eq]

/-- One scaled output weight. -/
theorem woAt (tb : FVec Ideal S3x12 .f32) (b : Fin 3) (w : FVec Ideal S192x192 .bf16) (y : S192x192.Idx) (k : Fin 12) (hk : 8 + (y 0).val / 48 = k.val) :
    w y * tb (ix2 b k) = wof tb b w y := by
  show _ = w y * tb (ix2 b ⟨8 + (y 0).val / 48, _⟩)
  congr 3
  exact Fin.ext hk.symm

/-- A whole read of whole contents. -/
theorem readAt_h (arg4 : Memref sig .tc .vmem S1x1x192x640 .bf16) (harg4 : arg4.IsWhole) (xh : Vec Ideal S1x1x192x640 .bf16) (off : Fin S1x1x192x640.rank → ℕ) (hoff : off = ![0, 0, 0, 0]) (inb) :
    View.readAt (Elt Ideal) arg4.view (Rect.unit (s := S1x1x192x640) off S1x1x192x640.size inb).toLoadRect (harg4.unread xh) = xh := by
  subst hoff
  funext y
  idx_vars y
  obtain rfl : y0 = 0 := Subsingleton.elim _ _
  obtain rfl : y1 = 0 := Subsingleton.elim _ _
  pointwise [View.readAt_eq_ld, Memref.IsWhole.read_unread]

/-- A whole read of whole contents. -/
theorem readAt_w (arg13 : Memref sig .tc .vmem S576x192 .bf16) (harg13 : arg13.IsWhole) (ws : Vec Ideal S576x192 .bf16) (off : Fin S576x192.rank → ℕ) (hoff : off = ![0, 0]) (inb) :
    View.readAt (Elt Ideal) arg13.view (Rect.unit (s := S576x192) off S576x192.size inb).toLoadRect (harg13.unread ws) = ws := by
  subst hoff
  funext y
  idx_vars y
  pointwise [View.readAt_eq_ld, Memref.IsWhole.read_unread]

variable (c : Dev nD) (i : grid0.Coords)
  (arg2 : Memref sig .tc .smem S3x12 .f32) (harg2 : arg2.IsWhole)
  (arg3 : Memref sig .tc .smem S3 .i32) (harg3 : arg3.IsWhole)
  (arg4 : Memref sig .tc .vmem S1x1x192x640 .bf16) (harg4 : arg4.IsWhole)
  (arg5 : Memref sig .tc .vmem S1x1x192x640 .f32) (harg5 : arg5.IsWhole)
  (arg6 : Memref sig .tc .vmem S576x192 .bf16) (harg6 : arg6.IsWhole)
  (arg7 : Memref sig .tc .vmem S192x192 .bf16) (harg7 : arg7.IsWhole)
  (arg8 : Memref sig .tc .vmem S1x1x192x640 .fp8e4m3) (harg8 : arg8.IsWhole)
  (arg9 : Memref sig .tc .vmem S1x1x192x640 .fp8e4m3) (harg9 : arg9.IsWhole)
  (arg10 : Memref sig .tc .vmem S1x1x192x640 .fp8e4m3) (harg10 : arg10.IsWhole)
  (arg11 : Memref sig .tc .vmem S1x1x192x640 .bf16) (harg11 : arg11.IsWhole)
  (arg12 : Memref sig .tc .vmem S1x1x192x640 .bf16) (harg12 : arg12.IsWhole)
  (arg13 : Memref sig .tc .vmem S576x192 .bf16) (harg13 : arg13.IsWhole)
  (arg14 : Memref sig .tc .vmem S192x192 .bf16) (harg14 : arg14.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16) (harg18 : arg18.IsWhole)
  (hc : k0_cond1 i = 1#1) (hn : ¬ k0_cond1 i = 1#1) (tb : Vec Ideal S3x12 .f32) (xn : Vec Ideal S3 .i32) (xh : Vec Ideal S1x1x192x640 .bf16) (xw : Vec Ideal S576x192 .bf16) (xo : Vec Ideal S192x192 .bf16) (ws : Vec Ideal S576x192 .bf16)

include xn xh xo harg3 harg4 harg5 harg7 harg8 harg9 harg10 harg11 harg12 harg13 harg14 harg15 harg16 harg17 harg18 in
/-- The scaled weights, as read back. -/
theorem v5A : startA.sl.v5 (F := Ideal) c i arg2 harg2 arg6 harg6 arg13 hc tb xw = wsf tb (tab i) xw := by
  unfold startA.sl.v5
  rw [View.readCov_eq_canon']
  funext y
  idx_vars y
  refine (congrFun (ws_valA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo) _).trans ?_
  pointwise []

/-- The word of the table's row count. -/
theorem nread : startA.sl.r (F := Ideal) c i arg3 harg3 xn = xn (ix1 (tab i)) := by
  unfold startA.sl.r
  pointwise [View.readAt_eq_ld, Memref.IsWhole.read_unread]
  exact congrArg (fun k => xn (ix1 k)) (Fin.ext (toNat_tab i))

/-- The scaled output weights. -/
theorem wo_valA : View.canon (startA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo).2.1 = wof tb (tab i) xo := by
  funext y
  idx_vars y
  have hcov := cov14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo (ix2 y0 y1)
  revert hcov
  unfold startA
  dsimp only
  intro hcov
  canon_tiles x h using hcov
  all_goals (clear hcov; idx_vars x)
  all_goals obtain rfl : y1 = x1 := Fin.ext (by simpa using h1)
  · have hb : 144 + x0.val < 192 := by omega
    obtain rfl : y0 = ⟨144 + x0.val, hb⟩ := Fin.ext (by simpa using h0)
    pointwise [k0_pay65, startA.sl.r_14, View.readAt_eq_ld, Memref.IsWhole.read_unread]
    rw [show ∀ p, (⟨k0_off13 i 0, p⟩ : Fin 3) = tab i from fun _ => Fin.ext (toNat_tab i), show ∀ p, (⟨k0_off13 i 1, p⟩ : Fin 12) = ⟨11, by decide⟩ from fun _ => rfl]
    exact woAt tb (tab i) xo _ _ (by show 8 + (144 + x0.val) / 48 = 11; omega)
  · have hb : 96 + x0.val < 192 := by omega
    obtain rfl : y0 = ⟨96 + x0.val, hb⟩ := Fin.ext (by simpa using h0)
    pointwise [k0_pay64, startA.sl.r_13, View.readAt_eq_ld, Memref.IsWhole.read_unread]
    rw [show ∀ p, (⟨k0_off12 i 0, p⟩ : Fin 3) = tab i from fun _ => Fin.ext (toNat_tab i), show ∀ p, (⟨k0_off12 i 1, p⟩ : Fin 12) = ⟨10, by decide⟩ from fun _ => rfl]
    exact woAt tb (tab i) xo _ _ (by show 8 + (96 + x0.val) / 48 = 10; omega)
  · have hb : 48 + x0.val < 192 := by omega
    obtain rfl : y0 = ⟨48 + x0.val, hb⟩ := Fin.ext (by simpa using h0)
    pointwise [startA.sl.v366, startA.sl.v363, startA.sl.v362, startA.sl.v360, startA.sl.v361, startA.sl.v359, startA.sl.r_10, View.readAt_eq_ld, Memref.IsWhole.read_unread]
    rw [show ∀ p, (⟨k0_off11 i 0, p⟩ : Fin 3) = tab i from fun _ => Fin.ext (toNat_tab i), show ∀ p, (⟨k0_off11 i 1, p⟩ : Fin 12) = ⟨9, by decide⟩ from fun _ => rfl]
    exact woAt tb (tab i) xo _ _ (by show 8 + (48 + x0.val) / 48 = 9; omega)
  · have hb : x0.val < 192 := by omega
    obtain rfl : y0 = ⟨x0.val, hb⟩ := Fin.ext (by simpa using h0)
    pointwise [startA.sl.v355, startA.sl.v352, startA.sl.v351, startA.sl.v349, startA.sl.v350, startA.sl.v348, startA.sl.r_9, View.readAt_eq_ld, Memref.IsWhole.read_unread]
    rw [show ∀ p, (⟨k0_off10 i 0, p⟩ : Fin 3) = tab i from fun _ => Fin.ext (toNat_tab i), show ∀ p, (⟨k0_off10 i 1, p⟩ : Fin 12) = ⟨8, by decide⟩ from fun _ => rfl]
    exact woAt tb (tab i) xo _ _ (by show 8 + (x0.val) / 48 = 8; omega)

/-- The stores of the query codes cover the block. -/
theorem cov8B (y : S1x1x192x640.Idx) : ∃ p ∈ (startB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hn xn xh ws).1, y ∈ p.1.set :=
  View.cover_of_tiledL (startB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hn xn xh ws).1 S1x1x192x640.size (by sl_kernel_rfl) y

/-- The stores of the key codes cover the block. -/
theorem cov9B (y : S1x1x192x640.Idx) : ∃ p ∈ (startB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hn xn xh ws).2.1, y ∈ p.1.set :=
  View.cover_of_tiledL (startB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hn xn xh ws).2.1 S1x1x192x640.size (by sl_kernel_rfl) y

/-- The stores of the value codes cover the block. -/
theorem cov10B (y : S1x1x192x640.Idx) : ∃ p ∈ (startB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hn xn xh ws).2.2.1, y ∈ p.1.set :=
  View.cover_of_tiledL (startB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hn xn xh ws).2.2.1 S1x1x192x640.size (by sl_kernel_rfl) y

/-- The stored codes of projection 0. -/
theorem c0_A : View.canon (startA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo).2.2.1 = c4f 0 (wsf tb (tab i) xw) xh := by
  funext y
  idx_vars y
  have hcov := cov8A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo (ix4 y0 y1 y2 y3)
  revert hcov
  unfold startA
  dsimp only
  intro hcov
  canon_tiles x h using hcov
  clear hcov
  idx_vars x
  obtain rfl : y0 = x0 := Subsingleton.elim _ _
  obtain rfl : y1 = x1 := Subsingleton.elim _ _
  obtain rfl : y2 = x2 := Fin.ext (by simpa using h2)
  obtain rfl : y3 = x3 := Fin.ext (by simpa using h3)
  refine (congrFun (pay70_eq _ _) _).trans ?_
  exact congrFun (congr (congrArg (c4f 0) (v5A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo)) (readAt_h arg4 harg4 xh _ rfl _)) _

/-- The stored codes of projection 1. -/
theorem c1_A : View.canon (startA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo).2.2.2.1 = c4f 1 (wsf tb (tab i) xw) xh := by
  funext y
  idx_vars y
  have hcov := cov9A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo (ix4 y0 y1 y2 y3)
  revert hcov
  unfold startA
  dsimp only
  intro hcov
  canon_tiles x h using hcov
  clear hcov
  idx_vars x
  obtain rfl : y0 = x0 := Subsingleton.elim _ _
  obtain rfl : y1 = x1 := Subsingleton.elim _ _
  obtain rfl : y2 = x2 := Fin.ext (by simpa using h2)
  obtain rfl : y3 = x3 := Fin.ext (by simpa using h3)
  refine (congrFun (pay71_eq _ _) _).trans ?_
  exact congrFun (congr (congrArg (c4f 1) (v5A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo)) (readAt_h arg4 harg4 xh _ rfl _)) _

/-- The stored codes of projection 2. -/
theorem c2_A : View.canon (startA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo).2.2.2.2.1 = c4f 2 (wsf tb (tab i) xw) xh := by
  funext y
  idx_vars y
  have hcov := cov10A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo (ix4 y0 y1 y2 y3)
  revert hcov
  unfold startA
  dsimp only
  intro hcov
  canon_tiles x h using hcov
  clear hcov
  idx_vars x
  obtain rfl : y0 = x0 := Subsingleton.elim _ _
  obtain rfl : y1 = x1 := Subsingleton.elim _ _
  obtain rfl : y2 = x2 := Fin.ext (by simpa using h2)
  obtain rfl : y3 = x3 := Fin.ext (by simpa using h3)
  refine (congrFun (pay72_eq _ _) _).trans ?_
  exact congrFun (congr (congrArg (c4f 2) (v5A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo)) (readAt_h arg4 harg4 xh _ rfl _)) _

/-- The stored codes of projection 0. -/
theorem c0_B : View.canon (startB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hn xn xh ws).1 = c4f 0 ws xh := by
  funext y
  idx_vars y
  have hcov := cov8B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hn xn xh ws (ix4 y0 y1 y2 y3)
  revert hcov
  unfold startB
  dsimp only
  intro hcov
  canon_tiles x h using hcov
  clear hcov
  idx_vars x
  obtain rfl : y0 = x0 := Subsingleton.elim _ _
  obtain rfl : y1 = x1 := Subsingleton.elim _ _
  obtain rfl : y2 = x2 := Fin.ext (by simpa using h2)
  obtain rfl : y3 = x3 := Fin.ext (by simpa using h3)
  refine (congrFun (pay70_eq _ _) _).trans ?_
  exact congrFun (congr (congrArg (c4f 0) (readAt_w arg13 harg13 ws _ rfl _)) (readAt_h arg4 harg4 xh _ rfl _)) _

/-- The stored codes of projection 1. -/
theorem c1_B : View.canon (startB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hn xn xh ws).2.1 = c4f 1 ws xh := by
  funext y
  idx_vars y
  have hcov := cov9B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hn xn xh ws (ix4 y0 y1 y2 y3)
  revert hcov
  unfold startB
  dsimp only
  intro hcov
  canon_tiles x h using hcov
  clear hcov
  idx_vars x
  obtain rfl : y0 = x0 := Subsingleton.elim _ _
  obtain rfl : y1 = x1 := Subsingleton.elim _ _
  obtain rfl : y2 = x2 := Fin.ext (by simpa using h2)
  obtain rfl : y3 = x3 := Fin.ext (by simpa using h3)
  refine (congrFun (pay71_eq _ _) _).trans ?_
  exact congrFun (congr (congrArg (c4f 1) (readAt_w arg13 harg13 ws _ rfl _)) (readAt_h arg4 harg4 xh _ rfl _)) _

/-- The stored codes of projection 2. -/
theorem c2_B : View.canon (startB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hn xn xh ws).2.2.1 = c4f 2 ws xh := by
  funext y
  idx_vars y
  have hcov := cov10B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hn xn xh ws (ix4 y0 y1 y2 y3)
  revert hcov
  unfold startB
  dsimp only
  intro hcov
  canon_tiles x h using hcov
  clear hcov
  idx_vars x
  obtain rfl : y0 = x0 := Subsingleton.elim _ _
  obtain rfl : y1 = x1 := Subsingleton.elim _ _
  obtain rfl : y2 = x2 := Fin.ext (by simpa using h2)
  obtain rfl : y3 = x3 := Fin.ext (by simpa using h3)
  refine (congrFun (pay72_eq _ _) _).trans ?_
  exact congrFun (congr (congrArg (c4f 2) (readAt_w arg13 harg13 ws _ rfl _)) (readAt_h arg4 harg4 xh _ rfl _)) _

/-- The row count handed on. -/
theorem rA1 : (startA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo).2.2.2.2.2.1.2.1 = xn (ix1 (tab i)) := nread c i arg3 harg3 xn

/-- The codes of projection 0 handed on. -/
theorem rA2 : (startA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo).2.2.2.2.2.1.2.2.1 = cpf 0 (wsf tb (tab i) xw) xh :=
  (pay67_eq _ _).trans (congr (congrArg (cpf 0) (v5A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo)) (readAt_h arg4 harg4 xh _ rfl _))

/-- The codes of projection 1 handed on. -/
theorem rA3 : (startA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo).2.2.2.2.2.1.2.2.2.1 = cpf 1 (wsf tb (tab i) xw) xh :=
  (pay68_eq _ _).trans (congr (congrArg (cpf 1) (v5A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo)) (readAt_h arg4 harg4 xh _ rfl _))

/-- The codes of projection 2 handed on. -/
theorem rA4 : (startA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo).2.2.2.2.2.1.2.2.2.2.1 = cpf 2 (wsf tb (tab i) xw) xh :=
  (pay69_eq _ _).trans (congr (congrArg (cpf 2) (v5A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo)) (readAt_h arg4 harg4 xh _ rfl _))

/-- The mask handed on. -/
theorem rA5 : (startA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo).2.2.2.2.2.1.2.2.2.2.2.1 = k0_pay73 (F := Ideal) (startA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo).2.2.2.2.2.1.2.1 := rfl

/-- The first key handed on. -/
theorem rA6 (r : Fin 192) : (startA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo).2.2.2.2.2.1.2.2.2.2.2.2 (ix2 r 0) = cpf 1 (wsf tb (tab i) xw) xh (ix2 r 0) :=
  (pay74_at _ _ r).trans (congrFun (congr (congrArg (cpf 1) (v5A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo)) (readAt_h arg4 harg4 xh _ rfl _)) _)

/-- The row count handed on. -/
theorem rB1 : (startB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hn xn xh ws).2.2.2.1.2.1 = xn (ix1 (tab i)) := nread c i arg3 harg3 xn

/-- The codes of projection 0 handed on. -/
theorem rB2 : (startB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hn xn xh ws).2.2.2.1.2.2.1 = cpf 0 ws xh :=
  (pay67_eq _ _).trans (congr (congrArg (cpf 0) (readAt_w arg13 harg13 ws _ rfl _)) (readAt_h arg4 harg4 xh _ rfl _))

/-- The codes of projection 1 handed on. -/
theorem rB3 : (startB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hn xn xh ws).2.2.2.1.2.2.2.1 = cpf 1 ws xh :=
  (pay68_eq _ _).trans (congr (congrArg (cpf 1) (readAt_w arg13 harg13 ws _ rfl _)) (readAt_h arg4 harg4 xh _ rfl _))

/-- The codes of projection 2 handed on. -/
theorem rB4 : (startB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hn xn xh ws).2.2.2.1.2.2.2.2.1 = cpf 2 ws xh :=
  (pay69_eq _ _).trans (congr (congrArg (cpf 2) (readAt_w arg13 harg13 ws _ rfl _)) (readAt_h arg4 harg4 xh _ rfl _))

/-- The mask handed on. -/
theorem rB5 : (startB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hn xn xh ws).2.2.2.1.2.2.2.2.2.1 = k0_pay73 (F := Ideal) (startB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hn xn xh ws).2.2.2.1.2.1 := rfl

/-- The first key handed on. -/
theorem rB6 (r : Fin 192) : (startB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hn xn xh ws).2.2.2.1.2.2.2.2.2.2 (ix2 r 0) = cpf 1 ws xh (ix2 r 0) :=
  (pay74_at _ _ r).trans (congrFun (congr (congrArg (cpf 1) (readAt_w arg13 harg13 ws _ rfl _)) (readAt_h arg4 harg4 xh _ rfl _)) _)

end Cert.KernelIdeal.Val

end
-- ==== Proof.VMid.lean ====
/- The three operand buffers of the attention, index by index. -/
module

public import proofs.«01_k».proof.Proof.VCore
public import proofs.«01_k».proof.Proof.IMid

@[expose] public section

set_option maxRecDepth 16384

noncomputable section

namespace Cert.KernelIdeal.Val

open Cert.KernelIdeal Cert.KernelIdeal.Gen Cert.KernelIdeal.Body
open Idealize.ShloMosaic Idealize.ShloMosaic.TcCoe Idealize.SL.Sem

variable (c : Dev nD) (i : grid0.Coords)
  (arg2 : Memref sig .tc .smem S3x12 .f32) (harg2 : arg2.IsWhole)
  (arg3 : Memref sig .tc .smem S3 .i32) (harg3 : arg3.IsWhole)
  (arg4 : Memref sig .tc .vmem S1x1x192x640 .bf16) (harg4 : arg4.IsWhole)
  (arg5 : Memref sig .tc .vmem S1x1x192x640 .f32) (harg5 : arg5.IsWhole)
  (arg6 : Memref sig .tc .vmem S576x192 .bf16) (harg6 : arg6.IsWhole)
  (arg7 : Memref sig .tc .vmem S192x192 .bf16) (harg7 : arg7.IsWhole)
  (arg8 : Memref sig .tc .vmem S1x1x192x640 .fp8e4m3) (harg8 : arg8.IsWhole)
  (arg9 : Memref sig .tc .vmem S1x1x192x640 .fp8e4m3) (harg9 : arg9.IsWhole)
  (arg10 : Memref sig .tc .vmem S1x1x192x640 .fp8e4m3) (harg10 : arg10.IsWhole)
  (arg11 : Memref sig .tc .vmem S1x1x192x640 .bf16) (harg11 : arg11.IsWhole)
  (arg12 : Memref sig .tc .vmem S1x1x192x640 .bf16) (harg12 : arg12.IsWhole)
  (arg13 : Memref sig .tc .vmem S576x192 .bf16) (harg13 : arg13.IsWhole)
  (arg14 : Memref sig .tc .vmem S192x192 .bf16) (harg14 : arg14.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16) (harg18 : arg18.IsWhole)
  (n : ℕ) (v14 v15 v16 : FVec Ideal S192x640 .fp8e4m3) (v30 : FVec Ideal S192x1 .fp8e4m3)

/-- The stores of the transposed keys cover the buffer. -/
theorem cov15 (y : S640x192.Idx) : ∃ p ∈ (midRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 n) v14 v15 v16 (k0_pay73 (F := Ideal) (BitVec.ofNat 32 n)) v30).1, y ∈ p.1.set :=
  View.cover_of_tiledL (midRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 n) v14 v15 v16 (k0_pay73 (F := Ideal) (BitVec.ofNat 32 n)) v30).1 S640x192.size (by sl_kernel_rfl) y

/-- The stores of the values and ones cover the buffer. -/
theorem cov16 (y : S4x64x640.Idx) : ∃ p ∈ (midRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 n) v14 v15 v16 (k0_pay73 (F := Ideal) (BitVec.ofNat 32 n)) v30).2.1, y ∈ p.1.set := by
  idx_vars y
  unfold midRun
  dsimp only
  simp only [List.mem_cons, List.not_mem_nil, exists_eq_or_imp, or_false, exists_eq_left, mem3]
  simp
  omega

/-- The stores of the queries cover the buffer. -/
theorem cov17 (y : S4x192x640.Idx) : ∃ p ∈ (midRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 n) v14 v15 v16 (k0_pay73 (F := Ideal) (BitVec.ofNat 32 n)) v30).2.2.1, y ∈ p.1.set :=
  View.cover_of_tiledL (midRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 n) v14 v15 v16 (k0_pay73 (F := Ideal) (BitVec.ofNat 32 n)) v30).2.2.1 S1x192x640.size (by sl_kernel_rfl) y

set_option maxHeartbeats 2000000 in
/-- The transposed keys. -/
theorem kt_val (hn : n ≤ 640) (h30 : ∀ r : Fin 192, v30 (ix2 r (0 : Fin 1)) = v15 (ix2 r (0 : Fin 640))) (j : Fin 640) (r : Fin 192) :
    View.canon (midRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 n) v14 v15 v16 (k0_pay73 (F := Ideal) (BitVec.ofNat 32 n)) v30).1 (ix2 j r) = ktf n v15 (ix2 j r) := by
  have hcov := cov15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 n v14 v15 v16 v30 (ix2 j r)
  revert hcov
  unfold midRun
  dsimp only
  intro hcov
  canon_tiles x h using hcov
  idx_vars x
  obtain rfl : j = x0 := Fin.ext (by simpa using h0)
  obtain rfl : r = x1 := Fin.ext (by simpa using h1)
  pointwise [k0_pay75, k0_pay73]
  rw [msk _ n hn, h30]
  unfold ktf
  show _ = v15 (ix2 r (if j.val < n then j else (0 : Fin 640)))
  by_cases hj : j.val < n <;> simp [hj, Scalar.select]

set_option maxHeartbeats 4000000 in
/-- The values, with the rows of ones. -/
theorem vx_val (hn : n ≤ 640) (h : Fin 4) (d : Fin 64) (j : Fin 640) :
    View.canon (midRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 n) v14 v15 v16 (k0_pay73 (F := Ideal) (BitVec.ofNat 32 n)) v30).2.1 (ix3 h d j) = vxf n v16 (ix3 h d j) := by
  have hcov := cov16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 n v14 v15 v16 v30 (ix3 h d j)
  revert hcov
  unfold midRun
  dsimp only
  intro hcov
  canon_tiles x h using hcov
  all_goals (clear hcov; idx_vars x)
  all_goals pointwise [k0_pay90, midRun.sl.r, k0_pay88, k0_pay89, k0_pay86, k0_pay85,k0_pay83,k0_pay82,k0_pay81,k0_pay79,k0_pay78,k0_pay77,k0_pay76,k0_pay73]
  · exact osel v16 h d j _ n hn (by omega) (by simpa using h2)
  · exact vsel v16 h d j _ n hn _ (by omega) (by show 144 + x1.val = _; omega) (by simpa using h2)
  · exact osel v16 h d j _ n hn (by omega) (by simpa using h2)
  · exact vsel v16 h d j _ n hn _ (by omega) (by show 96 + x1.val = _; omega) (by simpa using h2)
  · exact osel v16 h d j _ n hn (by omega) (by simpa using h2)
  · exact vsel v16 h d j _ n hn _ (by omega) (by show 48 + x1.val = _; omega) (by simpa using h2)
  · exact osel v16 h d j _ n hn (by omega) (by simpa using h2)
  · exact vsel v16 h d j _ n hn _ (by omega) (by show x1.val = _; omega) (by simpa using h2)

set_option maxHeartbeats 2000000 in
/-- The queries of each head, zero outside. -/
theorem qm_val (h : Fin 4) (r : Fin 192) (j : Fin 640) :
    View.canon (midRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 n) v14 v15 v16 (k0_pay73 (F := Ideal) (BitVec.ofNat 32 n)) v30).2.2.1 (ix3 h r j) = qmf v14 (ix3 h r j) := by
  have hcov := cov17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 n v14 v15 v16 v30 (ix3 h r j)
  revert hcov
  unfold midRun
  dsimp only
  intro hcov
  canon_tiles x hh using hcov
  all_goals (clear hcov; idx_vars x)
  all_goals obtain rfl : r = x1 := Fin.ext (by simpa using hh1)
  all_goals obtain rfl : j = x2 := Fin.ext (by simpa using hh2)
  all_goals pointwise [k0_pay91, k0_pay87, k0_pay84, k0_pay80, midRun.sl.v48]
  · exact qsel v14 h 3 r j (by omega) (inside 3 r)
  · exact qsel v14 h 2 r j (by omega) (inside 2 r)
  · exact qsel v14 h 1 r j (by omega) (inside 1 r)
  · exact qsel v14 h 0 r j (by omega) (inside 0 r)

end Cert.KernelIdeal.Val

end
-- ==== Proof.VAttend1.lean ====
/- The attention output after 1 block(s) of 128 keys, index by index. -/
module

public import proofs.«01_k».proof.Proof.VCore
public import proofs.«01_k».proof.Proof.IAttend1

@[expose] public section

set_option maxRecDepth 16384

noncomputable section

namespace Cert.KernelIdeal.Val

open Cert.KernelIdeal Cert.KernelIdeal.Gen Cert.KernelIdeal.Body
open Idealize.ShloMosaic Idealize.ShloMosaic.TcCoe Idealize.SL.Sem

section

variable (c : Dev nD) (i : grid0.Coords)
  (arg2 : Memref sig .tc .smem S3x12 .f32) (harg2 : arg2.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16)

set_option maxHeartbeats 2000000 in
/-- The stored attention output, over the first 128 keys. -/
theorem o_1 (tb : Vec Ideal S3x12 .f32) (kt : Vec Ideal S640x192 .fp8e4m3) (vx : Vec Ideal S4x64x640 .bf16) (qm : Vec Ideal S4x192x640 .fp8e4m3) (r : Fin 192) (q : Fin 640) :
    attend1.sl.v152 c i arg2 harg2 arg15 harg15 arg16 harg16 arg17 harg17 arg18 tb kt vx qm (ix2 r q) = oaf (N := 128) (by decide) tb (tab i) kt vx qm r q := by
  unfold attend1.sl.v152
  rw [View.readCov_eq_canon']
  unfold attend1.sl.H18_4
  canon_tiles x h
  · idx_vars x
    exact headOut (by decide) tb (tab i) kt vx qm 3 r q x0 x1 (by have := h0; simp [Rect.idx_unit_val] at this ⊢; omega) (by have := h1; simpa [Rect.idx_unit_val] using this) (by
      pointwise [k0_pay19, k0_pay20, k0_pay21, k0_pay22, k0_pay23, k0_pay24, k0_pay25, k0_pay26, k0_pay27, k0_pay92, attend1.sl.r, attend1.sl.r_1, attend1.sl.r_2, attend1.sl.r_3, attend1.sl.r_4, attend1.sl.r_5, attend1.sl.r_6, attend1.sl.r_7, attend1.sl.r_8, attend1.sl.r_9, attend1.sl.r_10, attend1.sl.r_11, attend1.sl.r_12, attend1.sl.r_13, named_kap, ninf, View.readAt_eq_ld, Memref.IsWhole.read_unread]
      rw [show ∀ p, (⟨k0_off20 i 0, p⟩ : Fin 3) = tab i from fun _ => Fin.ext (toNat_tab i),
        show ∀ p, (⟨k0_off20 i 1, p⟩ : Fin 12) = ⟨3, by decide⟩ from fun _ => rfl,
        show ∀ p, (⟨k0_off21 i 0, p⟩ : Fin 3) = tab i from fun _ => Fin.ext (toNat_tab i),
        show ∀ p, (⟨k0_off21 i 1, p⟩ : Fin 12) = ⟨7, by decide⟩ from fun _ => rfl]
      rfl)
  · idx_vars x
    exact headOut (by decide) tb (tab i) kt vx qm 2 r q x0 x1 (by have := h0; simp [Rect.idx_unit_val] at this ⊢; omega) (by have := h1; simpa [Rect.idx_unit_val] using this) (by
      pointwise [k0_pay19, k0_pay20, k0_pay21, k0_pay22, k0_pay23, k0_pay24, k0_pay25, k0_pay26, k0_pay27, k0_pay92, attend1.sl.r, attend1.sl.r_1, attend1.sl.r_2, attend1.sl.r_3, attend1.sl.r_4, attend1.sl.r_5, attend1.sl.r_6, attend1.sl.r_7, attend1.sl.r_8, attend1.sl.r_9, attend1.sl.r_10, attend1.sl.r_11, attend1.sl.r_12, attend1.sl.r_13, named_kap, ninf, View.readAt_eq_ld, Memref.IsWhole.read_unread]
      rw [show ∀ p, (⟨k0_off18 i 0, p⟩ : Fin 3) = tab i from fun _ => Fin.ext (toNat_tab i),
        show ∀ p, (⟨k0_off18 i 1, p⟩ : Fin 12) = ⟨2, by decide⟩ from fun _ => rfl,
        show ∀ p, (⟨k0_off19 i 0, p⟩ : Fin 3) = tab i from fun _ => Fin.ext (toNat_tab i),
        show ∀ p, (⟨k0_off19 i 1, p⟩ : Fin 12) = ⟨6, by decide⟩ from fun _ => rfl]
      rfl)
  · idx_vars x
    exact headOut (by decide) tb (tab i) kt vx qm 1 r q x0 x1 (by have := h0; simp [Rect.idx_unit_val] at this ⊢; omega) (by have := h1; simpa [Rect.idx_unit_val] using this) (by
      pointwise [k0_pay19, k0_pay20, k0_pay21, k0_pay22, k0_pay23, k0_pay24, k0_pay25, k0_pay26, k0_pay27, k0_pay92, attend1.sl.r, attend1.sl.r_1, attend1.sl.r_2, attend1.sl.r_3, attend1.sl.r_4, attend1.sl.r_5, attend1.sl.r_6, attend1.sl.r_7, attend1.sl.r_8, attend1.sl.r_9, attend1.sl.r_10, attend1.sl.r_11, attend1.sl.r_12, attend1.sl.r_13, named_kap, ninf, View.readAt_eq_ld, Memref.IsWhole.read_unread]
      rw [show ∀ p, (⟨k0_off16 i 0, p⟩ : Fin 3) = tab i from fun _ => Fin.ext (toNat_tab i),
        show ∀ p, (⟨k0_off16 i 1, p⟩ : Fin 12) = ⟨1, by decide⟩ from fun _ => rfl,
        show ∀ p, (⟨k0_off17 i 0, p⟩ : Fin 3) = tab i from fun _ => Fin.ext (toNat_tab i),
        show ∀ p, (⟨k0_off17 i 1, p⟩ : Fin 12) = ⟨5, by decide⟩ from fun _ => rfl]
      rfl)
  · idx_vars x
    exact headOut (by decide) tb (tab i) kt vx qm 0 r q x0 x1 (by have := h0; simp [Rect.idx_unit_val] at this ⊢; omega) (by have := h1; simpa [Rect.idx_unit_val] using this) (by
      pointwise [k0_pay19, k0_pay20, k0_pay21, k0_pay22, k0_pay23, k0_pay24, k0_pay25, k0_pay26, k0_pay27, k0_pay92, attend1.sl.r, attend1.sl.r_1, attend1.sl.r_2, attend1.sl.r_3, attend1.sl.r_4, attend1.sl.r_5, attend1.sl.r_6, attend1.sl.r_7, attend1.sl.r_8, attend1.sl.r_9, attend1.sl.r_10, attend1.sl.r_11, attend1.sl.r_12, attend1.sl.r_13, named_kap, ninf, View.readAt_eq_ld, Memref.IsWhole.read_unread]
      rw [show ∀ p, (⟨k0_off14 i 0, p⟩ : Fin 3) = tab i from fun _ => Fin.ext (toNat_tab i),
        show ∀ p, (⟨k0_off14 i 1, p⟩ : Fin 12) = ⟨0, by decide⟩ from fun _ => rfl,
        show ∀ p, (⟨k0_off15 i 0, p⟩ : Fin 3) = tab i from fun _ => Fin.ext (toNat_tab i),
        show ∀ p, (⟨k0_off15 i 1, p⟩ : Fin 12) = ⟨4, by decide⟩ from fun _ => rfl]
      rfl)

end

variable (c : Dev nD) (i : grid0.Coords)
  (arg2 : Memref sig .tc .smem S3x12 .f32) (harg2 : arg2.IsWhole)
  (arg3 : Memref sig .tc .smem S3 .i32) (harg3 : arg3.IsWhole)
  (arg4 : Memref sig .tc .vmem S1x1x192x640 .bf16) (harg4 : arg4.IsWhole)
  (arg5 : Memref sig .tc .vmem S1x1x192x640 .f32) (harg5 : arg5.IsWhole)
  (arg6 : Memref sig .tc .vmem S576x192 .bf16) (harg6 : arg6.IsWhole)
  (arg7 : Memref sig .tc .vmem S192x192 .bf16) (harg7 : arg7.IsWhole)
  (arg8 : Memref sig .tc .vmem S1x1x192x640 .fp8e4m3) (harg8 : arg8.IsWhole)
  (arg9 : Memref sig .tc .vmem S1x1x192x640 .fp8e4m3) (harg9 : arg9.IsWhole)
  (arg10 : Memref sig .tc .vmem S1x1x192x640 .fp8e4m3) (harg10 : arg10.IsWhole)
  (arg11 : Memref sig .tc .vmem S1x1x192x640 .bf16) (harg11 : arg11.IsWhole)
  (arg12 : Memref sig .tc .vmem S1x1x192x640 .bf16) (harg12 : arg12.IsWhole)
  (arg13 : Memref sig .tc .vmem S576x192 .bf16) (harg13 : arg13.IsWhole)
  (arg14 : Memref sig .tc .vmem S192x192 .bf16) (harg14 : arg14.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16) (harg18 : arg18.IsWhole)
  (a0 w : BitVec 32) (p : BitVec 1) (hw : w = 1#32) (hp : p = Scalar.cmpi .eq w 1#32) (tb : Vec Ideal S3x12 .f32) (xx : Vec Ideal S1x1x192x640 .f32) (wos : Vec Ideal S192x192 .bf16) (kt : Vec Ideal S640x192 .fp8e4m3) (vx : Vec Ideal S4x64x640 .bf16) (qm : Vec Ideal S4x192x640 .fp8e4m3)

/-- The store of the attention result covers its block. -/
theorem cov11_1 (y : S1x1x192x640.Idx) : ∃ pc ∈ (attend1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm).1, y ∈ pc.1.set :=
  View.cover_of_tiledL (attend1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm).1 S1x1x192x640.size (by sl_kernel_rfl) y

set_option maxHeartbeats 2000000 in
/-- The attention result of the block. -/
theorem a_1 : View.canon (attend1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm).1 = atf (N := 128) (by decide) tb (tab i) wos kt vx qm := by
  funext y
  idx_vars y
  have hcov := cov11_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm (ix4 y0 y1 y2 y3)
  revert hcov
  unfold attend1
  dsimp only
  intro hcov
  canon_tiles x h using hcov
  clear hcov
  idx_vars x
  obtain rfl : y2 = x2 := Fin.ext (by simpa using h2)
  obtain rfl : y3 = x3 := Fin.ext (by simpa using h3)
  pointwise [k0_pay98, k0_pay97, View.readAt_eq_ld, Memref.IsWhole.read_unread]
  exact Finset.sum_congr rfl fun k _ => congrArg (wos (ix2 k y2) * ·) (o_1 c i arg2 harg2 arg15 harg15 arg16 harg16 arg17 harg17 arg18 tb kt vx qm k y3)

set_option maxHeartbeats 2000000 in
/-- The residual result of the block. -/
theorem y_1 : (attend1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm).2.2.1 = ytf (N := 128) (by decide) tb (tab i) xx wos kt vx qm := by
  funext y
  idx_vars y
  obtain rfl : y0 = 0 := Subsingleton.elim _ _
  obtain rfl : y1 = 0 := Subsingleton.elim _ _
  unfold attend1
  dsimp only
  pointwise [k0_pay99, k0_pay97, View.readAt_eq_ld, Memref.IsWhole.read_unread]
  exact congrArg (xx (ix4 0 0 y2 y3) + ·) (Finset.sum_congr rfl fun k _ => congrArg (wos (ix2 k y2) * ·) (o_1 c i arg2 harg2 arg15 harg15 arg16 harg16 arg17 harg17 arg18 tb kt vx qm k y3))

end Cert.KernelIdeal.Val

end
-- ==== Proof.VAttend2.lean ====
/- The attention output after 2 block(s) of 128 keys, index by index. -/
module

public import proofs.«01_k».proof.Proof.VCore
public import proofs.«01_k».proof.Proof.IAttend2

@[expose] public section

set_option maxRecDepth 16384

noncomputable section

namespace Cert.KernelIdeal.Val

open Cert.KernelIdeal Cert.KernelIdeal.Gen Cert.KernelIdeal.Body
open Idealize.ShloMosaic Idealize.ShloMosaic.TcCoe Idealize.SL.Sem

section

variable (c : Dev nD) (i : grid0.Coords)
  (arg2 : Memref sig .tc .smem S3x12 .f32) (harg2 : arg2.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16)

set_option maxHeartbeats 2000000 in
/-- The stored attention output, over the first 256 keys. -/
theorem o_2 (tb : Vec Ideal S3x12 .f32) (kt : Vec Ideal S640x192 .fp8e4m3) (vx : Vec Ideal S4x64x640 .bf16) (qm : Vec Ideal S4x192x640 .fp8e4m3) (r : Fin 192) (q : Fin 640) :
    attend2.sl.v152 c i arg2 harg2 arg15 harg15 arg16 harg16 arg17 harg17 arg18 tb kt vx qm (ix2 r q) = oaf (N := 256) (by decide) tb (tab i) kt vx qm r q := by
  unfold attend2.sl.v152
  rw [View.readCov_eq_canon']
  unfold attend2.sl.H18_4
  canon_tiles x h
  · idx_vars x
    exact headOut (by decide) tb (tab i) kt vx qm 3 r q x0 x1 (by have := h0; simp [Rect.idx_unit_val] at this ⊢; omega) (by have := h1; simpa [Rect.idx_unit_val] using this) (by
      pointwise [k0_pay28, k0_pay29, k0_pay30, k0_pay31, k0_pay32, k0_pay33, k0_pay34, k0_pay35, k0_pay36, k0_pay93, attend2.sl.r, attend2.sl.r_1, attend2.sl.r_2, attend2.sl.r_3, attend2.sl.r_4, attend2.sl.r_5, attend2.sl.r_6, attend2.sl.r_7, attend2.sl.r_8, attend2.sl.r_9, attend2.sl.r_10, attend2.sl.r_11, attend2.sl.r_12, attend2.sl.r_13, named_kap, ninf, View.readAt_eq_ld, Memref.IsWhole.read_unread]
      rw [show ∀ p, (⟨k0_off28 i 0, p⟩ : Fin 3) = tab i from fun _ => Fin.ext (toNat_tab i),
        show ∀ p, (⟨k0_off28 i 1, p⟩ : Fin 12) = ⟨3, by decide⟩ from fun _ => rfl,
        show ∀ p, (⟨k0_off29 i 0, p⟩ : Fin 3) = tab i from fun _ => Fin.ext (toNat_tab i),
        show ∀ p, (⟨k0_off29 i 1, p⟩ : Fin 12) = ⟨7, by decide⟩ from fun _ => rfl]
      rfl)
  · idx_vars x
    exact headOut (by decide) tb (tab i) kt vx qm 2 r q x0 x1 (by have := h0; simp [Rect.idx_unit_val] at this ⊢; omega) (by have := h1; simpa [Rect.idx_unit_val] using this) (by
      pointwise [k0_pay28, k0_pay29, k0_pay30, k0_pay31, k0_pay32, k0_pay33, k0_pay34, k0_pay35, k0_pay36, k0_pay93, attend2.sl.r, attend2.sl.r_1, attend2.sl.r_2, attend2.sl.r_3, attend2.sl.r_4, attend2.sl.r_5, attend2.sl.r_6, attend2.sl.r_7, attend2.sl.r_8, attend2.sl.r_9, attend2.sl.r_10, attend2.sl.r_11, attend2.sl.r_12, attend2.sl.r_13, named_kap, ninf, View.readAt_eq_ld, Memref.IsWhole.read_unread]
      rw [show ∀ p, (⟨k0_off26 i 0, p⟩ : Fin 3) = tab i from fun _ => Fin.ext (toNat_tab i),
        show ∀ p, (⟨k0_off26 i 1, p⟩ : Fin 12) = ⟨2, by decide⟩ from fun _ => rfl,
        show ∀ p, (⟨k0_off27 i 0, p⟩ : Fin 3) = tab i from fun _ => Fin.ext (toNat_tab i),
        show ∀ p, (⟨k0_off27 i 1, p⟩ : Fin 12) = ⟨6, by decide⟩ from fun _ => rfl]
      rfl)
  · idx_vars x
    exact headOut (by decide) tb (tab i) kt vx qm 1 r q x0 x1 (by have := h0; simp [Rect.idx_unit_val] at this ⊢; omega) (by have := h1; simpa [Rect.idx_unit_val] using this) (by
      pointwise [k0_pay28, k0_pay29, k0_pay30, k0_pay31, k0_pay32, k0_pay33, k0_pay34, k0_pay35, k0_pay36, k0_pay93, attend2.sl.r, attend2.sl.r_1, attend2.sl.r_2, attend2.sl.r_3, attend2.sl.r_4, attend2.sl.r_5, attend2.sl.r_6, attend2.sl.r_7, attend2.sl.r_8, attend2.sl.r_9, attend2.sl.r_10, attend2.sl.r_11, attend2.sl.r_12, attend2.sl.r_13, named_kap, ninf, View.readAt_eq_ld, Memref.IsWhole.read_unread]
      rw [show ∀ p, (⟨k0_off24 i 0, p⟩ : Fin 3) = tab i from fun _ => Fin.ext (toNat_tab i),
        show ∀ p, (⟨k0_off24 i 1, p⟩ : Fin 12) = ⟨1, by decide⟩ from fun _ => rfl,
        show ∀ p, (⟨k0_off25 i 0, p⟩ : Fin 3) = tab i from fun _ => Fin.ext (toNat_tab i),
        show ∀ p, (⟨k0_off25 i 1, p⟩ : Fin 12) = ⟨5, by decide⟩ from fun _ => rfl]
      rfl)
  · idx_vars x
    exact headOut (by decide) tb (tab i) kt vx qm 0 r q x0 x1 (by have := h0; simp [Rect.idx_unit_val] at this ⊢; omega) (by have := h1; simpa [Rect.idx_unit_val] using this) (by
      pointwise [k0_pay28, k0_pay29, k0_pay30, k0_pay31, k0_pay32, k0_pay33, k0_pay34, k0_pay35, k0_pay36, k0_pay93, attend2.sl.r, attend2.sl.r_1, attend2.sl.r_2, attend2.sl.r_3, attend2.sl.r_4, attend2.sl.r_5, attend2.sl.r_6, attend2.sl.r_7, attend2.sl.r_8, attend2.sl.r_9, attend2.sl.r_10, attend2.sl.r_11, attend2.sl.r_12, attend2.sl.r_13, named_kap, ninf, View.readAt_eq_ld, Memref.IsWhole.read_unread]
      rw [show ∀ p, (⟨k0_off22 i 0, p⟩ : Fin 3) = tab i from fun _ => Fin.ext (toNat_tab i),
        show ∀ p, (⟨k0_off22 i 1, p⟩ : Fin 12) = ⟨0, by decide⟩ from fun _ => rfl,
        show ∀ p, (⟨k0_off23 i 0, p⟩ : Fin 3) = tab i from fun _ => Fin.ext (toNat_tab i),
        show ∀ p, (⟨k0_off23 i 1, p⟩ : Fin 12) = ⟨4, by decide⟩ from fun _ => rfl]
      rfl)

end

variable (c : Dev nD) (i : grid0.Coords)
  (arg2 : Memref sig .tc .smem S3x12 .f32) (harg2 : arg2.IsWhole)
  (arg3 : Memref sig .tc .smem S3 .i32) (harg3 : arg3.IsWhole)
  (arg4 : Memref sig .tc .vmem S1x1x192x640 .bf16) (harg4 : arg4.IsWhole)
  (arg5 : Memref sig .tc .vmem S1x1x192x640 .f32) (harg5 : arg5.IsWhole)
  (arg6 : Memref sig .tc .vmem S576x192 .bf16) (harg6 : arg6.IsWhole)
  (arg7 : Memref sig .tc .vmem S192x192 .bf16) (harg7 : arg7.IsWhole)
  (arg8 : Memref sig .tc .vmem S1x1x192x640 .fp8e4m3) (harg8 : arg8.IsWhole)
  (arg9 : Memref sig .tc .vmem S1x1x192x640 .fp8e4m3) (harg9 : arg9.IsWhole)
  (arg10 : Memref sig .tc .vmem S1x1x192x640 .fp8e4m3) (harg10 : arg10.IsWhole)
  (arg11 : Memref sig .tc .vmem S1x1x192x640 .bf16) (harg11 : arg11.IsWhole)
  (arg12 : Memref sig .tc .vmem S1x1x192x640 .bf16) (harg12 : arg12.IsWhole)
  (arg13 : Memref sig .tc .vmem S576x192 .bf16) (harg13 : arg13.IsWhole)
  (arg14 : Memref sig .tc .vmem S192x192 .bf16) (harg14 : arg14.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16) (harg18 : arg18.IsWhole)
  (a0 w : BitVec 32) (p : BitVec 1) (hw : w = 2#32) (hp : p = Scalar.cmpi .eq w 1#32) (tb : Vec Ideal S3x12 .f32) (xx : Vec Ideal S1x1x192x640 .f32) (wos : Vec Ideal S192x192 .bf16) (kt : Vec Ideal S640x192 .fp8e4m3) (vx : Vec Ideal S4x64x640 .bf16) (qm : Vec Ideal S4x192x640 .fp8e4m3)

/-- The store of the attention result covers its block. -/
theorem cov11_2 (y : S1x1x192x640.Idx) : ∃ pc ∈ (attend2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm).1, y ∈ pc.1.set :=
  View.cover_of_tiledL (attend2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm).1 S1x1x192x640.size (by sl_kernel_rfl) y

set_option maxHeartbeats 2000000 in
/-- The attention result of the block. -/
theorem a_2 : View.canon (attend2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm).1 = atf (N := 256) (by decide) tb (tab i) wos kt vx qm := by
  funext y
  idx_vars y
  have hcov := cov11_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm (ix4 y0 y1 y2 y3)
  revert hcov
  unfold attend2
  dsimp only
  intro hcov
  canon_tiles x h using hcov
  clear hcov
  idx_vars x
  obtain rfl : y2 = x2 := Fin.ext (by simpa using h2)
  obtain rfl : y3 = x3 := Fin.ext (by simpa using h3)
  pointwise [k0_pay98, k0_pay97, View.readAt_eq_ld, Memref.IsWhole.read_unread]
  exact Finset.sum_congr rfl fun k _ => congrArg (wos (ix2 k y2) * ·) (o_2 c i arg2 harg2 arg15 harg15 arg16 harg16 arg17 harg17 arg18 tb kt vx qm k y3)

set_option maxHeartbeats 2000000 in
/-- The residual result of the block. -/
theorem y_2 : (attend2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm).2.2.1 = ytf (N := 256) (by decide) tb (tab i) xx wos kt vx qm := by
  funext y
  idx_vars y
  obtain rfl : y0 = 0 := Subsingleton.elim _ _
  obtain rfl : y1 = 0 := Subsingleton.elim _ _
  unfold attend2
  dsimp only
  pointwise [k0_pay99, k0_pay97, View.readAt_eq_ld, Memref.IsWhole.read_unread]
  exact congrArg (xx (ix4 0 0 y2 y3) + ·) (Finset.sum_congr rfl fun k _ => congrArg (wos (ix2 k y2) * ·) (o_2 c i arg2 harg2 arg15 harg15 arg16 harg16 arg17 harg17 arg18 tb kt vx qm k y3))

end Cert.KernelIdeal.Val

end
-- ==== Proof.VAttend3.lean ====
/- The attention output after 3 block(s) of 128 keys, index by index. -/
module

public import proofs.«01_k».proof.Proof.VCore
public import proofs.«01_k».proof.Proof.IAttend3

@[expose] public section

set_option maxRecDepth 16384

noncomputable section

namespace Cert.KernelIdeal.Val

open Cert.KernelIdeal Cert.KernelIdeal.Gen Cert.KernelIdeal.Body
open Idealize.ShloMosaic Idealize.ShloMosaic.TcCoe Idealize.SL.Sem

section

variable (c : Dev nD) (i : grid0.Coords)
  (arg2 : Memref sig .tc .smem S3x12 .f32) (harg2 : arg2.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16)

set_option maxHeartbeats 2000000 in
/-- The stored attention output, over the first 384 keys. -/
theorem o_3 (tb : Vec Ideal S3x12 .f32) (kt : Vec Ideal S640x192 .fp8e4m3) (vx : Vec Ideal S4x64x640 .bf16) (qm : Vec Ideal S4x192x640 .fp8e4m3) (r : Fin 192) (q : Fin 640) :
    attend3.sl.v152 c i arg2 harg2 arg15 harg15 arg16 harg16 arg17 harg17 arg18 tb kt vx qm (ix2 r q) = oaf (N := 384) (by decide) tb (tab i) kt vx qm r q := by
  unfold attend3.sl.v152
  rw [View.readCov_eq_canon']
  unfold attend3.sl.H18_4
  canon_tiles x h
  · idx_vars x
    exact headOut (by decide) tb (tab i) kt vx qm 3 r q x0 x1 (by have := h0; simp [Rect.idx_unit_val] at this ⊢; omega) (by have := h1; simpa [Rect.idx_unit_val] using this) (by
      pointwise [k0_pay37, k0_pay38, k0_pay39, k0_pay40, k0_pay41, k0_pay42, k0_pay43, k0_pay44, k0_pay45, k0_pay94, attend3.sl.r, attend3.sl.r_1, attend3.sl.r_2, attend3.sl.r_3, attend3.sl.r_4, attend3.sl.r_5, attend3.sl.r_6, attend3.sl.r_7, attend3.sl.r_8, attend3.sl.r_9, attend3.sl.r_10, attend3.sl.r_11, attend3.sl.r_12, attend3.sl.r_13, named_kap, ninf, View.readAt_eq_ld, Memref.IsWhole.read_unread]
      rw [show ∀ p, (⟨k0_off36 i 0, p⟩ : Fin 3) = tab i from fun _ => Fin.ext (toNat_tab i),
        show ∀ p, (⟨k0_off36 i 1, p⟩ : Fin 12) = ⟨3, by decide⟩ from fun _ => rfl,
        show ∀ p, (⟨k0_off37 i 0, p⟩ : Fin 3) = tab i from fun _ => Fin.ext (toNat_tab i),
        show ∀ p, (⟨k0_off37 i 1, p⟩ : Fin 12) = ⟨7, by decide⟩ from fun _ => rfl]
      rfl)
  · idx_vars x
    exact headOut (by decide) tb (tab i) kt vx qm 2 r q x0 x1 (by have := h0; simp [Rect.idx_unit_val] at this ⊢; omega) (by have := h1; simpa [Rect.idx_unit_val] using this) (by
      pointwise [k0_pay37, k0_pay38, k0_pay39, k0_pay40, k0_pay41, k0_pay42, k0_pay43, k0_pay44, k0_pay45, k0_pay94, attend3.sl.r, attend3.sl.r_1, attend3.sl.r_2, attend3.sl.r_3, attend3.sl.r_4, attend3.sl.r_5, attend3.sl.r_6, attend3.sl.r_7, attend3.sl.r_8, attend3.sl.r_9, attend3.sl.r_10, attend3.sl.r_11, attend3.sl.r_12, attend3.sl.r_13, named_kap, ninf, View.readAt_eq_ld, Memref.IsWhole.read_unread]
      rw [show ∀ p, (⟨k0_off34 i 0, p⟩ : Fin 3) = tab i from fun _ => Fin.ext (toNat_tab i),
        show ∀ p, (⟨k0_off34 i 1, p⟩ : Fin 12) = ⟨2, by decide⟩ from fun _ => rfl,
        show ∀ p, (⟨k0_off35 i 0, p⟩ : Fin 3) = tab i from fun _ => Fin.ext (toNat_tab i),
        show ∀ p, (⟨k0_off35 i 1, p⟩ : Fin 12) = ⟨6, by decide⟩ from fun _ => rfl]
      rfl)
  · idx_vars x
    exact headOut (by decide) tb (tab i) kt vx qm 1 r q x0 x1 (by have := h0; simp [Rect.idx_unit_val] at this ⊢; omega) (by have := h1; simpa [Rect.idx_unit_val] using this) (by
      pointwise [k0_pay37, k0_pay38, k0_pay39, k0_pay40, k0_pay41, k0_pay42, k0_pay43, k0_pay44, k0_pay45, k0_pay94, attend3.sl.r, attend3.sl.r_1, attend3.sl.r_2, attend3.sl.r_3, attend3.sl.r_4, attend3.sl.r_5, attend3.sl.r_6, attend3.sl.r_7, attend3.sl.r_8, attend3.sl.r_9, attend3.sl.r_10, attend3.sl.r_11, attend3.sl.r_12, attend3.sl.r_13, named_kap, ninf, View.readAt_eq_ld, Memref.IsWhole.read_unread]
      rw [show ∀ p, (⟨k0_off32 i 0, p⟩ : Fin 3) = tab i from fun _ => Fin.ext (toNat_tab i),
        show ∀ p, (⟨k0_off32 i 1, p⟩ : Fin 12) = ⟨1, by decide⟩ from fun _ => rfl,
        show ∀ p, (⟨k0_off33 i 0, p⟩ : Fin 3) = tab i from fun _ => Fin.ext (toNat_tab i),
        show ∀ p, (⟨k0_off33 i 1, p⟩ : Fin 12) = ⟨5, by decide⟩ from fun _ => rfl]
      rfl)
  · idx_vars x
    exact headOut (by decide) tb (tab i) kt vx qm 0 r q x0 x1 (by have := h0; simp [Rect.idx_unit_val] at this ⊢; omega) (by have := h1; simpa [Rect.idx_unit_val] using this) (by
      pointwise [k0_pay37, k0_pay38, k0_pay39, k0_pay40, k0_pay41, k0_pay42, k0_pay43, k0_pay44, k0_pay45, k0_pay94, attend3.sl.r, attend3.sl.r_1, attend3.sl.r_2, attend3.sl.r_3, attend3.sl.r_4, attend3.sl.r_5, attend3.sl.r_6, attend3.sl.r_7, attend3.sl.r_8, attend3.sl.r_9, attend3.sl.r_10, attend3.sl.r_11, attend3.sl.r_12, attend3.sl.r_13, named_kap, ninf, View.readAt_eq_ld, Memref.IsWhole.read_unread]
      rw [show ∀ p, (⟨k0_off30 i 0, p⟩ : Fin 3) = tab i from fun _ => Fin.ext (toNat_tab i),
        show ∀ p, (⟨k0_off30 i 1, p⟩ : Fin 12) = ⟨0, by decide⟩ from fun _ => rfl,
        show ∀ p, (⟨k0_off31 i 0, p⟩ : Fin 3) = tab i from fun _ => Fin.ext (toNat_tab i),
        show ∀ p, (⟨k0_off31 i 1, p⟩ : Fin 12) = ⟨4, by decide⟩ from fun _ => rfl]
      rfl)

end

variable (c : Dev nD) (i : grid0.Coords)
  (arg2 : Memref sig .tc .smem S3x12 .f32) (harg2 : arg2.IsWhole)
  (arg3 : Memref sig .tc .smem S3 .i32) (harg3 : arg3.IsWhole)
  (arg4 : Memref sig .tc .vmem S1x1x192x640 .bf16) (harg4 : arg4.IsWhole)
  (arg5 : Memref sig .tc .vmem S1x1x192x640 .f32) (harg5 : arg5.IsWhole)
  (arg6 : Memref sig .tc .vmem S576x192 .bf16) (harg6 : arg6.IsWhole)
  (arg7 : Memref sig .tc .vmem S192x192 .bf16) (harg7 : arg7.IsWhole)
  (arg8 : Memref sig .tc .vmem S1x1x192x640 .fp8e4m3) (harg8 : arg8.IsWhole)
  (arg9 : Memref sig .tc .vmem S1x1x192x640 .fp8e4m3) (harg9 : arg9.IsWhole)
  (arg10 : Memref sig .tc .vmem S1x1x192x640 .fp8e4m3) (harg10 : arg10.IsWhole)
  (arg11 : Memref sig .tc .vmem S1x1x192x640 .bf16) (harg11 : arg11.IsWhole)
  (arg12 : Memref sig .tc .vmem S1x1x192x640 .bf16) (harg12 : arg12.IsWhole)
  (arg13 : Memref sig .tc .vmem S576x192 .bf16) (harg13 : arg13.IsWhole)
  (arg14 : Memref sig .tc .vmem S192x192 .bf16) (harg14 : arg14.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16) (harg18 : arg18.IsWhole)
  (a0 w : BitVec 32) (p : BitVec 1) (hw : w = 3#32) (hp : p = Scalar.cmpi .eq w 1#32) (tb : Vec Ideal S3x12 .f32) (xx : Vec Ideal S1x1x192x640 .f32) (wos : Vec Ideal S192x192 .bf16) (kt : Vec Ideal S640x192 .fp8e4m3) (vx : Vec Ideal S4x64x640 .bf16) (qm : Vec Ideal S4x192x640 .fp8e4m3)

/-- The store of the attention result covers its block. -/
theorem cov11_3 (y : S1x1x192x640.Idx) : ∃ pc ∈ (attend3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm).1, y ∈ pc.1.set :=
  View.cover_of_tiledL (attend3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm).1 S1x1x192x640.size (by sl_kernel_rfl) y

set_option maxHeartbeats 2000000 in
/-- The attention result of the block. -/
theorem a_3 : View.canon (attend3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm).1 = atf (N := 384) (by decide) tb (tab i) wos kt vx qm := by
  funext y
  idx_vars y
  have hcov := cov11_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm (ix4 y0 y1 y2 y3)
  revert hcov
  unfold attend3
  dsimp only
  intro hcov
  canon_tiles x h using hcov
  clear hcov
  idx_vars x
  obtain rfl : y2 = x2 := Fin.ext (by simpa using h2)
  obtain rfl : y3 = x3 := Fin.ext (by simpa using h3)
  pointwise [k0_pay98, k0_pay97, View.readAt_eq_ld, Memref.IsWhole.read_unread]
  exact Finset.sum_congr rfl fun k _ => congrArg (wos (ix2 k y2) * ·) (o_3 c i arg2 harg2 arg15 harg15 arg16 harg16 arg17 harg17 arg18 tb kt vx qm k y3)

set_option maxHeartbeats 2000000 in
/-- The residual result of the block. -/
theorem y_3 : (attend3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm).2.2.1 = ytf (N := 384) (by decide) tb (tab i) xx wos kt vx qm := by
  funext y
  idx_vars y
  obtain rfl : y0 = 0 := Subsingleton.elim _ _
  obtain rfl : y1 = 0 := Subsingleton.elim _ _
  unfold attend3
  dsimp only
  pointwise [k0_pay99, k0_pay97, View.readAt_eq_ld, Memref.IsWhole.read_unread]
  exact congrArg (xx (ix4 0 0 y2 y3) + ·) (Finset.sum_congr rfl fun k _ => congrArg (wos (ix2 k y2) * ·) (o_3 c i arg2 harg2 arg15 harg15 arg16 harg16 arg17 harg17 arg18 tb kt vx qm k y3))

end Cert.KernelIdeal.Val

end
-- ==== Proof.VAttend4.lean ====
/- The attention output after 4 block(s) of 128 keys, index by index. -/
module

public import proofs.«01_k».proof.Proof.VCore
public import proofs.«01_k».proof.Proof.IAttend4

@[expose] public section

set_option maxRecDepth 16384

noncomputable section

namespace Cert.KernelIdeal.Val

open Cert.KernelIdeal Cert.KernelIdeal.Gen Cert.KernelIdeal.Body
open Idealize.ShloMosaic Idealize.ShloMosaic.TcCoe Idealize.SL.Sem

section

variable (c : Dev nD) (i : grid0.Coords)
  (arg2 : Memref sig .tc .smem S3x12 .f32) (harg2 : arg2.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16)

set_option maxHeartbeats 2000000 in
/-- The stored attention output, over the first 512 keys. -/
theorem o_4 (tb : Vec Ideal S3x12 .f32) (kt : Vec Ideal S640x192 .fp8e4m3) (vx : Vec Ideal S4x64x640 .bf16) (qm : Vec Ideal S4x192x640 .fp8e4m3) (r : Fin 192) (q : Fin 640) :
    attend4.sl.v152 c i arg2 harg2 arg15 harg15 arg16 harg16 arg17 harg17 arg18 tb kt vx qm (ix2 r q) = oaf (N := 512) (by decide) tb (tab i) kt vx qm r q := by
  unfold attend4.sl.v152
  rw [View.readCov_eq_canon']
  unfold attend4.sl.H18_4
  canon_tiles x h
  · idx_vars x
    exact headOut (by decide) tb (tab i) kt vx qm 3 r q x0 x1 (by have := h0; simp [Rect.idx_unit_val] at this ⊢; omega) (by have := h1; simpa [Rect.idx_unit_val] using this) (by
      pointwise [k0_pay46, k0_pay47, k0_pay48, k0_pay49, k0_pay50, k0_pay51, k0_pay52, k0_pay53, k0_pay54, k0_pay95, attend4.sl.r, attend4.sl.r_1, attend4.sl.r_2, attend4.sl.r_3, attend4.sl.r_4, attend4.sl.r_5, attend4.sl.r_6, attend4.sl.r_7, attend4.sl.r_8, attend4.sl.r_9, attend4.sl.r_10, attend4.sl.r_11, attend4.sl.r_12, attend4.sl.r_13, named_kap, ninf, View.readAt_eq_ld, Memref.IsWhole.read_unread]
      rw [show ∀ p, (⟨k0_off44 i 0, p⟩ : Fin 3) = tab i from fun _ => Fin.ext (toNat_tab i),
        show ∀ p, (⟨k0_off44 i 1, p⟩ : Fin 12) = ⟨3, by decide⟩ from fun _ => rfl,
        show ∀ p, (⟨k0_off45 i 0, p⟩ : Fin 3) = tab i from fun _ => Fin.ext (toNat_tab i),
        show ∀ p, (⟨k0_off45 i 1, p⟩ : Fin 12) = ⟨7, by decide⟩ from fun _ => rfl]
      rfl)
  · idx_vars x
    exact headOut (by decide) tb (tab i) kt vx qm 2 r q x0 x1 (by have := h0; simp [Rect.idx_unit_val] at this ⊢; omega) (by have := h1; simpa [Rect.idx_unit_val] using this) (by
      pointwise [k0_pay46, k0_pay47, k0_pay48, k0_pay49, k0_pay50, k0_pay51, k0_pay52, k0_pay53, k0_pay54, k0_pay95, attend4.sl.r, attend4.sl.r_1, attend4.sl.r_2, attend4.sl.r_3, attend4.sl.r_4, attend4.sl.r_5, attend4.sl.r_6, attend4.sl.r_7, attend4.sl.r_8, attend4.sl.r_9, attend4.sl.r_10, attend4.sl.r_11, attend4.sl.r_12, attend4.sl.r_13, named_kap, ninf, View.readAt_eq_ld, Memref.IsWhole.read_unread]
      rw [show ∀ p, (⟨k0_off42 i 0, p⟩ : Fin 3) = tab i from fun _ => Fin.ext (toNat_tab i),
        show ∀ p, (⟨k0_off42 i 1, p⟩ : Fin 12) = ⟨2, by decide⟩ from fun _ => rfl,
        show ∀ p, (⟨k0_off43 i 0, p⟩ : Fin 3) = tab i from fun _ => Fin.ext (toNat_tab i),
        show ∀ p, (⟨k0_off43 i 1, p⟩ : Fin 12) = ⟨6, by decide⟩ from fun _ => rfl]
      rfl)
  · idx_vars x
    exact headOut (by decide) tb (tab i) kt vx qm 1 r q x0 x1 (by have := h0; simp [Rect.idx_unit_val] at this ⊢; omega) (by have := h1; simpa [Rect.idx_unit_val] using this) (by
      pointwise [k0_pay46, k0_pay47, k0_pay48, k0_pay49, k0_pay50, k0_pay51, k0_pay52, k0_pay53, k0_pay54, k0_pay95, attend4.sl.r, attend4.sl.r_1, attend4.sl.r_2, attend4.sl.r_3, attend4.sl.r_4, attend4.sl.r_5, attend4.sl.r_6, attend4.sl.r_7, attend4.sl.r_8, attend4.sl.r_9, attend4.sl.r_10, attend4.sl.r_11, attend4.sl.r_12, attend4.sl.r_13, named_kap, ninf, View.readAt_eq_ld, Memref.IsWhole.read_unread]
      rw [show ∀ p, (⟨k0_off40 i 0, p⟩ : Fin 3) = tab i from fun _ => Fin.ext (toNat_tab i),
        show ∀ p, (⟨k0_off40 i 1, p⟩ : Fin 12) = ⟨1, by decide⟩ from fun _ => rfl,
        show ∀ p, (⟨k0_off41 i 0, p⟩ : Fin 3) = tab i from fun _ => Fin.ext (toNat_tab i),
        show ∀ p, (⟨k0_off41 i 1, p⟩ : Fin 12) = ⟨5, by decide⟩ from fun _ => rfl]
      rfl)
  · idx_vars x
    exact headOut (by decide) tb (tab i) kt vx qm 0 r q x0 x1 (by have := h0; simp [Rect.idx_unit_val] at this ⊢; omega) (by have := h1; simpa [Rect.idx_unit_val] using this) (by
      pointwise [k0_pay46, k0_pay47, k0_pay48, k0_pay49, k0_pay50, k0_pay51, k0_pay52, k0_pay53, k0_pay54, k0_pay95, attend4.sl.r, attend4.sl.r_1, attend4.sl.r_2, attend4.sl.r_3, attend4.sl.r_4, attend4.sl.r_5, attend4.sl.r_6, attend4.sl.r_7, attend4.sl.r_8, attend4.sl.r_9, attend4.sl.r_10, attend4.sl.r_11, attend4.sl.r_12, attend4.sl.r_13, named_kap, ninf, View.readAt_eq_ld, Memref.IsWhole.read_unread]
      rw [show ∀ p, (⟨k0_off38 i 0, p⟩ : Fin 3) = tab i from fun _ => Fin.ext (toNat_tab i),
        show ∀ p, (⟨k0_off38 i 1, p⟩ : Fin 12) = ⟨0, by decide⟩ from fun _ => rfl,
        show ∀ p, (⟨k0_off39 i 0, p⟩ : Fin 3) = tab i from fun _ => Fin.ext (toNat_tab i),
        show ∀ p, (⟨k0_off39 i 1, p⟩ : Fin 12) = ⟨4, by decide⟩ from fun _ => rfl]
      rfl)

end

variable (c : Dev nD) (i : grid0.Coords)
  (arg2 : Memref sig .tc .smem S3x12 .f32) (harg2 : arg2.IsWhole)
  (arg3 : Memref sig .tc .smem S3 .i32) (harg3 : arg3.IsWhole)
  (arg4 : Memref sig .tc .vmem S1x1x192x640 .bf16) (harg4 : arg4.IsWhole)
  (arg5 : Memref sig .tc .vmem S1x1x192x640 .f32) (harg5 : arg5.IsWhole)
  (arg6 : Memref sig .tc .vmem S576x192 .bf16) (harg6 : arg6.IsWhole)
  (arg7 : Memref sig .tc .vmem S192x192 .bf16) (harg7 : arg7.IsWhole)
  (arg8 : Memref sig .tc .vmem S1x1x192x640 .fp8e4m3) (harg8 : arg8.IsWhole)
  (arg9 : Memref sig .tc .vmem S1x1x192x640 .fp8e4m3) (harg9 : arg9.IsWhole)
  (arg10 : Memref sig .tc .vmem S1x1x192x640 .fp8e4m3) (harg10 : arg10.IsWhole)
  (arg11 : Memref sig .tc .vmem S1x1x192x640 .bf16) (harg11 : arg11.IsWhole)
  (arg12 : Memref sig .tc .vmem S1x1x192x640 .bf16) (harg12 : arg12.IsWhole)
  (arg13 : Memref sig .tc .vmem S576x192 .bf16) (harg13 : arg13.IsWhole)
  (arg14 : Memref sig .tc .vmem S192x192 .bf16) (harg14 : arg14.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16) (harg18 : arg18.IsWhole)
  (a0 w : BitVec 32) (p : BitVec 1) (hw : w = 4#32) (hp : p = Scalar.cmpi .eq w 1#32) (tb : Vec Ideal S3x12 .f32) (xx : Vec Ideal S1x1x192x640 .f32) (wos : Vec Ideal S192x192 .bf16) (kt : Vec Ideal S640x192 .fp8e4m3) (vx : Vec Ideal S4x64x640 .bf16) (qm : Vec Ideal S4x192x640 .fp8e4m3)

/-- The store of the attention result covers its block. -/
theorem cov11_4 (y : S1x1x192x640.Idx) : ∃ pc ∈ (attend4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm).1, y ∈ pc.1.set :=
  View.cover_of_tiledL (attend4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm).1 S1x1x192x640.size (by sl_kernel_rfl) y

set_option maxHeartbeats 2000000 in
/-- The attention result of the block. -/
theorem a_4 : View.canon (attend4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm).1 = atf (N := 512) (by decide) tb (tab i) wos kt vx qm := by
  funext y
  idx_vars y
  have hcov := cov11_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm (ix4 y0 y1 y2 y3)
  revert hcov
  unfold attend4
  dsimp only
  intro hcov
  canon_tiles x h using hcov
  clear hcov
  idx_vars x
  obtain rfl : y2 = x2 := Fin.ext (by simpa using h2)
  obtain rfl : y3 = x3 := Fin.ext (by simpa using h3)
  pointwise [k0_pay98, k0_pay97, View.readAt_eq_ld, Memref.IsWhole.read_unread]
  exact Finset.sum_congr rfl fun k _ => congrArg (wos (ix2 k y2) * ·) (o_4 c i arg2 harg2 arg15 harg15 arg16 harg16 arg17 harg17 arg18 tb kt vx qm k y3)

set_option maxHeartbeats 2000000 in
/-- The residual result of the block. -/
theorem y_4 : (attend4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm).2.2.1 = ytf (N := 512) (by decide) tb (tab i) xx wos kt vx qm := by
  funext y
  idx_vars y
  obtain rfl : y0 = 0 := Subsingleton.elim _ _
  obtain rfl : y1 = 0 := Subsingleton.elim _ _
  unfold attend4
  dsimp only
  pointwise [k0_pay99, k0_pay97, View.readAt_eq_ld, Memref.IsWhole.read_unread]
  exact congrArg (xx (ix4 0 0 y2 y3) + ·) (Finset.sum_congr rfl fun k _ => congrArg (wos (ix2 k y2) * ·) (o_4 c i arg2 harg2 arg15 harg15 arg16 harg16 arg17 harg17 arg18 tb kt vx qm k y3))

end Cert.KernelIdeal.Val

end
-- ==== Proof.VAttend5.lean ====
/- The attention output after 5 block(s) of 128 keys, index by index. -/
module

public import proofs.«01_k».proof.Proof.VCore
public import proofs.«01_k».proof.Proof.IAttend5

@[expose] public section

set_option maxRecDepth 16384

noncomputable section

namespace Cert.KernelIdeal.Val

open Cert.KernelIdeal Cert.KernelIdeal.Gen Cert.KernelIdeal.Body
open Idealize.ShloMosaic Idealize.ShloMosaic.TcCoe Idealize.SL.Sem

section

variable (c : Dev nD) (i : grid0.Coords)
  (arg2 : Memref sig .tc .smem S3x12 .f32) (harg2 : arg2.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16)

set_option maxHeartbeats 2000000 in
/-- The stored attention output, over the first 640 keys. -/
theorem o_5 (tb : Vec Ideal S3x12 .f32) (kt : Vec Ideal S640x192 .fp8e4m3) (vx : Vec Ideal S4x64x640 .bf16) (qm : Vec Ideal S4x192x640 .fp8e4m3) (r : Fin 192) (q : Fin 640) :
    attend5.sl.v152 c i arg2 harg2 arg15 harg15 arg16 harg16 arg17 harg17 arg18 tb kt vx qm (ix2 r q) = oaf (N := 640) (by decide) tb (tab i) kt vx qm r q := by
  unfold attend5.sl.v152
  rw [View.readCov_eq_canon']
  unfold attend5.sl.H18_4
  canon_tiles x h
  · idx_vars x
    exact headOut (by decide) tb (tab i) kt vx qm 3 r q x0 x1 (by have := h0; simp [Rect.idx_unit_val] at this ⊢; omega) (by have := h1; simpa [Rect.idx_unit_val] using this) (by
      pointwise [k0_pay55, k0_pay56, k0_pay57, k0_pay58, k0_pay59, k0_pay60, k0_pay61, k0_pay62, k0_pay63, k0_pay96, attend5.sl.r, attend5.sl.r_1, attend5.sl.r_2, attend5.sl.r_3, attend5.sl.r_4, attend5.sl.r_5, attend5.sl.r_6, attend5.sl.r_7, attend5.sl.r_8, attend5.sl.r_9, attend5.sl.r_10, attend5.sl.r_11, attend5.sl.r_12, attend5.sl.r_13, named_kap, ninf, View.readAt_eq_ld, Memref.IsWhole.read_unread]
      rw [show ∀ p, (⟨k0_off52 i 0, p⟩ : Fin 3) = tab i from fun _ => Fin.ext (toNat_tab i),
        show ∀ p, (⟨k0_off52 i 1, p⟩ : Fin 12) = ⟨3, by decide⟩ from fun _ => rfl,
        show ∀ p, (⟨k0_off53 i 0, p⟩ : Fin 3) = tab i from fun _ => Fin.ext (toNat_tab i),
        show ∀ p, (⟨k0_off53 i 1, p⟩ : Fin 12) = ⟨7, by decide⟩ from fun _ => rfl]
      rfl)
  · idx_vars x
    exact headOut (by decide) tb (tab i) kt vx qm 2 r q x0 x1 (by have := h0; simp [Rect.idx_unit_val] at this ⊢; omega) (by have := h1; simpa [Rect.idx_unit_val] using this) (by
      pointwise [k0_pay55, k0_pay56, k0_pay57, k0_pay58, k0_pay59, k0_pay60, k0_pay61, k0_pay62, k0_pay63, k0_pay96, attend5.sl.r, attend5.sl.r_1, attend5.sl.r_2, attend5.sl.r_3, attend5.sl.r_4, attend5.sl.r_5, attend5.sl.r_6, attend5.sl.r_7, attend5.sl.r_8, attend5.sl.r_9, attend5.sl.r_10, attend5.sl.r_11, attend5.sl.r_12, attend5.sl.r_13, named_kap, ninf, View.readAt_eq_ld, Memref.IsWhole.read_unread]
      rw [show ∀ p, (⟨k0_off50 i 0, p⟩ : Fin 3) = tab i from fun _ => Fin.ext (toNat_tab i),
        show ∀ p, (⟨k0_off50 i 1, p⟩ : Fin 12) = ⟨2, by decide⟩ from fun _ => rfl,
        show ∀ p, (⟨k0_off51 i 0, p⟩ : Fin 3) = tab i from fun _ => Fin.ext (toNat_tab i),
        show ∀ p, (⟨k0_off51 i 1, p⟩ : Fin 12) = ⟨6, by decide⟩ from fun _ => rfl]
      rfl)
  · idx_vars x
    exact headOut (by decide) tb (tab i) kt vx qm 1 r q x0 x1 (by have := h0; simp [Rect.idx_unit_val] at this ⊢; omega) (by have := h1; simpa [Rect.idx_unit_val] using this) (by
      pointwise [k0_pay55, k0_pay56, k0_pay57, k0_pay58, k0_pay59, k0_pay60, k0_pay61, k0_pay62, k0_pay63, k0_pay96, attend5.sl.r, attend5.sl.r_1, attend5.sl.r_2, attend5.sl.r_3, attend5.sl.r_4, attend5.sl.r_5, attend5.sl.r_6, attend5.sl.r_7, attend5.sl.r_8, attend5.sl.r_9, attend5.sl.r_10, attend5.sl.r_11, attend5.sl.r_12, attend5.sl.r_13, named_kap, ninf, View.readAt_eq_ld, Memref.IsWhole.read_unread]
      rw [show ∀ p, (⟨k0_off48 i 0, p⟩ : Fin 3) = tab i from fun _ => Fin.ext (toNat_tab i),
        show ∀ p, (⟨k0_off48 i 1, p⟩ : Fin 12) = ⟨1, by decide⟩ from fun _ => rfl,
        show ∀ p, (⟨k0_off49 i 0, p⟩ : Fin 3) = tab i from fun _ => Fin.ext (toNat_tab i),
        show ∀ p, (⟨k0_off49 i 1, p⟩ : Fin 12) = ⟨5, by decide⟩ from fun _ => rfl]
      rfl)
  · idx_vars x
    exact headOut (by decide) tb (tab i) kt vx qm 0 r q x0 x1 (by have := h0; simp [Rect.idx_unit_val] at this ⊢; omega) (by have := h1; simpa [Rect.idx_unit_val] using this) (by
      pointwise [k0_pay55, k0_pay56, k0_pay57, k0_pay58, k0_pay59, k0_pay60, k0_pay61, k0_pay62, k0_pay63, k0_pay96, attend5.sl.r, attend5.sl.r_1, attend5.sl.r_2, attend5.sl.r_3, attend5.sl.r_4, attend5.sl.r_5, attend5.sl.r_6, attend5.sl.r_7, attend5.sl.r_8, attend5.sl.r_9, attend5.sl.r_10, attend5.sl.r_11, attend5.sl.r_12, attend5.sl.r_13, named_kap, ninf, View.readAt_eq_ld, Memref.IsWhole.read_unread]
      rw [show ∀ p, (⟨k0_off46 i 0, p⟩ : Fin 3) = tab i from fun _ => Fin.ext (toNat_tab i),
        show ∀ p, (⟨k0_off46 i 1, p⟩ : Fin 12) = ⟨0, by decide⟩ from fun _ => rfl,
        show ∀ p, (⟨k0_off47 i 0, p⟩ : Fin 3) = tab i from fun _ => Fin.ext (toNat_tab i),
        show ∀ p, (⟨k0_off47 i 1, p⟩ : Fin 12) = ⟨4, by decide⟩ from fun _ => rfl]
      rfl)

end

variable (c : Dev nD) (i : grid0.Coords)
  (arg2 : Memref sig .tc .smem S3x12 .f32) (harg2 : arg2.IsWhole)
  (arg3 : Memref sig .tc .smem S3 .i32) (harg3 : arg3.IsWhole)
  (arg4 : Memref sig .tc .vmem S1x1x192x640 .bf16) (harg4 : arg4.IsWhole)
  (arg5 : Memref sig .tc .vmem S1x1x192x640 .f32) (harg5 : arg5.IsWhole)
  (arg6 : Memref sig .tc .vmem S576x192 .bf16) (harg6 : arg6.IsWhole)
  (arg7 : Memref sig .tc .vmem S192x192 .bf16) (harg7 : arg7.IsWhole)
  (arg8 : Memref sig .tc .vmem S1x1x192x640 .fp8e4m3) (harg8 : arg8.IsWhole)
  (arg9 : Memref sig .tc .vmem S1x1x192x640 .fp8e4m3) (harg9 : arg9.IsWhole)
  (arg10 : Memref sig .tc .vmem S1x1x192x640 .fp8e4m3) (harg10 : arg10.IsWhole)
  (arg11 : Memref sig .tc .vmem S1x1x192x640 .bf16) (harg11 : arg11.IsWhole)
  (arg12 : Memref sig .tc .vmem S1x1x192x640 .bf16) (harg12 : arg12.IsWhole)
  (arg13 : Memref sig .tc .vmem S576x192 .bf16) (harg13 : arg13.IsWhole)
  (arg14 : Memref sig .tc .vmem S192x192 .bf16) (harg14 : arg14.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16) (harg18 : arg18.IsWhole)
  (a0 w : BitVec 32) (p : BitVec 1) (hw : w = 5#32) (hp : p = Scalar.cmpi .eq w 1#32) (tb : Vec Ideal S3x12 .f32) (xx : Vec Ideal S1x1x192x640 .f32) (wos : Vec Ideal S192x192 .bf16) (kt : Vec Ideal S640x192 .fp8e4m3) (vx : Vec Ideal S4x64x640 .bf16) (qm : Vec Ideal S4x192x640 .fp8e4m3)

/-- The store of the attention result covers its block. -/
theorem cov11_5 (y : S1x1x192x640.Idx) : ∃ pc ∈ (attend5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm).1, y ∈ pc.1.set :=
  View.cover_of_tiledL (attend5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm).1 S1x1x192x640.size (by sl_kernel_rfl) y

set_option maxHeartbeats 2000000 in
/-- The attention result of the block. -/
theorem a_5 : View.canon (attend5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm).1 = atf (N := 640) (by decide) tb (tab i) wos kt vx qm := by
  funext y
  idx_vars y
  have hcov := cov11_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm (ix4 y0 y1 y2 y3)
  revert hcov
  unfold attend5
  dsimp only
  intro hcov
  canon_tiles x h using hcov
  clear hcov
  idx_vars x
  obtain rfl : y2 = x2 := Fin.ext (by simpa using h2)
  obtain rfl : y3 = x3 := Fin.ext (by simpa using h3)
  pointwise [k0_pay98, k0_pay97, View.readAt_eq_ld, Memref.IsWhole.read_unread]
  exact Finset.sum_congr rfl fun k _ => congrArg (wos (ix2 k y2) * ·) (o_5 c i arg2 harg2 arg15 harg15 arg16 harg16 arg17 harg17 arg18 tb kt vx qm k y3)

set_option maxHeartbeats 2000000 in
/-- The residual result of the block. -/
theorem y_5 : (attend5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm).2.2.1 = ytf (N := 640) (by decide) tb (tab i) xx wos kt vx qm := by
  funext y
  idx_vars y
  obtain rfl : y0 = 0 := Subsingleton.elim _ _
  obtain rfl : y1 = 0 := Subsingleton.elim _ _
  unfold attend5
  dsimp only
  pointwise [k0_pay99, k0_pay97, View.readAt_eq_ld, Memref.IsWhole.read_unread]
  exact congrArg (xx (ix4 0 0 y2 y3) + ·) (Finset.sum_congr rfl fun k _ => congrArg (wos (ix2 k y2) * ·) (o_5 c i arg2 harg2 arg15 harg15 arg16 harg16 arg17 harg17 arg18 tb kt vx qm k y3))

end Cert.KernelIdeal.Val

end
-- ==== Proof.VLast.lean ====
/- The body's triple with what it leaves named: the codes, the attention result, the residual result, the scaled weights. -/
module

public import proofs.«01_k».proof.Proof.VStartB
public import proofs.«01_k».proof.Proof.VMid
public import proofs.«01_k».proof.Proof.VAttend1
public import proofs.«01_k».proof.Proof.VAttend2
public import proofs.«01_k».proof.Proof.VAttend3
public import proofs.«01_k».proof.Proof.VAttend4
public import proofs.«01_k».proof.Proof.VAttend5
public import proofs.«01_k».proof.Proof.IBody
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ
variable (c : Dev nD) (i : grid0.Coords)
  (arg2 : Memref sig .tc .smem S3x12 .f32) (harg2 : arg2.IsWhole)
  (arg3 : Memref sig .tc .smem S3 .i32) (harg3 : arg3.IsWhole)
  (arg4 : Memref sig .tc .vmem S1x1x192x640 .bf16) (harg4 : arg4.IsWhole)
  (arg5 : Memref sig .tc .vmem S1x1x192x640 .f32) (harg5 : arg5.IsWhole)
  (arg6 : Memref sig .tc .vmem S576x192 .bf16) (harg6 : arg6.IsWhole)
  (arg7 : Memref sig .tc .vmem S192x192 .bf16) (harg7 : arg7.IsWhole)
  (arg8 : Memref sig .tc .vmem S1x1x192x640 .fp8e4m3) (harg8 : arg8.IsWhole)
  (arg9 : Memref sig .tc .vmem S1x1x192x640 .fp8e4m3) (harg9 : arg9.IsWhole)
  (arg10 : Memref sig .tc .vmem S1x1x192x640 .fp8e4m3) (harg10 : arg10.IsWhole)
  (arg11 : Memref sig .tc .vmem S1x1x192x640 .bf16) (harg11 : arg11.IsWhole)
  (arg12 : Memref sig .tc .vmem S1x1x192x640 .bf16) (harg12 : arg12.IsWhole)
  (arg13 : Memref sig .tc .vmem S576x192 .bf16) (harg13 : arg13.IsWhole)
  (arg14 : Memref sig .tc .vmem S192x192 .bf16) (harg14 : arg14.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16) (harg18 : arg18.IsWhole)

/-- The keys the blocks of a table with `n` rows hold. -/
def nkf (n : ℕ) : ℕ := min 640 (128 * ((n + 127) / 128))

/-- They are among all keys. -/
theorem nk_le (n : ℕ) : nkf n ≤ 640 := Nat.min_le_left _ _

/-- The attention result depends on the number of keys alone. -/
theorem atf_congr {N M : ℕ} (h : M = N) (hN : N ≤ 640) (hM : M ≤ 640) (x0 b wos kt vx qm) : atf hN x0 b wos kt vx qm = atf hM x0 b wos kt vx qm := by
  subst h; rfl

/-- The residual result depends on the number of keys alone. -/
theorem ytf_congr {N M : ℕ} (h : M = N) (hN : N ≤ 640) (hM : M ≤ 640) (x0 b xx wos kt vx qm) : ytf hN x0 b xx wos kt vx qm = ytf hM x0 b xx wos kt vx qm := by
  subst h; rfl

/-- The attention result of a block of rows from the scaled weights. -/
def atO (n : ℕ) (tb : FVec Ideal S3x12 .f32) (b : Fin 3) (xh : FVec Ideal S1x1x192x640 .bf16) (ws : FVec Ideal S576x192 .bf16) (wos : FVec Ideal S192x192 .bf16) : FVec Ideal S1x1x192x640 .bf16 :=
  atf (nk_le n) tb b wos (ktf n (cpf 1 ws xh)) (vxf n (cpf 2 ws xh)) (qmf (cpf 0 ws xh))

/-- The residual result of a block of rows from the scaled weights. -/
def yO (n : ℕ) (tb : FVec Ideal S3x12 .f32) (b : Fin 3) (xh : FVec Ideal S1x1x192x640 .bf16) (xx : FVec Ideal S1x1x192x640 .f32) (ws : FVec Ideal S576x192 .bf16) (wos : FVec Ideal S192x192 .bf16) : FVec Ideal S1x1x192x640 .bf16 :=
  ytf (nk_le n) tb b xx wos (ktf n (cpf 1 ws xh)) (vxf n (cpf 2 ws xh)) (qmf (cpf 0 ws xh))

/-- A whole block stored is the block read. -/
theorem read_whole (arg12 : Memref sig .tc .vmem S1x1x192x640 .bf16) (f) (v : FVec Ideal S1x1x192x640 .bf16) :
    arg12.view.read (Elt Ideal) (arg12.view.writes (Elt Ideal) f [⟨Rect.unit (s := S1x1x192x640) ![0, 0, 0, 0] S1x1x192x640.size inb_S1x1x192x640_S1x1x192x640_0_0_0_0, v⟩]) = v := by
  have hc : ∀ y : S1x1x192x640.Idx, ∃ pc ∈ ([⟨Rect.unit (s := S1x1x192x640) ![0, 0, 0, 0] S1x1x192x640.size inb_S1x1x192x640_S1x1x192x640_0_0_0_0, v⟩] : List (View.Piece (Elt Ideal) S1x1x192x640 .bf16)), y ∈ pc.1.set :=
    fun y => View.cover_of_tiledL _ S1x1x192x640.size (by sl_kernel_rfl) y
  rw [View.read_writes_eq_canon _ _ _ hc]
  funext y
  idx_vars y
  have hcov := hc (ix4 y0 y1 y2 y3)
  canon_tiles x h using hcov
  clear hcov
  idx_vars x
  obtain rfl : y0 = x0 := Subsingleton.elim _ _
  obtain rfl : y1 = x1 := Subsingleton.elim _ _
  obtain rfl : y2 = x2 := Fin.ext (by simpa using h2)
  obtain rfl : y3 = x3 := Fin.ext (by simpa using h3)
  rfl

set_option maxHeartbeats 4000000 in
/-- The last part of the body and its last store, 1 block(s) of keys: the two results. -/
theorem last1 (n : ℕ) (hn : nkf n = 128) (a0 w : BitVec 32) (p : BitVec 1) (hw : w = 1#32) (hp : p = Scalar.cmpi .eq w 1#32) (tb : Vec Ideal S3x12 .f32) (xx : Vec Ideal S1x1x192x640 .f32) (wos : Vec Ideal S192x192 .bf16) (kt : Vec Ideal S640x192 .fp8e4m3) (vx : Vec Ideal S4x64x640 .bf16) (qm : Vec Ideal S4x192x640 .fp8e4m3)
    (E : Set ℕ) (K : PUnit → sProp 𝕄) :
    iprop(owns (c : Thread nD τ) arg2 fullShare tb ∗ owns (c : Thread nD τ) arg5 fullShare xx ∗ (∃ d, owns (c : Thread nD τ) arg11 fullShare d) ∗ (∃ d, owns (c : Thread nD τ) arg12 fullShare d) ∗ owns (c : Thread nD τ) arg14 fullShare wos ∗ owns (c : Thread nD τ) arg15 fullShare kt ∗ owns (c : Thread nD τ) arg16 fullShare vx ∗ owns (c : Thread nD τ) arg17 fullShare qm ∗ (∃ d, owns (c : Thread nD τ) arg18 fullShare d) ∗ (iprop(owns (c : Thread nD τ) arg2 fullShare tb ∗ owns (c : Thread nD τ) arg5 fullShare xx ∗ owns (c : Thread nD τ) arg11 fullShare (atf (nk_le n) tb (tab i) wos kt vx qm) ∗ owns (c : Thread nD τ) arg12 fullShare (ytf (nk_le n) tb (tab i) xx wos kt vx qm) ∗ owns (c : Thread nD τ) arg14 fullShare wos ∗ owns (c : Thread nD τ) arg15 fullShare kt ∗ owns (c : Thread nD τ) arg16 fullShare vx ∗ owns (c : Thread nD τ) arg17 fullShare qm ∗ (∃ d, owns (c : Thread nD τ) arg18 fullShare d)) -∗ K ⟨⟩))
      ⊢ wp frame (wpE (defs₀ (F := Ideal)) Variants.none c none) E (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p) (fun v => wp frame (wpE (defs₀ (F := Ideal)) Variants.none c none) E (Prog.lift (.store arg12 (Rect.unit (s := S1x1x192x640) ![0, 0, 0, 0] S1x1x192x640.size inb_S1x1x192x640_S1x1x192x640_0_0_0_0) v Finset.univ (View.stores_vmem h_S1x1x192x640 (harg12.storeExact_slice rfl _ packedbf16_S1x1x192x640_S1x1x192x640_0_0_0_0) (fun _ => rfl)) (.inl rfl))) (fun _ => wp frame (wpE (defs₀ (F := Ideal)) Variants.none c none) E (pure ⟨⟩) K)) := by
  rw [atf_congr (N := nkf n) (M := 128) hn.symm (nk_le n) (by decide), ytf_congr (N := nkf n) (M := 128) hn.symm (nk_le n) (by decide)]
  iintro ⟨H2, H5, H11, H12, H14, H15, H16, H17, H18, Hk⟩
  iapply ((attend1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm).2.2.2 E _)
  isplitl [H2]; · iexact H2
  isplitl [H5]; · iexact H5
  isplitl [H11]; · iexact H11
  isplitl [H12]; · iexact H12
  isplitl [H14]; · iexact H14
  isplitl [H15]; · iexact H15
  isplitl [H16]; · iexact H16
  isplitl [H17]; · iexact H17
  isplitl [H18]; · iexact H18
  iintro ⟨H2, H5, ⟨%f11, H11⟩, ⟨%d12, H12⟩, H14, H15, H16, H17, ⟨%f18, H18⟩⟩
  unfold owns
  icases H12 with ⟨%f12, -, H12⟩
  sl_exec
  try sl_step
  iapply Hk
  isplitl [H2]; · iexact H2
  isplitl [H5]; · iexact H5
  isplitl [H11]
  · iexists _; isplitr; swap; · iexact H11
    ipureintro
    exact (View.read_writes_eq_canon _ _ _ (cov11_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm)).trans (a_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm)
  isplitl [H12]
  · iexists _; isplitr; swap; · iexact H12
    ipureintro
    exact (read_whole arg12 _ _).trans (y_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm)
  isplitl [H14]; · iexact H14
  isplitl [H15]; · iexact H15
  isplitl [H16]; · iexact H16
  isplitl [H17]; · iexact H17
  iexists _, _; isplitr; swap; · iexact H18
  ipureintro; rfl

set_option maxHeartbeats 4000000 in
/-- The last part of the body and its last store, 2 block(s) of keys: the two results. -/
theorem last2 (n : ℕ) (hn : nkf n = 256) (a0 w : BitVec 32) (p : BitVec 1) (hw : w = 2#32) (hp : p = Scalar.cmpi .eq w 1#32) (tb : Vec Ideal S3x12 .f32) (xx : Vec Ideal S1x1x192x640 .f32) (wos : Vec Ideal S192x192 .bf16) (kt : Vec Ideal S640x192 .fp8e4m3) (vx : Vec Ideal S4x64x640 .bf16) (qm : Vec Ideal S4x192x640 .fp8e4m3)
    (E : Set ℕ) (K : PUnit → sProp 𝕄) :
    iprop(owns (c : Thread nD τ) arg2 fullShare tb ∗ owns (c : Thread nD τ) arg5 fullShare xx ∗ (∃ d, owns (c : Thread nD τ) arg11 fullShare d) ∗ (∃ d, owns (c : Thread nD τ) arg12 fullShare d) ∗ owns (c : Thread nD τ) arg14 fullShare wos ∗ owns (c : Thread nD τ) arg15 fullShare kt ∗ owns (c : Thread nD τ) arg16 fullShare vx ∗ owns (c : Thread nD τ) arg17 fullShare qm ∗ (∃ d, owns (c : Thread nD τ) arg18 fullShare d) ∗ (iprop(owns (c : Thread nD τ) arg2 fullShare tb ∗ owns (c : Thread nD τ) arg5 fullShare xx ∗ owns (c : Thread nD τ) arg11 fullShare (atf (nk_le n) tb (tab i) wos kt vx qm) ∗ owns (c : Thread nD τ) arg12 fullShare (ytf (nk_le n) tb (tab i) xx wos kt vx qm) ∗ owns (c : Thread nD τ) arg14 fullShare wos ∗ owns (c : Thread nD τ) arg15 fullShare kt ∗ owns (c : Thread nD τ) arg16 fullShare vx ∗ owns (c : Thread nD τ) arg17 fullShare qm ∗ (∃ d, owns (c : Thread nD τ) arg18 fullShare d)) -∗ K ⟨⟩))
      ⊢ wp frame (wpE (defs₀ (F := Ideal)) Variants.none c none) E (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p) (fun v => wp frame (wpE (defs₀ (F := Ideal)) Variants.none c none) E (Prog.lift (.store arg12 (Rect.unit (s := S1x1x192x640) ![0, 0, 0, 0] S1x1x192x640.size inb_S1x1x192x640_S1x1x192x640_0_0_0_0) v Finset.univ (View.stores_vmem h_S1x1x192x640 (harg12.storeExact_slice rfl _ packedbf16_S1x1x192x640_S1x1x192x640_0_0_0_0) (fun _ => rfl)) (.inl rfl))) (fun _ => wp frame (wpE (defs₀ (F := Ideal)) Variants.none c none) E (pure ⟨⟩) K)) := by
  rw [atf_congr (N := nkf n) (M := 256) hn.symm (nk_le n) (by decide), ytf_congr (N := nkf n) (M := 256) hn.symm (nk_le n) (by decide)]
  iintro ⟨H2, H5, H11, H12, H14, H15, H16, H17, H18, Hk⟩
  iapply ((attend2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm).2.2.2 E _)
  isplitl [H2]; · iexact H2
  isplitl [H5]; · iexact H5
  isplitl [H11]; · iexact H11
  isplitl [H12]; · iexact H12
  isplitl [H14]; · iexact H14
  isplitl [H15]; · iexact H15
  isplitl [H16]; · iexact H16
  isplitl [H17]; · iexact H17
  isplitl [H18]; · iexact H18
  iintro ⟨H2, H5, ⟨%f11, H11⟩, ⟨%d12, H12⟩, H14, H15, H16, H17, ⟨%f18, H18⟩⟩
  unfold owns
  icases H12 with ⟨%f12, -, H12⟩
  sl_exec
  try sl_step
  iapply Hk
  isplitl [H2]; · iexact H2
  isplitl [H5]; · iexact H5
  isplitl [H11]
  · iexists _; isplitr; swap; · iexact H11
    ipureintro
    exact (View.read_writes_eq_canon _ _ _ (cov11_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm)).trans (a_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm)
  isplitl [H12]
  · iexists _; isplitr; swap; · iexact H12
    ipureintro
    exact (read_whole arg12 _ _).trans (y_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm)
  isplitl [H14]; · iexact H14
  isplitl [H15]; · iexact H15
  isplitl [H16]; · iexact H16
  isplitl [H17]; · iexact H17
  iexists _, _; isplitr; swap; · iexact H18
  ipureintro; rfl

set_option maxHeartbeats 4000000 in
/-- The last part of the body and its last store, 3 block(s) of keys: the two results. -/
theorem last3 (n : ℕ) (hn : nkf n = 384) (a0 w : BitVec 32) (p : BitVec 1) (hw : w = 3#32) (hp : p = Scalar.cmpi .eq w 1#32) (tb : Vec Ideal S3x12 .f32) (xx : Vec Ideal S1x1x192x640 .f32) (wos : Vec Ideal S192x192 .bf16) (kt : Vec Ideal S640x192 .fp8e4m3) (vx : Vec Ideal S4x64x640 .bf16) (qm : Vec Ideal S4x192x640 .fp8e4m3)
    (E : Set ℕ) (K : PUnit → sProp 𝕄) :
    iprop(owns (c : Thread nD τ) arg2 fullShare tb ∗ owns (c : Thread nD τ) arg5 fullShare xx ∗ (∃ d, owns (c : Thread nD τ) arg11 fullShare d) ∗ (∃ d, owns (c : Thread nD τ) arg12 fullShare d) ∗ owns (c : Thread nD τ) arg14 fullShare wos ∗ owns (c : Thread nD τ) arg15 fullShare kt ∗ owns (c : Thread nD τ) arg16 fullShare vx ∗ owns (c : Thread nD τ) arg17 fullShare qm ∗ (∃ d, owns (c : Thread nD τ) arg18 fullShare d) ∗ (iprop(owns (c : Thread nD τ) arg2 fullShare tb ∗ owns (c : Thread nD τ) arg5 fullShare xx ∗ owns (c : Thread nD τ) arg11 fullShare (atf (nk_le n) tb (tab i) wos kt vx qm) ∗ owns (c : Thread nD τ) arg12 fullShare (ytf (nk_le n) tb (tab i) xx wos kt vx qm) ∗ owns (c : Thread nD τ) arg14 fullShare wos ∗ owns (c : Thread nD τ) arg15 fullShare kt ∗ owns (c : Thread nD τ) arg16 fullShare vx ∗ owns (c : Thread nD τ) arg17 fullShare qm ∗ (∃ d, owns (c : Thread nD τ) arg18 fullShare d)) -∗ K ⟨⟩))
      ⊢ wp frame (wpE (defs₀ (F := Ideal)) Variants.none c none) E (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p) (fun v => wp frame (wpE (defs₀ (F := Ideal)) Variants.none c none) E (Prog.lift (.store arg12 (Rect.unit (s := S1x1x192x640) ![0, 0, 0, 0] S1x1x192x640.size inb_S1x1x192x640_S1x1x192x640_0_0_0_0) v Finset.univ (View.stores_vmem h_S1x1x192x640 (harg12.storeExact_slice rfl _ packedbf16_S1x1x192x640_S1x1x192x640_0_0_0_0) (fun _ => rfl)) (.inl rfl))) (fun _ => wp frame (wpE (defs₀ (F := Ideal)) Variants.none c none) E (pure ⟨⟩) K)) := by
  rw [atf_congr (N := nkf n) (M := 384) hn.symm (nk_le n) (by decide), ytf_congr (N := nkf n) (M := 384) hn.symm (nk_le n) (by decide)]
  iintro ⟨H2, H5, H11, H12, H14, H15, H16, H17, H18, Hk⟩
  iapply ((attend3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm).2.2.2 E _)
  isplitl [H2]; · iexact H2
  isplitl [H5]; · iexact H5
  isplitl [H11]; · iexact H11
  isplitl [H12]; · iexact H12
  isplitl [H14]; · iexact H14
  isplitl [H15]; · iexact H15
  isplitl [H16]; · iexact H16
  isplitl [H17]; · iexact H17
  isplitl [H18]; · iexact H18
  iintro ⟨H2, H5, ⟨%f11, H11⟩, ⟨%d12, H12⟩, H14, H15, H16, H17, ⟨%f18, H18⟩⟩
  unfold owns
  icases H12 with ⟨%f12, -, H12⟩
  sl_exec
  try sl_step
  iapply Hk
  isplitl [H2]; · iexact H2
  isplitl [H5]; · iexact H5
  isplitl [H11]
  · iexists _; isplitr; swap; · iexact H11
    ipureintro
    exact (View.read_writes_eq_canon _ _ _ (cov11_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm)).trans (a_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm)
  isplitl [H12]
  · iexists _; isplitr; swap; · iexact H12
    ipureintro
    exact (read_whole arg12 _ _).trans (y_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm)
  isplitl [H14]; · iexact H14
  isplitl [H15]; · iexact H15
  isplitl [H16]; · iexact H16
  isplitl [H17]; · iexact H17
  iexists _, _; isplitr; swap; · iexact H18
  ipureintro; rfl

set_option maxHeartbeats 4000000 in
/-- The last part of the body and its last store, 4 block(s) of keys: the two results. -/
theorem last4 (n : ℕ) (hn : nkf n = 512) (a0 w : BitVec 32) (p : BitVec 1) (hw : w = 4#32) (hp : p = Scalar.cmpi .eq w 1#32) (tb : Vec Ideal S3x12 .f32) (xx : Vec Ideal S1x1x192x640 .f32) (wos : Vec Ideal S192x192 .bf16) (kt : Vec Ideal S640x192 .fp8e4m3) (vx : Vec Ideal S4x64x640 .bf16) (qm : Vec Ideal S4x192x640 .fp8e4m3)
    (E : Set ℕ) (K : PUnit → sProp 𝕄) :
    iprop(owns (c : Thread nD τ) arg2 fullShare tb ∗ owns (c : Thread nD τ) arg5 fullShare xx ∗ (∃ d, owns (c : Thread nD τ) arg11 fullShare d) ∗ (∃ d, owns (c : Thread nD τ) arg12 fullShare d) ∗ owns (c : Thread nD τ) arg14 fullShare wos ∗ owns (c : Thread nD τ) arg15 fullShare kt ∗ owns (c : Thread nD τ) arg16 fullShare vx ∗ owns (c : Thread nD τ) arg17 fullShare qm ∗ (∃ d, owns (c : Thread nD τ) arg18 fullShare d) ∗ (iprop(owns (c : Thread nD τ) arg2 fullShare tb ∗ owns (c : Thread nD τ) arg5 fullShare xx ∗ owns (c : Thread nD τ) arg11 fullShare (atf (nk_le n) tb (tab i) wos kt vx qm) ∗ owns (c : Thread nD τ) arg12 fullShare (ytf (nk_le n) tb (tab i) xx wos kt vx qm) ∗ owns (c : Thread nD τ) arg14 fullShare wos ∗ owns (c : Thread nD τ) arg15 fullShare kt ∗ owns (c : Thread nD τ) arg16 fullShare vx ∗ owns (c : Thread nD τ) arg17 fullShare qm ∗ (∃ d, owns (c : Thread nD τ) arg18 fullShare d)) -∗ K ⟨⟩))
      ⊢ wp frame (wpE (defs₀ (F := Ideal)) Variants.none c none) E (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p) (fun v => wp frame (wpE (defs₀ (F := Ideal)) Variants.none c none) E (Prog.lift (.store arg12 (Rect.unit (s := S1x1x192x640) ![0, 0, 0, 0] S1x1x192x640.size inb_S1x1x192x640_S1x1x192x640_0_0_0_0) v Finset.univ (View.stores_vmem h_S1x1x192x640 (harg12.storeExact_slice rfl _ packedbf16_S1x1x192x640_S1x1x192x640_0_0_0_0) (fun _ => rfl)) (.inl rfl))) (fun _ => wp frame (wpE (defs₀ (F := Ideal)) Variants.none c none) E (pure ⟨⟩) K)) := by
  rw [atf_congr (N := nkf n) (M := 512) hn.symm (nk_le n) (by decide), ytf_congr (N := nkf n) (M := 512) hn.symm (nk_le n) (by decide)]
  iintro ⟨H2, H5, H11, H12, H14, H15, H16, H17, H18, Hk⟩
  iapply ((attend4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm).2.2.2 E _)
  isplitl [H2]; · iexact H2
  isplitl [H5]; · iexact H5
  isplitl [H11]; · iexact H11
  isplitl [H12]; · iexact H12
  isplitl [H14]; · iexact H14
  isplitl [H15]; · iexact H15
  isplitl [H16]; · iexact H16
  isplitl [H17]; · iexact H17
  isplitl [H18]; · iexact H18
  iintro ⟨H2, H5, ⟨%f11, H11⟩, ⟨%d12, H12⟩, H14, H15, H16, H17, ⟨%f18, H18⟩⟩
  unfold owns
  icases H12 with ⟨%f12, -, H12⟩
  sl_exec
  try sl_step
  iapply Hk
  isplitl [H2]; · iexact H2
  isplitl [H5]; · iexact H5
  isplitl [H11]
  · iexists _; isplitr; swap; · iexact H11
    ipureintro
    exact (View.read_writes_eq_canon _ _ _ (cov11_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm)).trans (a_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm)
  isplitl [H12]
  · iexists _; isplitr; swap; · iexact H12
    ipureintro
    exact (read_whole arg12 _ _).trans (y_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm)
  isplitl [H14]; · iexact H14
  isplitl [H15]; · iexact H15
  isplitl [H16]; · iexact H16
  isplitl [H17]; · iexact H17
  iexists _, _; isplitr; swap; · iexact H18
  ipureintro; rfl

set_option maxHeartbeats 4000000 in
/-- The last part of the body and its last store, 5 block(s) of keys: the two results. -/
theorem last5 (n : ℕ) (hn : nkf n = 640) (a0 w : BitVec 32) (p : BitVec 1) (hw : w = 5#32) (hp : p = Scalar.cmpi .eq w 1#32) (tb : Vec Ideal S3x12 .f32) (xx : Vec Ideal S1x1x192x640 .f32) (wos : Vec Ideal S192x192 .bf16) (kt : Vec Ideal S640x192 .fp8e4m3) (vx : Vec Ideal S4x64x640 .bf16) (qm : Vec Ideal S4x192x640 .fp8e4m3)
    (E : Set ℕ) (K : PUnit → sProp 𝕄) :
    iprop(owns (c : Thread nD τ) arg2 fullShare tb ∗ owns (c : Thread nD τ) arg5 fullShare xx ∗ (∃ d, owns (c : Thread nD τ) arg11 fullShare d) ∗ (∃ d, owns (c : Thread nD τ) arg12 fullShare d) ∗ owns (c : Thread nD τ) arg14 fullShare wos ∗ owns (c : Thread nD τ) arg15 fullShare kt ∗ owns (c : Thread nD τ) arg16 fullShare vx ∗ owns (c : Thread nD τ) arg17 fullShare qm ∗ (∃ d, owns (c : Thread nD τ) arg18 fullShare d) ∗ (iprop(owns (c : Thread nD τ) arg2 fullShare tb ∗ owns (c : Thread nD τ) arg5 fullShare xx ∗ owns (c : Thread nD τ) arg11 fullShare (atf (nk_le n) tb (tab i) wos kt vx qm) ∗ owns (c : Thread nD τ) arg12 fullShare (ytf (nk_le n) tb (tab i) xx wos kt vx qm) ∗ owns (c : Thread nD τ) arg14 fullShare wos ∗ owns (c : Thread nD τ) arg15 fullShare kt ∗ owns (c : Thread nD τ) arg16 fullShare vx ∗ owns (c : Thread nD τ) arg17 fullShare qm ∗ (∃ d, owns (c : Thread nD τ) arg18 fullShare d)) -∗ K ⟨⟩))
      ⊢ wp frame (wpE (defs₀ (F := Ideal)) Variants.none c none) E (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p) (fun v => wp frame (wpE (defs₀ (F := Ideal)) Variants.none c none) E (Prog.lift (.store arg12 (Rect.unit (s := S1x1x192x640) ![0, 0, 0, 0] S1x1x192x640.size inb_S1x1x192x640_S1x1x192x640_0_0_0_0) v Finset.univ (View.stores_vmem h_S1x1x192x640 (harg12.storeExact_slice rfl _ packedbf16_S1x1x192x640_S1x1x192x640_0_0_0_0) (fun _ => rfl)) (.inl rfl))) (fun _ => wp frame (wpE (defs₀ (F := Ideal)) Variants.none c none) E (pure ⟨⟩) K)) := by
  rw [atf_congr (N := nkf n) (M := 640) hn.symm (nk_le n) (by decide), ytf_congr (N := nkf n) (M := 640) hn.symm (nk_le n) (by decide)]
  iintro ⟨H2, H5, H11, H12, H14, H15, H16, H17, H18, Hk⟩
  iapply ((attend5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm).2.2.2 E _)
  isplitl [H2]; · iexact H2
  isplitl [H5]; · iexact H5
  isplitl [H11]; · iexact H11
  isplitl [H12]; · iexact H12
  isplitl [H14]; · iexact H14
  isplitl [H15]; · iexact H15
  isplitl [H16]; · iexact H16
  isplitl [H17]; · iexact H17
  isplitl [H18]; · iexact H18
  iintro ⟨H2, H5, ⟨%f11, H11⟩, ⟨%d12, H12⟩, H14, H15, H16, H17, ⟨%f18, H18⟩⟩
  unfold owns
  icases H12 with ⟨%f12, -, H12⟩
  sl_exec
  try sl_step
  iapply Hk
  isplitl [H2]; · iexact H2
  isplitl [H5]; · iexact H5
  isplitl [H11]
  · iexists _; isplitr; swap; · iexact H11
    ipureintro
    exact (View.read_writes_eq_canon _ _ _ (cov11_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm)).trans (a_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm)
  isplitl [H12]
  · iexists _; isplitr; swap; · iexact H12
    ipureintro
    exact (read_whole arg12 _ _).trans (y_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 w p hw hp tb xx wos kt vx qm)
  isplitl [H14]; · iexact H14
  isplitl [H15]; · iexact H15
  isplitl [H16]; · iexact H16
  isplitl [H17]; · iexact H17
  iexists _, _; isplitr; swap; · iexact H18
  ipureintro; rfl

end Cert.KernelIdeal.Val

end
-- ==== Proof.VBody.lean ====
/- The body's triple with what it leaves named: the codes, the attention result, the residual result, the scaled weights. -/
module

public import proofs.«01_k».proof.Proof.VStartB
public import proofs.«01_k».proof.Proof.VMid
public import proofs.«01_k».proof.Proof.VLast
public import proofs.«01_k».proof.Proof.VAttend1
public import proofs.«01_k».proof.Proof.VAttend2
public import proofs.«01_k».proof.Proof.VAttend3
public import proofs.«01_k».proof.Proof.VAttend4
public import proofs.«01_k».proof.Proof.VAttend5
public import proofs.«01_k».proof.Proof.IBody
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ
variable (c : Dev nD) (i : grid0.Coords)
  (arg2 : Memref sig .tc .smem S3x12 .f32) (harg2 : arg2.IsWhole)
  (arg3 : Memref sig .tc .smem S3 .i32) (harg3 : arg3.IsWhole)
  (arg4 : Memref sig .tc .vmem S1x1x192x640 .bf16) (harg4 : arg4.IsWhole)
  (arg5 : Memref sig .tc .vmem S1x1x192x640 .f32) (harg5 : arg5.IsWhole)
  (arg6 : Memref sig .tc .vmem S576x192 .bf16) (harg6 : arg6.IsWhole)
  (arg7 : Memref sig .tc .vmem S192x192 .bf16) (harg7 : arg7.IsWhole)
  (arg8 : Memref sig .tc .vmem S1x1x192x640 .fp8e4m3) (harg8 : arg8.IsWhole)
  (arg9 : Memref sig .tc .vmem S1x1x192x640 .fp8e4m3) (harg9 : arg9.IsWhole)
  (arg10 : Memref sig .tc .vmem S1x1x192x640 .fp8e4m3) (harg10 : arg10.IsWhole)
  (arg11 : Memref sig .tc .vmem S1x1x192x640 .bf16) (harg11 : arg11.IsWhole)
  (arg12 : Memref sig .tc .vmem S1x1x192x640 .bf16) (harg12 : arg12.IsWhole)
  (arg13 : Memref sig .tc .vmem S576x192 .bf16) (harg13 : arg13.IsWhole)
  (arg14 : Memref sig .tc .vmem S192x192 .bf16) (harg14 : arg14.IsWhole)
  (arg15 : Memref sig .tc .vmem S640x192 .fp8e4m3) (harg15 : arg15.IsWhole)
  (arg16 : Memref sig .tc .vmem S4x64x640 .bf16) (harg16 : arg16.IsWhole)
  (arg17 : Memref sig .tc .vmem S4x192x640 .fp8e4m3) (harg17 : arg17.IsWhole)
  (arg18 : Memref sig .tc .vmem S192x640 .bf16) (harg18 : arg18.IsWhole)

/-- The number of blocks of keys, as the body counts it. -/
theorem blocks (n : Fin 641) : midRun.sl.v135 (F := Ideal) (BitVec.ofNat 32 n.val) = BitVec.ofNat 32 ((n.val + 127) / 128) := by
  revert n
  decide +kernel

/-- The number of keys of a table with rows is one of five. -/
theorem nk_cases (n : ℕ) (h1 : 1 ≤ n) (h2 : n ≤ 640) : ∃ N, 1 ≤ N ∧ N ≤ 5 ∧ (n + 127) / 128 = N ∧ nkf n = 128 * N :=
  ⟨(n + 127) / 128, by omega, by omega, rfl, by unfold nkf; omega⟩

set_option maxHeartbeats 4000000 in
/-- The parts of the body after the projection. -/
theorem tailTrack (n : ℕ) (h1 : 1 ≤ n) (h2 : n ≤ 640) (q k v : FVec Ideal S192x640 .fp8e4m3)
    (a : (Σ' (_ : BitVec 32) (_ : Elt Ideal .i32) (_ : FVec Ideal S192x640 .fp8e4m3) (_ : FVec Ideal S192x640 .fp8e4m3) (_ : FVec Ideal S192x640 .fp8e4m3) (_ : IVec S192x640 1), FVec Ideal S192x1 .fp8e4m3))
    (ha1 : a.2.1 = BitVec.ofNat 32 n) (ha2 : a.2.2.1 = q) (ha3 : a.2.2.2.1 = k) (ha4 : a.2.2.2.2.1 = v) (ha5 : a.2.2.2.2.2.1 = k0_pay73 (F := Ideal) a.2.1)
    (ha6 : ∀ r : Fin 192, a.2.2.2.2.2.2 (ix2 r 0) = k (ix2 r 0)) (tb : Vec Ideal S3x12 .f32) (xx : Vec Ideal S1x1x192x640 .f32) (wos : Vec Ideal S192x192 .bf16)
    (E : Set ℕ) (K : PUnit → sProp 𝕄) :
    iprop(owns (c : Thread nD τ) arg2 fullShare tb ∗ owns (c : Thread nD τ) arg5 fullShare xx ∗ (∃ d, owns (c : Thread nD τ) arg11 fullShare d) ∗ (∃ d, owns (c : Thread nD τ) arg12 fullShare d) ∗ owns (c : Thread nD τ) arg14 fullShare wos ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (iprop(owns (c : Thread nD τ) arg2 fullShare tb ∗ owns (c : Thread nD τ) arg5 fullShare xx ∗ owns (c : Thread nD τ) arg11 fullShare (atf (nk_le n) tb (tab i) wos (ktf n k) (vxf n v) (qmf q)) ∗ owns (c : Thread nD τ) arg12 fullShare (ytf (nk_le n) tb (tab i) xx wos (ktf n k) (vxf n v) (qmf q)) ∗ owns (c : Thread nD τ) arg14 fullShare wos ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := Ideal)) Variants.none c none) E (k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a.2.1 a.2.2.1 a.2.2.2.1 a.2.2.2.2.1 a.2.2.2.2.2.1 a.2.2.2.2.2.2 >>= fun b =>
    k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a.2.2.1 b.1 b.2.1 b.2.2.1 b.2.2.2 >>= fun d =>
    k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a.2.1 a.2.2.1 b.2.1 b.2.2.1 d >>= fun e =>
    k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a.1 e.1 e.2 >>= fun v => Prog.lift (.store arg12 (Rect.unit (s := S1x1x192x640) ![0, 0, 0, 0] S1x1x192x640.size inb_S1x1x192x640_S1x1x192x640_0_0_0_0) v Finset.univ (View.stores_vmem h_S1x1x192x640 (harg12.storeExact_slice rfl _ packedbf16_S1x1x192x640_S1x1x192x640_0_0_0_0) (fun _ => rfl)) (.inl rfl)) >>= fun _ => pure ⟨⟩) K := by
  obtain ⟨a0, a1, q, k, v, a5, v30⟩ := a
  dsimp only at ha1 ha2 ha3 ha4 ha5 ha6 ⊢
  subst ha1 ha2 ha3 ha4 ha5
  have hw := blocks ⟨n, by omega⟩
  dsimp only at hw
  simp only [wp_bind]
  iintro ⟨H2, H5, H11, H12, H14, H15, H16, H17, H18, Hk⟩
  iapply ((midRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 n) q k v (k0_pay73 (F := Ideal) (BitVec.ofNat 32 n)) v30).2.2.2.2 E _)
  isplitl [H15]; · iexact H15
  isplitl [H16]; · iexact H16
  isplitl [H17]; · iexact H17
  iintro ⟨⟨%f15, H15⟩, ⟨%f16, H16⟩, ⟨%f17, H17⟩⟩
  obtain ⟨N, hN1, hN2, hN, hk⟩ := nk_cases n h1 h2
  rw [hN] at hw
  have e15 := fun f => (View.read_writes_eq_canon arg15.view f _ (cov15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 n q k v v30)).trans (funext fun y => by idx_vars y; exact kt_val c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 n q k v v30 h2 ha6 y0 y1 : _ = ktf n k)
  have e16 := fun f => (View.read_writes_eq_canon arg16.view f _ (cov16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 n q k v v30)).trans (funext fun y => by idx_vars y; exact vx_val c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 n q k v v30 h2 y0 y1 y2 : _ = vxf n v)
  have e17 := fun f => (View.read_writes_eq_canon arg17.view f _ (cov17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 n q k v v30)).trans (funext fun y => by idx_vars y; exact qm_val c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 n q k v v30 y0 y1 y2 : _ = qmf q)
  interval_cases N
  · iapply (last1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 n hk _ _ _ hw rfl tb xx wos (ktf n k) (vxf n v) (qmf q) E K)
    isplitl [H2]; · iexact H2
    isplitl [H5]; · iexact H5
    isplitl [H11]; · iexact H11
    isplitl [H12]; · iexact H12
    isplitl [H14]; · iexact H14
    isplitl [H15]
    · unfold owns; iexists _; isplitr; swap; · iexact H15
      ipureintro; exact e15 _
    isplitl [H16]
    · unfold owns; iexists _; isplitr; swap; · iexact H16
      ipureintro; exact e16 _
    isplitl [H17]
    · unfold owns; iexists _; isplitr; swap; · iexact H17
      ipureintro; exact e17 _
    isplitl [H18]; · iexact H18
    iintro ⟨H2, H5, H11, H12, H14, H15, H16, H17, H18⟩
    iapply Hk
    isplitl [H2]; · iexact H2
    isplitl [H5]; · iexact H5
    isplitl [H11]; · iexact H11
    isplitl [H12]; · iexact H12
    isplitl [H14]; · iexact H14
    isplitl [H15]; · iexists _; iexact H15
    isplitl [H16]; · iexists _; iexact H16
    isplitl [H17]; · iexists _; iexact H17
    iexact H18
  · iapply (last2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 n hk _ _ _ hw rfl tb xx wos (ktf n k) (vxf n v) (qmf q) E K)
    isplitl [H2]; · iexact H2
    isplitl [H5]; · iexact H5
    isplitl [H11]; · iexact H11
    isplitl [H12]; · iexact H12
    isplitl [H14]; · iexact H14
    isplitl [H15]
    · unfold owns; iexists _; isplitr; swap; · iexact H15
      ipureintro; exact e15 _
    isplitl [H16]
    · unfold owns; iexists _; isplitr; swap; · iexact H16
      ipureintro; exact e16 _
    isplitl [H17]
    · unfold owns; iexists _; isplitr; swap; · iexact H17
      ipureintro; exact e17 _
    isplitl [H18]; · iexact H18
    iintro ⟨H2, H5, H11, H12, H14, H15, H16, H17, H18⟩
    iapply Hk
    isplitl [H2]; · iexact H2
    isplitl [H5]; · iexact H5
    isplitl [H11]; · iexact H11
    isplitl [H12]; · iexact H12
    isplitl [H14]; · iexact H14
    isplitl [H15]; · iexists _; iexact H15
    isplitl [H16]; · iexists _; iexact H16
    isplitl [H17]; · iexists _; iexact H17
    iexact H18
  · iapply (last3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 n hk _ _ _ hw rfl tb xx wos (ktf n k) (vxf n v) (qmf q) E K)
    isplitl [H2]; · iexact H2
    isplitl [H5]; · iexact H5
    isplitl [H11]; · iexact H11
    isplitl [H12]; · iexact H12
    isplitl [H14]; · iexact H14
    isplitl [H15]
    · unfold owns; iexists _; isplitr; swap; · iexact H15
      ipureintro; exact e15 _
    isplitl [H16]
    · unfold owns; iexists _; isplitr; swap; · iexact H16
      ipureintro; exact e16 _
    isplitl [H17]
    · unfold owns; iexists _; isplitr; swap; · iexact H17
      ipureintro; exact e17 _
    isplitl [H18]; · iexact H18
    iintro ⟨H2, H5, H11, H12, H14, H15, H16, H17, H18⟩
    iapply Hk
    isplitl [H2]; · iexact H2
    isplitl [H5]; · iexact H5
    isplitl [H11]; · iexact H11
    isplitl [H12]; · iexact H12
    isplitl [H14]; · iexact H14
    isplitl [H15]; · iexists _; iexact H15
    isplitl [H16]; · iexists _; iexact H16
    isplitl [H17]; · iexists _; iexact H17
    iexact H18
  · iapply (last4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 n hk _ _ _ hw rfl tb xx wos (ktf n k) (vxf n v) (qmf q) E K)
    isplitl [H2]; · iexact H2
    isplitl [H5]; · iexact H5
    isplitl [H11]; · iexact H11
    isplitl [H12]; · iexact H12
    isplitl [H14]; · iexact H14
    isplitl [H15]
    · unfold owns; iexists _; isplitr; swap; · iexact H15
      ipureintro; exact e15 _
    isplitl [H16]
    · unfold owns; iexists _; isplitr; swap; · iexact H16
      ipureintro; exact e16 _
    isplitl [H17]
    · unfold owns; iexists _; isplitr; swap; · iexact H17
      ipureintro; exact e17 _
    isplitl [H18]; · iexact H18
    iintro ⟨H2, H5, H11, H12, H14, H15, H16, H17, H18⟩
    iapply Hk
    isplitl [H2]; · iexact H2
    isplitl [H5]; · iexact H5
    isplitl [H11]; · iexact H11
    isplitl [H12]; · iexact H12
    isplitl [H14]; · iexact H14
    isplitl [H15]; · iexists _; iexact H15
    isplitl [H16]; · iexists _; iexact H16
    isplitl [H17]; · iexists _; iexact H17
    iexact H18
  · iapply (last5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 n hk _ _ _ hw rfl tb xx wos (ktf n k) (vxf n v) (qmf q) E K)
    isplitl [H2]; · iexact H2
    isplitl [H5]; · iexact H5
    isplitl [H11]; · iexact H11
    isplitl [H12]; · iexact H12
    isplitl [H14]; · iexact H14
    isplitl [H15]
    · unfold owns; iexists _; isplitr; swap; · iexact H15
      ipureintro; exact e15 _
    isplitl [H16]
    · unfold owns; iexists _; isplitr; swap; · iexact H16
      ipureintro; exact e16 _
    isplitl [H17]
    · unfold owns; iexists _; isplitr; swap; · iexact H17
      ipureintro; exact e17 _
    isplitl [H18]; · iexact H18
    iintro ⟨H2, H5, H11, H12, H14, H15, H16, H17, H18⟩
    iapply Hk
    isplitl [H2]; · iexact H2
    isplitl [H5]; · iexact H5
    isplitl [H11]; · iexact H11
    isplitl [H12]; · iexact H12
    isplitl [H14]; · iexact H14
    isplitl [H15]; · iexists _; iexact H15
    isplitl [H16]; · iexists _; iexact H16
    isplitl [H17]; · iexists _; iexact H17
    iexact H18

set_option maxHeartbeats 4000000 in
/-- The whole body at the first feature of a table: everything it leaves. -/
theorem bodyA (hc : k0_cond1 i = 1#1) (n : ℕ) (h1 : 1 ≤ n) (h2 : n ≤ 640) (tb : Vec Ideal S3x12 .f32) (xn : Vec Ideal S3 .i32) (hxn : xn (ix1 (tab i)) = BitVec.ofNat 32 n) (xh : Vec Ideal S1x1x192x640 .bf16) (xx : Vec Ideal S1x1x192x640 .f32) (xw : Vec Ideal S576x192 .bf16) (xo : Vec Ideal S192x192 .bf16)
    (E : Set ℕ) (K : PUnit → sProp 𝕄) :
    iprop(owns (c : Thread nD τ) arg2 fullShare tb ∗ owns (c : Thread nD τ) arg3 fullShare xn ∗ owns (c : Thread nD τ) arg4 fullShare xh ∗ owns (c : Thread nD τ) arg5 fullShare xx ∗ owns (c : Thread nD τ) arg6 fullShare xw ∗ owns (c : Thread nD τ) arg7 fullShare xo ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (iprop(owns (c : Thread nD τ) arg2 fullShare tb ∗ owns (c : Thread nD τ) arg3 fullShare xn ∗ owns (c : Thread nD τ) arg4 fullShare xh ∗ owns (c : Thread nD τ) arg5 fullShare xx ∗ owns (c : Thread nD τ) arg6 fullShare xw ∗ owns (c : Thread nD τ) arg7 fullShare xo ∗ owns (c : Thread nD τ) arg8 fullShare (c4f 0 (wsf tb (tab i) xw) xh) ∗ owns (c : Thread nD τ) arg9 fullShare (c4f 1 (wsf tb (tab i) xw) xh) ∗ owns (c : Thread nD τ) arg10 fullShare (c4f 2 (wsf tb (tab i) xw) xh) ∗ owns (c : Thread nD τ) arg11 fullShare (atO n tb (tab i) xh (wsf tb (tab i) xw) (wof tb (tab i) xo)) ∗ owns (c : Thread nD τ) arg12 fullShare (yO n tb (tab i) xh xx (wsf tb (tab i) xw) (wof tb (tab i) xo)) ∗ owns (c : Thread nD τ) arg13 fullShare (wsf tb (tab i) xw) ∗ owns (c : Thread nD τ) arg14 fullShare (wof tb (tab i) xo) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := Ideal)) Variants.none c none) E (cc0_rows (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [rows_eq, wp_bind]
  iintro ⟨H2, H3, H4, H5, H6, H7, H8, H9, H10, H11, H12, H13, H14, H15, H16, H17, H18, Hk⟩
  iapply ((startA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo).2.2.2.2.2.2 E _)
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [H10]; · iexact H10
  isplitl [H13]; · iexact H13
  isplitl [H14]; · iexact H14
  iintro ⟨H2, H3, H4, H6, H7, ⟨%f8, H8⟩, ⟨%f9, H9⟩, ⟨%f10, H10⟩, ⟨%f13, H13⟩, ⟨%f14, H14⟩⟩
  iapply (tailTrack c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 n h1 h2 (cpf 0 (wsf tb (tab i) xw) xh) (cpf 1 (wsf tb (tab i) xw) xh) (cpf 2 (wsf tb (tab i) xw) xh) (startA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo).2.2.2.2.2.1 ((rA1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo).trans hxn) (rA2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo) (rA3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo) (rA4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo) (rA5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo) (rA6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo) tb xx (wof tb (tab i) xo) E K)
  isplitl [H2]; · iexact H2
  isplitl [H5]; · iexact H5
  isplitl [H11]; · iexact H11
  isplitl [H12]; · iexact H12
  isplitl [H14]
  · unfold owns; iexists _; isplitr; swap; · iexact H14
    ipureintro; exact (View.read_writes_eq_canon _ _ _ (cov14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo)).trans (wo_valA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo)
  isplitl [H15]; · iexact H15
  isplitl [H16]; · iexact H16
  isplitl [H17]; · iexact H17
  isplitl [H18]; · iexact H18
  iintro ⟨H2, H5, H11, H12, H14, H15, H16, H17, H18⟩
  iapply Hk
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr; swap; · iexact H8
    ipureintro; exact (View.read_writes_eq_canon _ _ _ (cov8A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo)).trans (c0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo)
  isplitl [H9]
  · unfold owns; iexists _; isplitr; swap; · iexact H9
    ipureintro; exact (View.read_writes_eq_canon _ _ _ (cov9A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo)).trans (c1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo)
  isplitl [H10]
  · unfold owns; iexists _; isplitr; swap; · iexact H10
    ipureintro; exact (View.read_writes_eq_canon _ _ _ (cov10A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo)).trans (c2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo)
  isplitl [H11]; · iexact H11
  isplitl [H12]; · iexact H12
  isplitl [H13]
  · unfold owns; iexists _; isplitr; swap; · iexact H13
    ipureintro; exact (View.read_writes_eq_canon _ _ _ (cov13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo)).trans (ws_valA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc tb xn xh xw xo)
  isplitl [H14]; · iexact H14
  isplitl [H15]; · iexact H15
  isplitl [H16]; · iexact H16
  isplitl [H17]; · iexact H17
  iexact H18

set_option maxHeartbeats 4000000 in
/-- The whole body at any other feature: everything it leaves, from the scaled weights kept. -/
theorem bodyB (hc : ¬ k0_cond1 i = 1#1) (n : ℕ) (h1 : 1 ≤ n) (h2 : n ≤ 640) (tb : Vec Ideal S3x12 .f32) (xn : Vec Ideal S3 .i32) (hxn : xn (ix1 (tab i)) = BitVec.ofNat 32 n) (xh : Vec Ideal S1x1x192x640 .bf16) (xx : Vec Ideal S1x1x192x640 .f32) (xw : Vec Ideal S576x192 .bf16) (xo : Vec Ideal S192x192 .bf16) (ws : Vec Ideal S576x192 .bf16) (wos : Vec Ideal S192x192 .bf16)
    (E : Set ℕ) (K : PUnit → sProp 𝕄) :
    iprop(owns (c : Thread nD τ) arg2 fullShare tb ∗ owns (c : Thread nD τ) arg3 fullShare xn ∗ owns (c : Thread nD τ) arg4 fullShare xh ∗ owns (c : Thread nD τ) arg5 fullShare xx ∗ owns (c : Thread nD τ) arg6 fullShare xw ∗ owns (c : Thread nD τ) arg7 fullShare xo ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare ws ∗ owns (c : Thread nD τ) arg14 fullShare wos ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (iprop(owns (c : Thread nD τ) arg2 fullShare tb ∗ owns (c : Thread nD τ) arg3 fullShare xn ∗ owns (c : Thread nD τ) arg4 fullShare xh ∗ owns (c : Thread nD τ) arg5 fullShare xx ∗ owns (c : Thread nD τ) arg6 fullShare xw ∗ owns (c : Thread nD τ) arg7 fullShare xo ∗ owns (c : Thread nD τ) arg8 fullShare (c4f 0 ws xh) ∗ owns (c : Thread nD τ) arg9 fullShare (c4f 1 ws xh) ∗ owns (c : Thread nD τ) arg10 fullShare (c4f 2 ws xh) ∗ owns (c : Thread nD τ) arg11 fullShare (atO n tb (tab i) xh ws wos) ∗ owns (c : Thread nD τ) arg12 fullShare (yO n tb (tab i) xh xx ws wos) ∗ owns (c : Thread nD τ) arg13 fullShare ws ∗ owns (c : Thread nD τ) arg14 fullShare wos ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := Ideal)) Variants.none c none) E (cc0_rows (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [rows_eq, wp_bind]
  iintro ⟨H2, H3, H4, H5, H6, H7, H8, H9, H10, H11, H12, H13, H14, H15, H16, H17, H18, Hk⟩
  iapply ((startB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc xn xh ws).2.2.2.2 E _)
  isplitl [H3]; · iexact H3
  isplitl [H4]; · iexact H4
  isplitl [H8]; · iexact H8
  isplitl [H9]; · iexact H9
  isplitl [H10]; · iexact H10
  isplitl [H13]; · iexact H13
  iintro ⟨H3, H4, ⟨%f8, H8⟩, ⟨%f9, H9⟩, ⟨%f10, H10⟩, H13⟩
  iapply (tailTrack c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 n h1 h2 (cpf 0 ws xh) (cpf 1 ws xh) (cpf 2 ws xh) (startB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc xn xh ws).2.2.2.1 ((rB1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc xn xh ws).trans hxn) (rB2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc xn xh ws) (rB3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc xn xh ws) (rB4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc xn xh ws) (rB5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc xn xh ws) (rB6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc xn xh ws) tb xx wos E K)
  isplitl [H2]; · iexact H2
  isplitl [H5]; · iexact H5
  isplitl [H11]; · iexact H11
  isplitl [H12]; · iexact H12
  isplitl [H14]; · iexact H14
  isplitl [H15]; · iexact H15
  isplitl [H16]; · iexact H16
  isplitl [H17]; · iexact H17
  isplitl [H18]; · iexact H18
  iintro ⟨H2, H5, H11, H12, H14, H15, H16, H17, H18⟩
  iapply Hk
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr; swap; · iexact H8
    ipureintro; exact (View.read_writes_eq_canon _ _ _ (cov8B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc xn xh ws)).trans (c0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc xn xh ws)
  isplitl [H9]
  · unfold owns; iexists _; isplitr; swap; · iexact H9
    ipureintro; exact (View.read_writes_eq_canon _ _ _ (cov9B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc xn xh ws)).trans (c1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc xn xh ws)
  isplitl [H10]
  · unfold owns; iexists _; isplitr; swap; · iexact H10
    ipureintro; exact (View.read_writes_eq_canon _ _ _ (cov10B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc xn xh ws)).trans (c2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc xn xh ws)
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

end Cert.KernelIdeal.Val

end
-- ==== Proof.VFrame.lean ====
/- The run over the extended reals with its results named: what every point leaves, and the launch. -/
module

public import proofs.«01_k».proof.Proof.Gen.KernelIdeal.Skeleton
public import proofs.«01_k».proof.Proof.IMemrefs
public import proofs.«01_k».proof.Proof.IBody
public import proofs.«01_k».proof.Proof.IFrame
public import proofs.«01_k».proof.Proof.VBody
public import Idealize.ShloMosaic.Lib.Pipeline.FrameBody
public import Idealize.ShloMosaic.Lib.Ring
public import Idealize.ShloMosaic.Lib.Claim
public import Idealize.ShloMosaic.Lib.Tactic
public import Idealize.ShloMosaic.Lib.WordCmp

@[expose] public section

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The first point of the grid. -/
def t0 : Fin cfg0.N := ⟨0, by have : cfg0.N = 168 := N_0; omega⟩

/-- The scales. -/
def tbV (c : Dev nD) : Vec Ideal S3x12 .f32 := iblk m c 0 t0
/-- The row counts. -/
def nV (c : Dev nD) : Vec Ideal S3 .i32 := iblk m c 1 t0
/-- The input weights. -/
def wV (c : Dev nD) : Vec Ideal S576x192 .bf16 := iblk m c 4 t0
/-- The output weights. -/
def woV (c : Dev nD) : Vec Ideal S192x192 .bf16 := iblk m c 5 t0
/-- The table of a position in the grid. -/
def tabN (n : ℕ) : Fin 3 := ⟨n / 56 % 3, Nat.mod_lt _ (by decide)⟩
/-- The row count of a table. -/
def cntV (c : Dev nD) (b : Fin 3) : ℕ := (show BitVec 32 from nV m c (ix1 b)).toNat
/-- The scaled input weights at a position. -/
def wsN (c : Dev nD) (n : ℕ) : FVec Ideal S576x192 .bf16 := wsf (tbV m c) (tabN n) (wV m c)
/-- The scaled output weights at a position. -/
def wosN (c : Dev nD) (n : ℕ) : FVec Ideal S192x192 .bf16 := wof (tbV m c) (tabN n) (woV m c)

/-- The windows fetched once do not move. -/
theorem idx_once : ∀ t : Fin cfg0.N, win0_0.index t = ![0, 0] ∧ win0_1.index t = ![0] ∧ win0_4.index t = ![0, 0] ∧ win0_5.index t = ![0, 0] :=
  (by decide +kernel : ∀ t : Fin grid0.N, _)

/-- The table coordinate of a point. -/
theorem tab_coords : ∀ t : Fin cfg0.N, tab (grid0.coords t) = tabN t.val :=
  (by decide +kernel : ∀ t : Fin grid0.N, _)

/-- The first feature of a table, as the body tests it. -/
theorem cond_iff : ∀ t : Fin cfg0.N, k0_cond1 (grid0.coords t) = 1#1 ↔ t.val % 56 = 0 :=
  (by decide +kernel : ∀ t : Fin grid0.N, _)

theorem iblk0 (c : Dev nD) (t : Fin cfg0.N) : iblk m c 0 t = tbV m c := by
  unfold tbV; funext y; blk_simp [iblk]; refine congrArg (V m c main_arg0) ?_; blk_ext [idx_once t, idx_once t0]
theorem iblk1 (c : Dev nD) (t : Fin cfg0.N) : iblk m c 1 t = nV m c := by
  unfold nV; funext y; blk_simp [iblk]; refine congrArg (V m c main_arg1) ?_; blk_ext [idx_once t, idx_once t0]
theorem iblk4 (c : Dev nD) (t : Fin cfg0.N) : iblk m c 4 t = wV m c := by
  unfold wV; funext y; blk_simp [iblk]; refine congrArg (V m c main_v6) ?_; blk_ext [idx_once t, idx_once t0]
theorem iblk5 (c : Dev nD) (t : Fin cfg0.N) : iblk m c 5 t = woV m c := by
  unfold woV; funext y; blk_simp [iblk]; refine congrArg (V m c main_v7) ?_; blk_ext [idx_once t, idx_once t0]

/-- What the scratch holds before a position: after the first point the scaled weights of the point before. -/
def PhiS (c : Dev nD) : (n : ℕ) → n ≤ cfg0.N → sProp 𝕄
  | 0, _ => Pipeline.ΦA spec0 c
  | n + 1, _ => iprop(iprop(owns (c : Thread nD τ) sc0 fullShare (wsN m c n) ∗ owns (c : Thread nD τ) sc1 fullShare (wosN m c n) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r))

theorem PhiS_zero (c : Dev nD) (n : ℕ) (h : n ≤ cfg0.N) (hz : n = 0) : PhiS m c n h = Pipeline.ΦA spec0 c := by
  subst hz; rfl

/-- After point `n`. -/
theorem PhiS_succ (c : Dev nD) (n : ℕ) (hn : n < cfg0.N) :
    PhiS m c (n + 1) hn = iprop(iprop(owns (c : Thread nD τ) sc0 fullShare (wsN m c n) ∗ owns (c : Thread nD τ) sc1 fullShare (wosN m c n) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := rfl

/-- Before a point that is not the first. -/
theorem PhiS_pos (c : Dev nD) (n : ℕ) (h : n ≤ cfg0.N) (hz : n ≠ 0) :
    PhiS m c n h = iprop(iprop(owns (c : Thread nD τ) sc0 fullShare (wsN m c (n - 1)) ∗ owns (c : Thread nD τ) sc1 fullShare (wosN m c (n - 1)) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  cases n with
  | zero => exact absurd rfl hz
  | succ n => rfl

/-- The block of rows at a point. -/
def hB (c : Dev nD) (t : Fin cfg0.N) : Vec Ideal S1x1x192x640 .bf16 := iblk m c 2 t
/-- The residual's block at a point. -/
def xB (c : Dev nD) (t : Fin cfg0.N) : Vec Ideal S1x1x192x640 .f32 := iblk m c 3 t
/-- The attention result at a point. -/
def aB (c : Dev nD) (t : Fin cfg0.N) : FVec Ideal S1x1x192x640 .bf16 :=
  atO (cntV m c (tabN t.val)) (tbV m c) (tabN t.val) (hB m c t) (wsN m c t.val) (wosN m c t.val)
/-- The residual result at a point. -/
def yB (c : Dev nD) (t : Fin cfg0.N) : FVec Ideal S1x1x192x640 .bf16 :=
  yO (cntV m c (tabN t.val)) (tbV m c) (tabN t.val) (hB m c t) (xB m c t) (wsN m c t.val) (wosN m c t.val)
/-- The codes of a projection at a point. -/
def cB (o : Fin 3) (c : Dev nD) (t : Fin cfg0.N) : FVec Ideal S1x1x192x640 .fp8e4m3 := c4f o (wsN m c t.val) (hB m c t)

/-- The proof data: every output named. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => cB m 0 c t
    | ⟨7, _⟩ => cB m 1 c t
    | ⟨8, _⟩ => cB m 2 c t
    | ⟨9, _⟩ => aB m c t
    | ⟨10, _⟩ => yB m c t
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = cB m 0 c t := by dsimp only [dats]
theorem after7 (c : Dev nD) (t : Fin cfg0.N) : (dats m 0 c).after 7 t = cB m 1 c t := by dsimp only [dats]
theorem after8 (c : Dev nD) (t : Fin cfg0.N) : (dats m 0 c).after 8 t = cB m 2 c t := by dsimp only [dats]
theorem after9 (c : Dev nD) (t : Fin cfg0.N) : (dats m 0 c).after 9 t = aB m c t := by dsimp only [dats]
theorem after10 (c : Dev nD) (t : Fin cfg0.N) : (dats m 0 c).after 10 t = yB m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t))

variable (hn : ∀ c b, 1 ≤ cntV m c b ∧ cntV m c b ≤ 640)
include hn

set_option maxHeartbeats 3200000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    after0, after1, after2, after3, after4, after5, after6, after7, after8, after9, after10]
  rw [show (dats m 0 c).Φ t.succ = PhiS m c (t.val + 1) t.isLt from rfl, PhiS_succ]
  rw [iblk0, iblk1, iblk4, iblk5]
  unfold cB aB yB
  have hN : t.val < 168 := lt_of_lt_of_eq t.isLt (show cfg0.N = 168 from N_0)
  have hxn : nV m c (ix1 (tab (grid0.coords t))) = BitVec.ofNat 32 (cntV m c (tabN t.val)) := by
    rw [tab_coords t]; unfold cntV; exact (BitVec.ofNat_toNat _ _).trans (BitVec.setWidth_eq _) |>.symm
  have ht := tab_coords t
  have ews : wsN m c t.val = wsf (tbV m c) (tab (grid0.coords t)) (wV m c) := by rw [ht]; rfl
  have ewo : wosN m c t.val = wof (tbV m c) (tab (grid0.coords t)) (woV m c) := by rw [ht]; rfl
  by_cases h0 : t.val % 56 = 0
  · by_cases hz : t.val = 0
    · rw [PhiS_castSucc m c t, PhiS_zero m c _ _ hz, PhiA_eq, ews, ewo]
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (bodyA c (grid0.coords t) _ _ _ _ _ _ _ _ _ _ _ _ _ _ _ _ _ _ _ _ _ _ _ _ _ _ _ _ _ _ _ _ _ _ ((cond_iff t).mpr h0) (cntV m c (tabN t.val)) (hn c (tabN t.val)).1 (hn c (tabN t.val)).2 (tbV m c) (nV m c) hxn (hB m c t) (xB m c t) (wV m c) (woV m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, H10, HS0, HS1, HS2, HS3, HS4, HS5⟩
      isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [PhiS_castSucc m c t, PhiS_pos m c _ _ hz, ews, ewo]
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (bodyA c (grid0.coords t) _ _ _ _ _ _ _ _ _ _ _ _ _ _ _ _ _ _ _ _ _ _ _ _ _ _ _ _ _ _ _ _ _ _ ((cond_iff t).mpr h0) (cntV m c (tabN t.val)) (hn c (tabN t.val)).1 (hn c (tabN t.val)).2 (tbV m c) (nV m c) hxn (hB m c t) (xB m c t) (wV m c) (woV m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [HS0]; · iexists _; iexact HS0
      isplitl [HS1]; · iexists _; iexact HS1
      isplitl [HS2]; · iexact HS2
      isplitl [HS3]; · iexact HS3
      isplitl [HS4]; · iexact HS4
      isplitl [HS5]; · iexact HS5
      iintro ⟨H0, H1, H2, H3, H4, H5, H6, H7, H8, H9, H10, HS0, HS1, HS2, HS3, HS4, HS5⟩
      isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
  · have hz : t.val ≠ 0 := fun h => h0 (by rw [h])
    rw [PhiS_castSucc m c t, PhiS_pos m c _ _ hz]
    rw [show wsN m c (t.val - 1) = wsN m c t.val by unfold wsN; rw [show tabN (t.val - 1) = tabN t.val from Fin.ext (by show (t.val - 1) / 56 % 3 = t.val / 56 % 3; omega)],
      show wosN m c (t.val - 1) = wosN m c t.val by unfold wosN; rw [show tabN (t.val - 1) = tabN t.val from Fin.ext (by show (t.val - 1) / 56 % 3 = t.val / 56 % 3; omega)]]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (bodyB c (grid0.coords t) _ _ _ _ _ _ _ _ _ _ _ _ _ _ _ _ _ _ _ _ _ _ _ _ _ _ _ _ _ _ _ _ _ _ (fun h => h0 ((cond_iff t).mp h)) (cntV m c (tabN t.val)) (hn c (tabN t.val)).1 (hn c (tabN t.val)).2 (tbV m c) (nV m c) hxn (hB m c t) (xB m c t) (wV m c) (woV m c) (wsN m c t.val) (wosN m c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body obligation, at every point. -/
theorem body_obligation (c : Dev nD) : BodyObligation (dats m 0 c) (defs₀ (F := Ideal)) Variants.none () Set.univ := fun t => by
  rw [bigSep_W0, bigSep_W0, defs₀_row]
  exact triple_restated (sound_body m hn c t) rfl .rfl fun _ => .rfl

omit hn in
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

omit hn in
theorem hout (c : Dev nD) : (dats m 0 c).Φ (Fin.last cfg0.N) ⊢ Pipeline.ΦA spec0 c := by
  have hN : cfg0.N = 168 := N_0
  rw [show (dats m 0 c).Φ (Fin.last cfg0.N) = PhiS m c cfg0.N (Nat.le_refl _) from rfl, PhiS_pos m c _ _ (by omega), PhiA_eq]
  iintro ⟨⟨HS0, HS1, HS⟩, Hg⟩
  isplitl [HS0 HS1 HS]
  · isplitl [HS0]
    · iexists _; iexact HS0
    isplitl [HS1]
    · iexists _; iexact HS1
    iexact HS
  iexact Hg

set_option backward.isDefEq.respectTransparency.types false in
/-- The launch, the results named. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m hn c).loose) (hshare := fun c => (dats m 0 c).share_full fun _ => rfl)
    (howed := fun _ _ => rfl) (V := V m) (hmain := hmain m Variants.none) (hA := A_eq m) (hin := hin m) (hout := hout m)

/-- The run, the results named. -/
theorem run_main : θ_run defs (onTc (τ := τ) (main (F := Ideal))) (s₀ m ρ) (Pipeline.FramePost cfgs (dats m) 0 (V m)) :=
  (θ_run defs _ _).mono (fun _ h => h.1) (run_main_quiescent m ρ hn)

end Cert.KernelIdeal.Val

end
-- ==== Proof.VArr.lean ====
/- The result arrays of the kernel over the extended reals. -/
module

public import proofs.«01_k».proof.Proof.VFrame

@[expose] public section

set_option maxRecDepth 16384

noncomputable section

namespace Cert.KernelIdeal.Val

open Cert.KernelIdeal Cert.KernelIdeal.Gen Cert.KernelIdeal.Body
open Idealize.ShloMosaic Idealize.ShloMosaic.TcCoe Idealize.SL.Sem

variable (m : (ℓ : Loc nD τ sig) → Buf (Elt Ideal) ℓ) (ρ : Dev nD → PrngReg)

/-- The feature of a position in the grid. -/
def fN (n : ℕ) : Fin 56 := ⟨n % 56, Nat.mod_lt _ (by decide)⟩

/-- One block of rows of an array. -/
def blkf {φ : FTy} (h : FVec Ideal S3x56x192x640 φ) (b : Fin 3) (f : Fin 56) : FVec Ideal S1x1x192x640 φ := fun z => h (ix4 b f (z 2) (z 3))

/-- The codes of a projection, all tables and features. -/
def codesG (o : Fin 3) (T : FVec Ideal S3x12 .f32) (W : FVec Ideal S576x192 .bf16) (h : FVec Ideal S3x56x192x640 .bf16) : FVec Ideal S3x56x192x640 .fp8e4m3 := fun y =>
  c4f o (wsf T (y 0) W) (blkf h (y 0) (y 1)) (ix4 0 0 (y 2) (y 3))

/-- The attention result, all tables and features. -/
def attnG (N : Fin 3 → ℕ) (T : FVec Ideal S3x12 .f32) (W : FVec Ideal S576x192 .bf16) (WO : FVec Ideal S192x192 .bf16) (h : FVec Ideal S3x56x192x640 .bf16) : FVec Ideal S3x56x192x640 .bf16 := fun y =>
  atO (N (y 0)) T (y 0) (blkf h (y 0) (y 1)) (wsf T (y 0) W) (wof T (y 0) WO) (ix4 0 0 (y 2) (y 3))

/-- The residual result, all tables and features. -/
def yG (N : Fin 3 → ℕ) (T : FVec Ideal S3x12 .f32) (W : FVec Ideal S576x192 .bf16) (WO : FVec Ideal S192x192 .bf16) (h : FVec Ideal S3x56x192x640 .bf16) (x : FVec Ideal S3x56x192x640 .f32) : FVec Ideal S3x56x192x640 .bf16 := fun y =>
  yO (N (y 0)) T (y 0) (blkf h (y 0) (y 1)) (blkf x (y 0) (y 1)) (wsf T (y 0) W) (wof T (y 0) WO) (ix4 0 0 (y 2) (y 3))

/-- The windows fetched and flushed at every point: table and feature. -/
theorem idx_pt : ∀ t : Fin cfg0.N, win0_2.index t = ![t.val / 56, t.val % 56, 0, 0] ∧ win0_3.index t = ![t.val / 56, t.val % 56, 0, 0]
    ∧ win0_6.index t = ![t.val / 56, t.val % 56, 0, 0] ∧ win0_7.index t = ![t.val / 56, t.val % 56, 0, 0] ∧ win0_8.index t = ![t.val / 56, t.val % 56, 0, 0]
    ∧ win0_9.index t = ![t.val / 56, t.val % 56, 0, 0] ∧ win0_10.index t = ![t.val / 56, t.val % 56, 0, 0] :=
  (by decide +kernel : ∀ t : Fin grid0.N, _)

theorem tabN_val (t : Fin cfg0.N) : (tabN t.val).val = t.val / 56 := by
  have hN : t.val < 168 := lt_of_lt_of_eq t.isLt (show cfg0.N = 168 from N_0)
  show t.val / 56 % 3 = _
  omega

/-- The scales are the argument's. -/
theorem tbV_eq (c : Dev nD) : tbV m c = m ((c.tc : Thread nD τ).loc main_arg0) := by
  unfold tbV; funext y; blk_simp [iblk]
  refine (congrArg (V m c main_arg0) (?_ : _ = y)).trans (congrFun (V_main_arg0 m c) y)
  blk_ext [idx_once t0]

/-- The row counts are the argument's. -/
theorem nV_eq (c : Dev nD) : nV m c = m ((c.tc : Thread nD τ).loc main_arg1) := by
  unfold nV; funext y; blk_simp [iblk]
  refine (congrArg (V m c main_arg1) (?_ : _ = y)).trans (congrFun (V_main_arg1 m c) y)
  blk_ext [idx_once t0]

/-- The input weights are the host's. -/
theorem wV_eq (c : Dev nD) : wV m c = V m c main_v6 := by
  unfold wV; funext y; blk_simp [iblk]
  refine congrArg (V m c main_v6) (?_ : _ = y)
  blk_ext [idx_once t0]

/-- The output weights are the host's. -/
theorem woV_eq (c : Dev nD) : woV m c = V m c main_v7 := by
  unfold woV; funext y; blk_simp [iblk]
  refine congrArg (V m c main_v7) (?_ : _ = y)
  blk_ext [idx_once t0]

/-- The block of rows of a point. -/
theorem hB_eq (c : Dev nD) (t : Fin cfg0.N) : hB m c t = blkf (φ := .bf16) (m ((c.tc : Thread nD τ).loc main_arg2)) (tabN t.val) (fN t.val) := by
  unfold hB; funext y; blk_simp [iblk]
  refine (congrArg (V m c main_arg2) (?_ : _ = ix4 (tabN t.val) (fN t.val) (y 2) (y 3))).trans (congrFun (V_main_arg2 m c) _)
  have h3 := tabN_val t
  blk_ext [idx_pt t, fN]

/-- The residual's block of a point. -/
theorem xB_eq (c : Dev nD) (t : Fin cfg0.N) : xB m c t = blkf (φ := .f32) (m ((c.tc : Thread nD τ).loc main_arg3)) (tabN t.val) (fN t.val) := by
  unfold xB; funext y; blk_simp [iblk]
  refine (congrArg (V m c main_arg3) (?_ : _ = ix4 (tabN t.val) (fN t.val) (y 2) (y 3))).trans (congrFun (V_main_arg3 m c) _)
  have h3 := tabN_val t
  blk_ext [idx_pt t, fN]

/-- Result 0. -/
theorem arr6 (c : Dev nD) : (dats m 0 c).arrAt 6 cfg0.N = codesG 0 (tbV m c) (wV m c) (m ((c.tc : Thread nD τ).loc main_arg2)) := by
  refine (dats m 0 c).arrAt_eq_of_covers 6 (codesG 0 (tbV m c) (wV m c) (m ((c.tc : Thread nD τ).loc main_arg2))) (by decide +kernel) fun t _ y => ?_
  blk_simp
  rw [after6]
  have h3 := tabN_val t
  rw [show (win0_6.blk t).view.emb y = ix4 (tabN t.val) (fN t.val) (y 2) (y 3) by blk_ext [idx_pt t, fN]]
  unfold cB
  rw [hB_eq]
  rfl

/-- Result 1. -/
theorem arr7 (c : Dev nD) : (dats m 0 c).arrAt 7 cfg0.N = codesG 1 (tbV m c) (wV m c) (m ((c.tc : Thread nD τ).loc main_arg2)) := by
  refine (dats m 0 c).arrAt_eq_of_covers 7 (codesG 1 (tbV m c) (wV m c) (m ((c.tc : Thread nD τ).loc main_arg2))) (by decide +kernel) fun t _ y => ?_
  blk_simp
  rw [after7]
  have h3 := tabN_val t
  rw [show (win0_7.blk t).view.emb y = ix4 (tabN t.val) (fN t.val) (y 2) (y 3) by blk_ext [idx_pt t, fN]]
  unfold cB
  rw [hB_eq]
  rfl

/-- Result 2. -/
theorem arr8 (c : Dev nD) : (dats m 0 c).arrAt 8 cfg0.N = codesG 2 (tbV m c) (wV m c) (m ((c.tc : Thread nD τ).loc main_arg2)) := by
  refine (dats m 0 c).arrAt_eq_of_covers 8 (codesG 2 (tbV m c) (wV m c) (m ((c.tc : Thread nD τ).loc main_arg2))) (by decide +kernel) fun t _ y => ?_
  blk_simp
  rw [after8]
  have h3 := tabN_val t
  rw [show (win0_8.blk t).view.emb y = ix4 (tabN t.val) (fN t.val) (y 2) (y 3) by blk_ext [idx_pt t, fN]]
  unfold cB
  rw [hB_eq]
  rfl

/-- Result 3. -/
theorem arr9 (c : Dev nD) : (dats m 0 c).arrAt 9 cfg0.N = attnG (cntV m c) (tbV m c) (wV m c) (woV m c) (m ((c.tc : Thread nD τ).loc main_arg2)) := by
  refine (dats m 0 c).arrAt_eq_of_covers 9 (attnG (cntV m c) (tbV m c) (wV m c) (woV m c) (m ((c.tc : Thread nD τ).loc main_arg2))) (by decide +kernel) fun t _ y => ?_
  blk_simp
  rw [after9]
  have h3 := tabN_val t
  rw [show (win0_9.blk t).view.emb y = ix4 (tabN t.val) (fN t.val) (y 2) (y 3) by blk_ext [idx_pt t, fN]]
  unfold aB
  rw [hB_eq]
  rfl

/-- Result 4. -/
theorem arr10 (c : Dev nD) : (dats m 0 c).arrAt 10 cfg0.N = yG (cntV m c) (tbV m c) (wV m c) (woV m c) (m ((c.tc : Thread nD τ).loc main_arg2)) (m ((c.tc : Thread nD τ).loc main_arg3)) := by
  refine (dats m 0 c).arrAt_eq_of_covers 10 (yG (cntV m c) (tbV m c) (wV m c) (woV m c) (m ((c.tc : Thread nD τ).loc main_arg2)) (m ((c.tc : Thread nD τ).loc main_arg3))) (by decide +kernel) fun t _ y => ?_
  blk_simp
  rw [after10]
  have h3 := tabN_val t
  rw [show (win0_10.blk t).view.emb y = ix4 (tabN t.val) (fN t.val) (y 2) (y 3) by blk_ext [idx_pt t, fN]]
  unfold yB
  rw [hB_eq, xB_eq]
  rfl

end Cert.KernelIdeal.Val

end
-- ==== Proof.RTail.lean ====
/- The attention results of the reference over the extended reals. -/
module

public import proofs.«01_k».proof.Proof.RVal

@[expose] public section

set_option maxRecDepth 16384

noncomputable section

namespace Cert.RefIdeal.Val

open Cert.RefIdeal Cert.RefIdeal.Gen
open Idealize.ShloMosaic Idealize.ShloMosaic.TcCoe Idealize.SL.Sem

variable (m : (ℓ : Loc nD τ sig) → Buf (Elt Ideal) ℓ) (ρ : Dev nD → PrngReg)

/-- The codes of the reference, from its memory. -/
abbrev qA (c : Dev nD) := rcodA (m ((c.tc : Thread nD τ).loc main_arg0)) (m ((c.tc : Thread nD τ).loc main_arg4)) (m ((c.tc : Thread nD τ).loc main_arg2)) 0
/-- The codes of the reference, from its memory. -/
abbrev kA (c : Dev nD) := rcodA (m ((c.tc : Thread nD τ).loc main_arg0)) (m ((c.tc : Thread nD τ).loc main_arg5)) (m ((c.tc : Thread nD τ).loc main_arg2)) 1
/-- The codes of the reference, from its memory. -/
abbrev vA (c : Dev nD) := rcodA (m ((c.tc : Thread nD τ).loc main_arg0)) (m ((c.tc : Thread nD τ).loc main_arg6)) (m ((c.tc : Thread nD τ).loc main_arg2)) 2

/-- The scores of a row, from the reference's memory. -/
abbrev scA (c : Dev nD) (b : Fin 3) (f : Fin 56) (h : Fin 4) (q : Fin 640) : Fin 640 → EReal :=
  rsc (fun e x => qA m c (ix4 b f (hd h e) x)) (fun e x => kA m c (ix4 b f (hd h e) x)) (rss (m ((c.tc : Thread nD τ).loc main_arg0)) b h) ((show IVec S3 32 from m ((c.tc : Thread nD τ).loc main_arg1)) (ix1 b)) q

/-- The masked scores of the reference. -/
theorem s2_v46 (c : Dev nD) (b : Fin 3) (f : Fin 56) (h : Fin 4) (q j : Fin 640) : (show FVec Ideal S3x56x4x640x640 .f32 from s2 m c (Proc.tc.devRef main_v46)) (ix5 b f h q j) = scA m c b f h q j := by
  refine (v46_at (StableHlo.after hostOps1 (s0 m c)) b f h q j).trans ?_
  have e1 := v45_at (s0 m c) b j
  have e2 := v38_at (s0 m c) b f h q j
  have e3 := c3_at (s0 m c) ix0
  have a1 : s0 m c (Proc.tc.devRef main_arg1) = m ((c.tc : Thread nD τ).loc main_arg1) := (s0_keep m c main_arg1 (by decide)).trans (keep_0_arg1 _)
  have a2 : (show FVec Ideal S3x4 .f32 from s0 m c (Proc.tc.devRef main_v0)) (ix2 b h) = _ := (congrFun (s0_keep m c main_v0 (by decide)) (ix2 b h)).trans (v0_at (fun b => m (c, b)) b h)
  have a3 : (show FVec Ideal S3x4 .f32 from s0 m c (Proc.tc.devRef main_v1)) (ix2 b h) = _ := (congrFun (s0_keep m c main_v1 (by decide)) (ix2 b h)).trans (v1_at (fun b => m (c, b)) b h)
  have a4 : (show FVec Ideal S3x56x192x640 .bf16 from s0 m c (Proc.tc.devRef main_v27_3)) = qA m c := s0_v27_3 m c
  have a5 : (show FVec Ideal S3x56x192x640 .bf16 from s0 m c (Proc.tc.devRef main_v27_4)) = kA m c := s0_v27_4 m c
  rw [a1] at e1
  rw [a2, a3, a4, a5] at e2
  refine (congrArg₂ (fun x y => Scalar.select x y _) e1 e2).trans ?_
  refine (congrArg (Scalar.select _ _) e3).trans ?_
  rfl

/-- The exponentials of the reference. -/
theorem s4_v53 (c : Dev nD) (b : Fin 3) (f : Fin 56) (h : Fin 4) (q j : Fin 640) : (show FVec Ideal S3x56x4x640x640 .f32 from s4 m c (Proc.tc.devRef main_v53)) (ix5 b f h q j) = rex (scA m c b f h q) j := by
  refine (v53_at (StableHlo.after opsE1 (s2 m c)) b f h q j).trans ?_
  have e1 : (show FVec Ideal S3x56x4x640x640 .f32 from StableHlo.after (opsE1 (F := Ideal)) (s2 m c) (Proc.tc.devRef main_v46)) (ix5 b f h q j) = scA m c b f h q j :=
    (congrFun (keep_E1_v46 (s2 m c)) (ix5 b f h q j)).trans (s2_v46 m c b f h q j)
  have e2 : (show FVec Ideal S3x56x4x640 .f32 from StableHlo.after (opsE1 (F := Ideal)) (s2 m c) (Proc.tc.devRef main_v47)) (ix4 b f h q) = Finset.univ.fold max (Ideal.ofBits FTy.f32 4286578688#32) (scA m c b f h q) :=
    (v47_at (s2 m c) b f h q).trans (congrArg (fun g => Finset.fold max (Ideal.ofBits FTy.f32 4286578688#32) g Finset.univ) (funext fun x => s2_v46 m c b f h q x))
  exact congrArg₂ (fun x y => Ideal.exp (x - max _ y)) e1 e2

/-- The attention result at an index of the reference. -/
theorem attR_at (c : Dev nD) (b : Fin 3) (f : Fin 56) (r : Fin 192) (q : Fin 640) : attR (StableHlo.after opsF (s4 m c)) b f r q
    = ratt (m ((c.tc : Thread nD τ).loc main_arg0)) (m ((c.tc : Thread nD τ).loc main_arg1)) (qA m c) (kA m c) (vA m c) (m ((c.tc : Thread nD τ).loc main_arg7)) b f r q := by
  refine Finset.sum_congr rfl fun d _ => Finset.sum_congr rfl fun h _ => ?_
  have a7 : StableHlo.after opsF (s4 m c) (Proc.tc.devRef main_arg7) = m ((c.tc : Thread nD τ).loc main_arg7) :=
    (keep_F_arg7 _).trans ((keep_E2_arg7 _).trans ((keep_E1_arg7 _).trans ((keep_11_arg7 _).trans ((keep_1_arg7 _).trans ((s0_keep m c main_arg7 (by decide)).trans (keep_0_arg7 _))))))
  have k30 : StableHlo.after opsF (s4 m c) (Proc.tc.devRef main_v30) = StableHlo.after hostOps1 (s0 m c) (Proc.tc.devRef main_v30) :=
    (keep_F_v30 _).trans ((keep_E2_v30 _).trans ((keep_E1_v30 _).trans (keep_11_v30 _)))
  have k2 : StableHlo.after opsF (s4 m c) (Proc.tc.devRef main_v2) = V0 m c (Proc.tc.devRef main_v2) :=
    (keep_F_v2 _).trans ((keep_E2_v2 _).trans ((keep_E1_v2 _).trans ((keep_11_v2 _).trans ((keep_1_v2 _).trans (s0_keep m c main_v2 (by decide))))))
  have e2 : (show FVec Ideal S3x4 .f32 from StableHlo.after opsF (s4 m c) (Proc.tc.devRef main_v2)) (ix2 b h) = (show FVec Ideal S3x12 .f32 from m ((c.tc : Thread nD τ).loc main_arg0)) (ix2 b ⟨8 + h.val, by omega⟩) :=
    (congrFun k2 (ix2 b h)).trans (v2_at (fun b => m (c, b)) b h)
  have e30 : ∀ j : Fin 640, (show FVec Ideal S3x56x4x48x640 .bf16 from StableHlo.after opsF (s4 m c) (Proc.tc.devRef main_v30)) (ix5 b f h d j) = vA m c (ix4 b f (hd h d) j) := fun j =>
    (congrFun k30 (ix5 b f h d j)).trans ((v30_at (s0 m c) b f h d j).trans (congrFun (s0_v27_5 m c) (ix4 b f (hd h d) j)))
  have e58 : ∀ j : Fin 640, (show FVec Ideal S3x56x4x640x640 .bf16 from StableHlo.after opsF (s4 m c) (Proc.tc.devRef main_v58)) (ix5 b f h q j) = Ideal.div (rex (scA m c b f h q) j) (∑ x : Fin 640, rex (scA m c b f h q) x) := fun j =>
    (v58_at (s4 m c) b f h q j).trans (congrArg₂ Ideal.div (s4_v53 m c b f h q j) (Finset.sum_congr rfl fun x _ => s4_v53 m c b f h q x))
  refine Ideal.mul_congr (congrFun a7 (ix3 h d r)) (Ideal.mul_congr (Finset.sum_congr rfl fun j _ => Ideal.mul_congr (e30 j) (e58 j)) e2)

/-- The attention array of the reference. -/
def rattA (T : FVec Ideal S3x12 .f32) (N : IVec S3 32) (Q K Vv : S3x56x192x640.Idx → EReal) (wo : FVec Ideal S4x48x192 .bf16) : FVec Ideal S3x56x192x640 .bf16 := fun y => ratt T N Q K Vv wo (y 0) (y 1) (y 2) (y 3)

/-- The attention result of the reference. -/
theorem tail_v68 (c : Dev nD) : (show FVec Ideal S3x56x192x640 .bf16 from Pipeline.afterTail₀ cfgs (dats m) 0 (V0 m) [hostOps1, hostOps1_1, hostOps1_2] c main_v68)
    = rattA (m ((c.tc : Thread nD τ).loc main_arg0)) (m ((c.tc : Thread nD τ).loc main_arg1)) (qA m c) (kA m c) (vA m c) (m ((c.tc : Thread nD τ).loc main_arg7)) := by
  funext y
  idx_vars y
  exact (congrFun (tail_cut m c main_v68) (ix4 y0 y1 y2 y3)).trans ((v68_at _ y0 y1 y2 y3).trans (attR_at m c y0 y1 y2 y3))

/-- The residual result of the reference. -/
theorem tail_v67 (c : Dev nD) : (show FVec Ideal S3x56x192x640 .bf16 from Pipeline.afterTail₀ cfgs (dats m) 0 (V0 m) [hostOps1, hostOps1_1, hostOps1_2] c main_v67)
    = fun y => (show FVec Ideal S3x56x192x640 .f32 from m ((c.tc : Thread nD τ).loc main_arg3)) y + rattA (m ((c.tc : Thread nD τ).loc main_arg0)) (m ((c.tc : Thread nD τ).loc main_arg1)) (qA m c) (kA m c) (vA m c) (m ((c.tc : Thread nD τ).loc main_arg7)) y := by
  funext y
  idx_vars y
  have a3 : StableHlo.after opsF (s4 m c) (Proc.tc.devRef main_arg3) = m ((c.tc : Thread nD τ).loc main_arg3) :=
    (keep_F_arg3 _).trans ((keep_E2_arg3 _).trans ((keep_E1_arg3 _).trans ((keep_11_arg3 _).trans ((keep_1_arg3 _).trans ((s0_keep m c main_arg3 (by decide)).trans (keep_0_arg3 _))))))
  exact (congrFun (tail_cut m c main_v67) (ix4 y0 y1 y2 y3)).trans ((v67_at _ y0 y1 y2 y3).trans (Ideal.add_congr (congrFun a3 (ix4 y0 y1 y2 y3)) (attR_at m c y0 y1 y2 y3)))

end Cert.RefIdeal.Val
-- ==== Proof.VSame.lean ====
/- The kernel's closed forms are the reference's. -/
module

public import proofs.«01_k».proof.Proof.VSoft
public import proofs.«01_k».proof.Proof.VArr
public import proofs.«01_k».proof.Proof.RTail

@[expose] public section

set_option maxRecDepth 16384

noncomputable section

namespace Cert.Same

open Idealize.ShloMosaic Idealize.ShloMosaic.TcCoe
open Cert.KernelIdeal (S3x12 S576x192 S192x192 S192x640 S640x192 S4x64x640 S4x192x640 S3x56x192x640 S1x1x192x640)
open Cert.KernelIdeal.Val (cdf cpf c4f wsf wof blkf codesG attnG yG ktf vxf qmf stf mxf ccf exf oxf oof oaf prj nkf nk_le up atf ytf atO yO)
open Cert.RefIdeal.Val (rcod rcodA clip rsc rsm rss hd ratt rattA)

/-- The clip to the range of the codes, its ends as numbers. -/
theorem clip_eq (x : EReal) : clip x = min ((448 : ℝ) : EReal) (max ((-448 : ℝ) : EReal) x) := by
  show min (Ideal.ofBits .f32 0x43E00000#32) (max (Ideal.ofBits .f32 0xC3E00000#32) x) = _
  rw [KernelIdeal.Val.ofBits_448, KernelIdeal.Val.ofBits_n448]

/-- The codes of a projection from weights scaled before the product are those scaled after it. -/
theorem code_eq (T : FVec Ideal S3x12 .f32) (W : FVec Ideal S576x192 .bf16) (w : FVec Ideal Cert.RefIdeal.S192x4x48 .bf16) (h : FVec Ideal S3x56x192x640 .bf16) (o : Fin 3)
    (hT : ∀ b i, 0 < T (ix2 b i)) (e : ∀ (s : Fin 576) (r k : Fin 192), s.val = 192 * o.val + r.val → W (ix2 s k) = w (ix3 k ⟨r.val / 48, by omega⟩ ⟨r.val % 48, by omega⟩))
    (b : Fin 3) (f : Fin 56) (r : Fin 192) (q : Fin 640) : cdf (wsf T b W) (blkf h b f) ⟨192 * o.val + r.val, by omega⟩ q = rcod T w h o b f r q := by
  unfold rcod
  rw [clip_eq]
  unfold cdf
  congr 2
  obtain ⟨c, hc, hi⟩ := inv_real (T (ix2 b ⟨4 * o.val + r.val / 48, by omega⟩)) (hT _ _)
  unfold RefIdeal.Val.inv
  rw [hi, sum_mul_coe _ _ _ hc]
  refine Finset.sum_congr rfl fun k _ => ?_
  have hs : (⟨(192 * o.val + r.val) / 48, by omega⟩ : Fin 12) = ⟨4 * o.val + r.val / 48, by omega⟩ := Fin.ext (by show (192 * o.val + r.val) / 48 = 4 * o.val + r.val / 48; omega)
  show W (ix2 _ k) * Ideal.div 1 (T (ix2 b (⟨(192 * o.val + r.val) / 48, _⟩ : Fin 12))) * h (ix4 b f k q) = _
  rw [hs, hi, e _ r k rfl, mul_right_comm]

/-- The codes' arrays are the same. -/
theorem codes_eq (T : FVec Ideal S3x12 .f32) (W : FVec Ideal S576x192 .bf16) (w : FVec Ideal Cert.RefIdeal.S192x4x48 .bf16) (h : FVec Ideal S3x56x192x640 .bf16) (o : Fin 3)
    (hT : ∀ b i, 0 < T (ix2 b i)) (e : ∀ (s : Fin 576) (r k : Fin 192), s.val = 192 * o.val + r.val → W (ix2 s k) = w (ix3 k ⟨r.val / 48, by omega⟩ ⟨r.val % 48, by omega⟩)) :
    codesG o T W h = rcodA T w h o := by
  funext y
  exact code_eq T W w h o hT e (y 0) (y 1) (y 2) (y 3)

/-- A code is a real. -/
theorem rcod_real (T : FVec Ideal S3x12 .f32) (w : FVec Ideal Cert.RefIdeal.S192x4x48 .bf16) (h : FVec Ideal S3x56x192x640 .bf16) (o b : Fin 3) (f : Fin 56) (r : Fin 192) (q : Fin 640) :
    ∃ x : ℝ, rcod T w h o b f r q = (x : EReal) := by
  unfold rcod; rw [clip_eq]; exact clip_real _

/-- A code of an infinite scale is zero. -/
theorem rcod_top (T : FVec Ideal S3x12 .f32) (w : FVec Ideal Cert.RefIdeal.S192x4x48 .bf16) (h : FVec Ideal S3x56x192x640 .bf16) (o b : Fin 3) (f : Fin 56) (r : Fin 192) (q : Fin 640)
    (ht : T (ix2 b ⟨4 * o.val + r.val / 48, by omega⟩) = ⊤) : rcod T w h o b f r q = 0 := by
  unfold rcod RefIdeal.Val.inv
  rw [clip_eq, ht, inv_top, mul_zero, clip_zero]

/-- A score over all rows, the queries zero outside the head, is the score over the head's rows. -/
theorem stf_eq (n : ℕ) (kc qc : FVec Ideal S192x640 .fp8e4m3) (h : Fin 4) (j q : Fin 640) :
    stf (ktf n kc) (qmf qc) h j q = ∑ d : Fin 48, qc (ix2 (hd h d) q) * kc (ix2 (hd h d) (if j.val < n then j else 0)) := by
  unfold stf
  rw [Fin.sum_univ_tiles 4 48 rfl]
  rw [Finset.sum_eq_single h]
  · refine Finset.sum_congr rfl fun d _ => ?_
    show kc (ix2 (hd h d) (if j.val < n then j else 0)) * (if (h.val * 48 + d.val) / 48 = h.val then qc (ix2 (hd h d) q) else 0) = _
    rw [if_pos (show (h.val * 48 + d.val) / 48 = h.val by omega), mul_comm]
  · intro h' _ hh
    refine Finset.sum_eq_zero fun d _ => ?_
    show _ * (if (h'.val * 48 + d.val) / 48 = h.val then _ else (0 : EReal)) = _
    rw [if_neg (fun e => hh (Fin.ext (by omega))), mul_zero]
  · intro hh; exact absurd (Finset.mem_univ _) hh

/-- The masked score of the reference: the scaled score of a live key, minus infinity of a dead one. -/
theorem rsc_eq (qc kc : Fin 48 → Fin 640 → EReal) (s : EReal) (nn : BitVec 32) (hn : nn.toNat ≤ 640) (q j : Fin 640) :
    rsc qc kc s nn q j = if j.val < nn.toNat then (∑ d : Fin 48, qc d q * kc d j) * s else ⊥ := by
  unfold rsc
  have hm := KernelIdeal.Val.msk j nn.toNat hn
  rw [BitVec.ofNat_toNat, BitVec.setWidth_eq] at hm
  rw [hm, show Ideal.ofBits FTy.f32 4286578688#32 = ⊥ from KernelIdeal.Val.ninf]
  by_cases hj : j.val < nn.toNat <;> simp [hj, Scalar.select]

/-- The rows under the values: one at a live key, zero at a dead one. -/
theorem ones_eq (n : ℕ) (v : FVec Ideal S192x640 .fp8e4m3) (h : Fin 4) (d : Fin 64) (hd : ¬ d.val < 48) (j : Fin 640) :
    vxf n v (ix3 h d j) = if j.val < n then 1 else 0 := by
  show (if j.val < n then (if h' : d.val < 48 then v (ix2 ⟨48 * h.val + d.val, _⟩ j) else 1) else 0) = _
  rw [dif_neg hd]

/-- One head's row of the attention output is the reference's softmax against the values. -/
theorem oof_eq (T : FVec Ideal S3x12 .f32) (nn : BitVec 32) (h1 : 1 ≤ nn.toNat) (hn : nn.toNat ≤ 640) (hT : ∀ b i, 0 < T (ix2 b i))
    (qc kc vc : FVec Ideal S192x640 .fp8e4m3) (b : Fin 3) (h : Fin 4)
    (hq : ∀ r j, ∃ x : ℝ, qc (ix2 r j) = (x : EReal)) (hk : ∀ r j, ∃ x : ℝ, kc (ix2 r j) = (x : EReal)) (hv : ∀ r j, ∃ x : ℝ, vc (ix2 r j) = (x : EReal))
    (tq : T (ix2 b ⟨0 + h.val, by omega⟩) = ⊤ → ∀ d j, qc (ix2 (hd h d) j) = 0) (tk : T (ix2 b ⟨4 + h.val, by omega⟩) = ⊤ → ∀ d j, kc (ix2 (hd h d) j) = 0)
    (d : Fin 48) (q : Fin 640) :
    oof (nk_le nn.toNat) T b (ktf nn.toNat kc) (vxf nn.toNat vc) (qmf qc) h d q
      = rsm (rsc (fun e x => qc (ix2 (hd h e) x)) (fun e x => kc (ix2 (hd h e) x)) (rss T b h) nn q) (fun j => vc (ix2 (hd h d) j)) := by
  choose qr hq using hq
  choose kr hk using hk
  choose vr hv using hv
  let a : Fin 640 → ℝ := fun j => ∑ e : Fin 48, qr (hd h e) q * kr (hd h e) j
  have ha : ∀ j, (∑ e : Fin 48, qc (ix2 (hd h e) q) * kc (ix2 (hd h e) j)) = (a j : EReal) := fun j => by
    rw [← sum_coe]
    exact Finset.sum_congr rfl fun e _ => by rw [hq, hk, EReal.coe_mul]
  have h0 : (⟨0 + h.val, by omega⟩ : Fin 12) = ⟨h.val, by omega⟩ := Fin.ext (by simp)
  obtain ⟨t, ht, hs, hC⟩ := scale (T (ix2 b ⟨0 + h.val, by omega⟩)) (T (ix2 b ⟨4 + h.val, by omega⟩)) (hT _ _) (hT _ _) a (by
    intro hh j
    have : (a j : EReal) = 0 := by
      rw [← ha]
      refine Finset.sum_eq_zero fun e _ => ?_
      rcases hh with hh | hh
      · rw [tq hh, zero_mul]
      · rw [tk hh, mul_zero]
    exact_mod_cast this)
  have hle : nn.toNat ≤ nkf nn.toNat := by unfold nkf; omega
  have hr : (fun j => vc (ix2 (hd h d) j)) = fun j => (vr (hd h d) j : EReal) := funext fun j => hv _ _
  rw [hr]
  rw [← soft nn.toNat (nkf nn.toNat) h1 hle (nk_le _) a (fun j => vr (hd h d) j) t ht (ccf T b h) (fun i j => by unfold ccf; rw [← h0]; exact hC i j)
    (rsc (fun e x => qc (ix2 (hd h e) x)) (fun e x => kc (ix2 (hd h e) x)) (rss T b h) nn q) (fun j => by
      rw [rsc_eq _ _ _ _ hn, ha]
      by_cases hj : j.val < nn.toNat
      · rw [if_pos hj, if_pos hj]; exact hs j
      · rw [if_neg hj, if_neg hj])
    (fun j => stf (ktf nn.toNat kc) (qmf qc) h (up (nk_le _) j) q) (fun j => by
      rw [stf_eq, ha]; rfl)
    (fun j => vxf nn.toNat vc (ix3 h (⟨d.val, by omega⟩ : Fin 64) (up (nk_le _) j))) (fun j => vxf nn.toNat vc (ix3 h (⟨48, by omega⟩ : Fin 64) (up (nk_le _) j)))
    (fun j => by
      show (if j.val < nn.toNat then (if h' : d.val < 48 then vc (ix2 ⟨48 * h.val + d.val, _⟩ (up (nk_le _) j)) else 1) else 0) = _
      rw [dif_pos d.isLt, ← hv]
      have : (⟨48 * h.val + d.val, by omega⟩ : Fin 192) = hd h d := Fin.ext (by show 48 * h.val + d.val = h.val * 48 + d.val; omega)
      rw [this])
    (fun j => ones_eq _ _ _ _ (by show ¬ 48 < 48; omega) _)]
  rfl

/-- The projection of the heads' outputs, the scales taken into the weights, is the reference's. -/
theorem prj_eq (T : FVec Ideal S3x12 .f32) (Nn : IVec Cert.RefIdeal.S3 32) (h1 : ∀ b, 1 ≤ (Nn (ix1 b)).toNat) (hn : ∀ b, (Nn (ix1 b)).toNat ≤ 640) (hT : ∀ b i, 0 < T (ix2 b i))
    (W : FVec Ideal S576x192 .bf16) (WO : FVec Ideal S192x192 .bf16) (h : FVec Ideal S3x56x192x640 .bf16) (wq wk wv : FVec Ideal Cert.RefIdeal.S192x4x48 .bf16) (wo : FVec Ideal Cert.RefIdeal.S4x48x192 .bf16)
    (eq : ∀ (s : Fin 576) (r k : Fin 192), s.val = 192 * (0 : Fin 3).val + r.val → W (ix2 s k) = wq (ix3 k ⟨r.val / 48, by omega⟩ ⟨r.val % 48, by omega⟩))
    (ek : ∀ (s : Fin 576) (r k : Fin 192), s.val = 192 * (1 : Fin 3).val + r.val → W (ix2 s k) = wk (ix3 k ⟨r.val / 48, by omega⟩ ⟨r.val % 48, by omega⟩))
    (ev : ∀ (s : Fin 576) (r k : Fin 192), s.val = 192 * (2 : Fin 3).val + r.val → W (ix2 s k) = wv (ix3 k ⟨r.val / 48, by omega⟩ ⟨r.val % 48, by omega⟩))
    (eo : ∀ k r : Fin 192, WO (ix2 k r) = wo (ix3 ⟨k.val / 48, by omega⟩ ⟨k.val % 48, by omega⟩ r))
    (b : Fin 3) (f : Fin 56) (r : Fin 192) (q : Fin 640) :
    prj (wof T b WO) (oaf (nk_le (Nn (ix1 b)).toNat) T b (ktf (Nn (ix1 b)).toNat (cpf 1 (wsf T b W) (blkf h b f))) (vxf (Nn (ix1 b)).toNat (cpf 2 (wsf T b W) (blkf h b f))) (qmf (cpf 0 (wsf T b W) (blkf h b f)))) r q
      = ratt T Nn (rcodA T wq h 0) (rcodA T wk h 1) (rcodA T wv h 2) wo b f r q := by
  have hq : ∀ r j, cpf 0 (wsf T b W) (blkf h b f) (ix2 r j) = rcod T wq h 0 b f r j := fun r j => code_eq T W wq h 0 hT eq b f r j
  have hk : ∀ r j, cpf 1 (wsf T b W) (blkf h b f) (ix2 r j) = rcod T wk h 1 b f r j := fun r j => code_eq T W wk h 1 hT ek b f r j
  have hv : ∀ r j, cpf 2 (wsf T b W) (blkf h b f) (ix2 r j) = rcod T wv h 2 b f r j := fun r j => code_eq T W wv h 2 hT ev b f r j
  unfold prj ratt
  rw [Fin.sum_univ_tiles 4 48 rfl, Finset.sum_comm]
  refine Finset.sum_congr rfl fun d _ => Finset.sum_congr rfl fun g _ => ?_
  have hg : (⟨(g.val * 48 + d.val) / 48, by omega⟩ : Fin 4) = g := Fin.ext (by show (g.val * 48 + d.val) / 48 = g.val; omega)
  have hd' : (⟨(g.val * 48 + d.val) % 48, by omega⟩ : Fin 48) = d := Fin.ext (by show (g.val * 48 + d.val) % 48 = d.val; omega)
  have h8 : (⟨8 + (g.val * 48 + d.val) / 48, by omega⟩ : Fin 12) = ⟨8 + g.val, by omega⟩ := Fin.ext (by show 8 + (g.val * 48 + d.val) / 48 = 8 + g.val; omega)
  show WO (ix2 (⟨g.val * 48 + d.val, _⟩ : Fin 192) r) * T (ix2 b (⟨8 + (g.val * 48 + d.val) / 48, _⟩ : Fin 12)) * oof _ T b _ _ _ (⟨(g.val * 48 + d.val) / 48, _⟩ : Fin 4) (⟨(g.val * 48 + d.val) % 48, _⟩ : Fin 48) q = _
  rw [h8, eo, hg, hd', oof_eq T (Nn (ix1 b)) (h1 b) (hn b) hT _ _ _ b g
    (fun r j => by rw [hq]; exact rcod_real _ _ _ _ _ _ _ _) (fun r j => by rw [hk]; exact rcod_real _ _ _ _ _ _ _ _) (fun r j => by rw [hv]; exact rcod_real _ _ _ _ _ _ _ _)
    (fun ht e j => by
      rw [hq]; refine rcod_top _ _ _ _ _ _ _ _ ?_
      rw [← ht]; congr 2; exact Fin.ext (by show 4 * 0 + (g.val * 48 + e.val) / 48 = 0 + g.val; omega))
    (fun ht e j => by
      rw [hk]; refine rcod_top _ _ _ _ _ _ _ _ ?_
      rw [← ht]; congr 2; exact Fin.ext (by show 4 * 1 + (g.val * 48 + e.val) / 48 = 4 + g.val; omega))]
  simp only [hq, hk, hv]
  have hh : (⟨(⟨g.val * 48 + d.val, by omega⟩ : Fin 192).val / 48, by omega⟩ : Fin 4) = g := hg
  rw [mul_assoc, mul_comm (T _)]
  rfl

/-- The attention results are the same. -/
theorem attn_eq (T : FVec Ideal S3x12 .f32) (Nn : IVec Cert.RefIdeal.S3 32) (h1 : ∀ b, 1 ≤ (Nn (ix1 b)).toNat) (hn : ∀ b, (Nn (ix1 b)).toNat ≤ 640) (hT : ∀ b i, 0 < T (ix2 b i))
    (W : FVec Ideal S576x192 .bf16) (WO : FVec Ideal S192x192 .bf16) (h : FVec Ideal S3x56x192x640 .bf16) (wq wk wv : FVec Ideal Cert.RefIdeal.S192x4x48 .bf16) (wo : FVec Ideal Cert.RefIdeal.S4x48x192 .bf16)
    (eq : ∀ (s : Fin 576) (r k : Fin 192), s.val = 192 * (0 : Fin 3).val + r.val → W (ix2 s k) = wq (ix3 k ⟨r.val / 48, by omega⟩ ⟨r.val % 48, by omega⟩))
    (ek : ∀ (s : Fin 576) (r k : Fin 192), s.val = 192 * (1 : Fin 3).val + r.val → W (ix2 s k) = wk (ix3 k ⟨r.val / 48, by omega⟩ ⟨r.val % 48, by omega⟩))
    (ev : ∀ (s : Fin 576) (r k : Fin 192), s.val = 192 * (2 : Fin 3).val + r.val → W (ix2 s k) = wv (ix3 k ⟨r.val / 48, by omega⟩ ⟨r.val % 48, by omega⟩))
    (eo : ∀ k r : Fin 192, WO (ix2 k r) = wo (ix3 ⟨k.val / 48, by omega⟩ ⟨k.val % 48, by omega⟩ r)) :
    attnG (fun b => (Nn (ix1 b)).toNat) T W WO h = rattA T Nn (rcodA T wq h 0) (rcodA T wk h 1) (rcodA T wv h 2) wo := by
  funext y
  exact prj_eq T Nn h1 hn hT W WO h wq wk wv wo eq ek ev eo (y 0) (y 1) (y 2) (y 3)

/-- The residual results are the same. -/
theorem y_eq (T : FVec Ideal S3x12 .f32) (Nn : IVec Cert.RefIdeal.S3 32) (h1 : ∀ b, 1 ≤ (Nn (ix1 b)).toNat) (hn : ∀ b, (Nn (ix1 b)).toNat ≤ 640) (hT : ∀ b i, 0 < T (ix2 b i))
    (W : FVec Ideal S576x192 .bf16) (WO : FVec Ideal S192x192 .bf16) (h : FVec Ideal S3x56x192x640 .bf16) (x : FVec Ideal S3x56x192x640 .f32) (wq wk wv : FVec Ideal Cert.RefIdeal.S192x4x48 .bf16) (wo : FVec Ideal Cert.RefIdeal.S4x48x192 .bf16)
    (eq : ∀ (s : Fin 576) (r k : Fin 192), s.val = 192 * (0 : Fin 3).val + r.val → W (ix2 s k) = wq (ix3 k ⟨r.val / 48, by omega⟩ ⟨r.val % 48, by omega⟩))
    (ek : ∀ (s : Fin 576) (r k : Fin 192), s.val = 192 * (1 : Fin 3).val + r.val → W (ix2 s k) = wk (ix3 k ⟨r.val / 48, by omega⟩ ⟨r.val % 48, by omega⟩))
    (ev : ∀ (s : Fin 576) (r k : Fin 192), s.val = 192 * (2 : Fin 3).val + r.val → W (ix2 s k) = wv (ix3 k ⟨r.val / 48, by omega⟩ ⟨r.val % 48, by omega⟩))
    (eo : ∀ k r : Fin 192, WO (ix2 k r) = wo (ix3 ⟨k.val / 48, by omega⟩ ⟨k.val % 48, by omega⟩ r)) :
    yG (fun b => (Nn (ix1 b)).toNat) T W WO h x = fun y => x y + rattA T Nn (rcodA T wq h 0) (rcodA T wk h 1) (rcodA T wv h 2) wo y := by
  funext y
  show blkf x (y 0) (y 1) (ix4 0 0 (y 2) (y 3)) + prj _ _ (y 2) (y 3) = _
  refine congrArg₂ (· + ·) ?_ (prj_eq T Nn h1 hn hT W WO h wq wk wv wo eq ek ev eo (y 0) (y 1) (y 2) (y 3))
  show x (ix4 (y 0) (y 1) (y 2) (y 3)) = x y
  idx_vars y

end Cert.Same

end
-- ==== Proof.VHost.lean ====
/- The weights as the kernel reads them, over the extended reals. -/
module

public import proofs.«01_k».proof.Proof.VArr

@[expose] public section

set_option maxRecDepth 16384

noncomputable section

namespace Cert.KernelIdeal.Val

open Cert.KernelIdeal Cert.KernelIdeal.Gen Cert.KernelIdeal.Body
open Idealize.ShloMosaic Idealize.ShloMosaic.TcCoe Idealize.SL.Sem

variable (m : (ℓ : Loc nD τ sig) → Buf (Elt Ideal) ℓ) (ρ : Dev nD → PrngReg)

/-- The operations that lay out each projection's weights. -/
abbrev opsP {F : FTy → Type} [FloatOps F] : List (HloOp τ sig (Elt F)) :=
  [ StableHlo.reshape main_arg4 main_v0 (rfl : (.bf16 : EltTy) = .bf16) shapeCasts_S192x4x48_S192x192,
    StableHlo.unary main_v0 main_v1 ((transpose S192x192 [1, 0] · transposes_S192x192_S192x192_1_0) : (⟨S192x192, .bf16⟩ : BufTy).Contents (Elt F) → (⟨S192x192, .bf16⟩ : BufTy).Contents (Elt F)),
    StableHlo.reshape main_arg5 main_v2 (rfl : (.bf16 : EltTy) = .bf16) shapeCasts_S192x4x48_S192x192,
    StableHlo.unary main_v2 main_v3 ((transpose S192x192 [1, 0] · transposes_S192x192_S192x192_1_0) : (⟨S192x192, .bf16⟩ : BufTy).Contents (Elt F) → (⟨S192x192, .bf16⟩ : BufTy).Contents (Elt F)),
    StableHlo.reshape main_arg6 main_v4 (rfl : (.bf16 : EltTy) = .bf16) shapeCasts_S192x4x48_S192x192,
    StableHlo.unary main_v4 main_v5 ((transpose S192x192 [1, 0] · transposes_S192x192_S192x192_1_0) : (⟨S192x192, .bf16⟩ : BufTy).Contents (Elt F) → (⟨S192x192, .bf16⟩ : BufTy).Contents (Elt F)) ]

/-- The operations that stack the weights. -/
abbrev opsQ {F : FTy → Type} [FloatOps F] : List (HloOp τ sig (Elt F)) :=
  [ StableHlo.nary ![main_v1, main_v3, main_v5] main_v6 (fun u => (concatenate S576x192 0 [⟨S192x192, (u 0 : (⟨S192x192, .bf16⟩ : BufTy).Contents (Elt F))⟩, ⟨S192x192, (u 1 : (⟨S192x192, .bf16⟩ : BufTy).Contents (Elt F))⟩, ⟨S192x192, (u 2 : (⟨S192x192, .bf16⟩ : BufTy).Contents (Elt F))⟩] concatenates_S192x192_S192x192_S192x192_S576x192_d0 : (⟨S576x192, .bf16⟩ : BufTy).Contents (Elt F))),
    StableHlo.reshape main_arg7 main_v7 (rfl : (.bf16 : EltTy) = .bf16) shapeCasts_S4x48x192_S192x192 ]

/-- The operations before the call are these two runs. -/
theorem ops_cut : (hostOps0 : List (HloOp τ sig (Elt Ideal))) = opsP ++ opsQ := rfl

/-- Running two lists of operations one after the other. -/
theorem after_app (l₁ l₂ : List (HloOp τ sig (Elt Ideal))) (σ : Valuation τ sig (Elt Ideal)) : StableHlo.after (l₁ ++ l₂) σ = StableHlo.after l₂ (StableHlo.after l₁ σ) := by
  induction l₁ generalizing σ with
  | nil => rfl
  | cons op l ih => exact ih _

/-- A row of three stacked matrices. -/
theorem cat_at (A B C : FVec Ideal S192x192 .bf16) (h) (s : Fin 576) (k : Fin 192) : concatenate S576x192 0 [⟨S192x192, A⟩, ⟨S192x192, B⟩, ⟨S192x192, C⟩] h (ix2 s k) = if h1 : s.val < 192 then A (ix2 ⟨s.val, h1⟩ k) else if h2 : s.val - 192 < 192 then B (ix2 ⟨s.val - 192, h2⟩ k) else C (ix2 ⟨s.val - 192 - 192, by omega⟩ k) := by
  pointwise

/-- The stacked weights, from the laid out ones. -/
theorem v6_eq (σ : Valuation τ sig (Elt Ideal)) : StableHlo.after (opsQ (F := Ideal)) σ (Proc.tc.devRef main_v6) = concatenate S576x192 0 [⟨S192x192, (show FVec Ideal S192x192 .bf16 from σ (Proc.tc.devRef main_v1))⟩, ⟨S192x192, (show FVec Ideal S192x192 .bf16 from σ (Proc.tc.devRef main_v3))⟩, ⟨S192x192, (show FVec Ideal S192x192 .bf16 from σ (Proc.tc.devRef main_v5))⟩] concatenates_S192x192_S192x192_S192x192_S576x192_d0 := by
  rw [StableHlo.after_cons, StableHlo.after_cons, StableHlo.after_nil, HloOp.result_of_not_mem _ _ (by decide), StableHlo.nary_result]
  rfl

/-- A projection's weights, laid out. -/
theorem v1_at (σ : Valuation τ sig (Elt Ideal)) (r k : Fin 192) : (StableHlo.after (opsP (F := Ideal)) σ (Proc.tc.devRef main_v1) : FVec Ideal S192x192 .bf16) (ix2 r k) = (show FVec Ideal S192x4x48 .bf16 from σ (Proc.tc.devRef main_arg4)) (ix3 k ⟨r.val / 48, by omega⟩ ⟨r.val % 48, by omega⟩) := by
  entry_read
  pointwise
  try rfl

/-- A projection's weights, laid out. -/
theorem v3_at (σ : Valuation τ sig (Elt Ideal)) (r k : Fin 192) : (StableHlo.after (opsP (F := Ideal)) σ (Proc.tc.devRef main_v3) : FVec Ideal S192x192 .bf16) (ix2 r k) = (show FVec Ideal S192x4x48 .bf16 from σ (Proc.tc.devRef main_arg5)) (ix3 k ⟨r.val / 48, by omega⟩ ⟨r.val % 48, by omega⟩) := by
  entry_read
  pointwise
  try rfl

/-- A projection's weights, laid out. -/
theorem v5_at (σ : Valuation τ sig (Elt Ideal)) (r k : Fin 192) : (StableHlo.after (opsP (F := Ideal)) σ (Proc.tc.devRef main_v5) : FVec Ideal S192x192 .bf16) (ix2 r k) = (show FVec Ideal S192x4x48 .bf16 from σ (Proc.tc.devRef main_arg6)) (ix3 k ⟨r.val / 48, by omega⟩ ⟨r.val % 48, by omega⟩) := by
  entry_read
  pointwise
  try rfl

/-- A projection's weights inside the stacked weights. -/
theorem w_at0 (c : Dev nD) (s : Fin 576) (r : Fin 192) (k : Fin 192) (e : s.val = 192 * 0 + r.val) : (wV m c : FVec Ideal S576x192 .bf16) (ix2 s k) = (show FVec Ideal S192x4x48 .bf16 from m ((c.tc : Thread nD τ).loc main_arg4)) (ix3 k ⟨r.val / 48, by omega⟩ ⟨r.val % 48, by omega⟩) := by
  have hr := r.isLt
  rw [wV_eq m c]
  show StableHlo.after hostOps0 (fun b => m (c, b)) (Proc.tc.devRef main_v6) _ = _
  rw [ops_cut, after_app, v6_eq]
  refine (cat_at _ _ _ _ s k).trans ?_
  rw [dif_pos (by omega)]
  have e2 : (⟨s.val, by omega⟩ : Fin 192) = r := Fin.ext (by simp only; omega)
  rw [e2]
  exact v1_at (fun b => m (c, b)) r k

/-- A projection's weights inside the stacked weights. -/
theorem w_at1 (c : Dev nD) (s : Fin 576) (r : Fin 192) (k : Fin 192) (e : s.val = 192 * 1 + r.val) : (wV m c : FVec Ideal S576x192 .bf16) (ix2 s k) = (show FVec Ideal S192x4x48 .bf16 from m ((c.tc : Thread nD τ).loc main_arg5)) (ix3 k ⟨r.val / 48, by omega⟩ ⟨r.val % 48, by omega⟩) := by
  have hr := r.isLt
  rw [wV_eq m c]
  show StableHlo.after hostOps0 (fun b => m (c, b)) (Proc.tc.devRef main_v6) _ = _
  rw [ops_cut, after_app, v6_eq]
  refine (cat_at _ _ _ _ s k).trans ?_
  rw [dif_neg (by omega), dif_pos (by omega)]
  have e2 : (⟨s.val - 192, by omega⟩ : Fin 192) = r := Fin.ext (by simp only; omega)
  rw [e2]
  exact v3_at (fun b => m (c, b)) r k

/-- A projection's weights inside the stacked weights. -/
theorem w_at2 (c : Dev nD) (s : Fin 576) (r : Fin 192) (k : Fin 192) (e : s.val = 192 * 2 + r.val) : (wV m c : FVec Ideal S576x192 .bf16) (ix2 s k) = (show FVec Ideal S192x4x48 .bf16 from m ((c.tc : Thread nD τ).loc main_arg6)) (ix3 k ⟨r.val / 48, by omega⟩ ⟨r.val % 48, by omega⟩) := by
  have hr := r.isLt
  rw [wV_eq m c]
  show StableHlo.after hostOps0 (fun b => m (c, b)) (Proc.tc.devRef main_v6) _ = _
  rw [ops_cut, after_app, v6_eq]
  refine (cat_at _ _ _ _ s k).trans ?_
  rw [dif_neg (by omega), dif_neg (by omega)]
  have e2 : (⟨s.val - 192 - 192, by omega⟩ : Fin 192) = r := Fin.ext (by simp only; omega)
  rw [e2]
  exact v5_at (fun b => m (c, b)) r k

/-- The output weights as the kernel reads them. -/
theorem wo_at (c : Dev nD) (k : Fin 192) (r : Fin 192) : (woV m c : FVec Ideal S192x192 .bf16) (ix2 k r) = (show FVec Ideal S4x48x192 .bf16 from m ((c.tc : Thread nD τ).loc main_arg7)) (ix3 ⟨k.val / 48, by omega⟩ ⟨k.val % 48, by omega⟩ r) := by
  rw [woV_eq m c]
  show V m c main_v7 _ = _
  entry_read
  pointwise
  try rfl

end Cert.KernelIdeal.Val
-- ==== Proof.VPre.lean ====
/- What the precondition says of the table and of the key counts. -/
module

public import proofs.«01_k».proof.Proof.VArr
public import proofs.«01_k».proof.Defs
public import Idealize.ShloMosaic.Lib.ReduceAll

@[expose] public section

set_option maxRecDepth 16384

noncomputable section

namespace Cert.KernelIdeal.Val

open Cert.KernelIdeal Cert.KernelIdeal.Gen Cert.KernelIdeal.Body
open Idealize.ShloMosaic Idealize.ShloMosaic.TcCoe Idealize.SL.Sem

variable (m : (ℓ : Loc nD τ sig) → Buf (Elt Ideal) ℓ)

/-- A conjunction of bits that is one has both bits one. -/
theorem andi_one (x y : BitVec 1) (h : IntOp.andi x y = 1#1) : x = 1#1 ∧ y = 1#1 := by
  revert x y; decide

/-- The table is positive and every key count lies between one and the row's length. -/
theorem pre_open [Cert.Pre_in_domain.Facts] (T : FVec Ideal S3x12 .f32) (N : IVec S3 32) (a2 a3 a4 a5 a6 a7)
    (h : Cert.Pre_in_domain.fn (F := Ideal) T N a2 a3 a4 a5 a6 a7 = fun _ => 1#1) :
    (∀ b i, 0 < T (ix2 b i)) ∧ ∀ b, 1 ≤ (N (ix1 b)).toNat ∧ (N (ix1 b)).toNat ≤ 640 := by
  have h0 := congrFun h ix0
  unfold Cert.Pre_in_domain.fn at h0
  simp only at h0
  obtain ⟨hT, hN⟩ := andi_one _ _ h0
  haveI : Subsingleton Cert.Pre_in_domain.S_.Idx := ⟨fun a b => funext fun x => x.elim0⟩
  refine ⟨fun b i => ?_, fun b => ?_⟩
  · have h1 := Host.reduce_andi_all _ _ _ _ _ hT (ix2 b i)
    have h2 : BitVec.ofBool (decide ((0 : EReal) < T (ix2 b i))) = 1#1 := by
      rw [← h1]
      pointwise
    by_contra hc
    rw [decide_eq_false hc] at h2
    exact absurd h2 (by decide)
  · have h1 := Host.reduce_andi_all _ _ _ _ _ hN (ix1 b)
    obtain ⟨h2, h3⟩ := andi_one _ _ h1
    have h4 : IntOp.cmpi CmpIPredicate.sge (N (ix1 b)) 1#32 = 1#1 := by
      rw [← h2]
      pointwise
    have h5 : IntOp.cmpi CmpIPredicate.sle (N (ix1 b)) 640#32 = 1#1 := by
      rw [← h3]
      pointwise
    generalize N (ix1 b) = x at h4 h5
    simp only [IntOp.cmpi] at h4 h5
    have b1 : ∀ y : Bool, BitVec.ofBool y = 1#1 → y = true := by decide
    have h6 := BitVec.sle_iff_toInt_le.1 (b1 _ h4)
    have h7 := BitVec.sle_iff_toInt_le.1 (b1 _ h5)
    rw [show (1#32 : BitVec 32).toInt = 1 from by decide] at h6
    rw [show (640#32 : BitVec 32).toInt = 640 from by decide] at h7
    have h8 := BitVec.toInt_eq_toNat_cond x
    have h9 := x.isLt
    split_ifs at h8 <;> omega

/-- The precondition bounds the key counts of the memory. -/
theorem cnt_of [Cert.Pre_in_domain.Facts] (h : Cert.Pre_KernelIdeal_in_domain m) (c : Dev nD) (b : Fin 3) : 1 ≤ cntV m c b ∧ cntV m c b ≤ 640 := by
  have e := (pre_open _ _ _ _ _ _ _ _ (h c)).2 b
  unfold cntV
  rw [nV_eq m c]
  exact e

/-- The precondition makes the table of the memory positive. -/
theorem tab_of [Cert.Pre_in_domain.Facts] (h : Cert.Pre_KernelIdeal_in_domain m) (c : Dev nD) (b : Fin 3) (i : Fin 12) : 0 < tbV m c (ix2 b i) := by
  have e := (pre_open _ _ _ _ _ _ _ _ (h c)).1 b i
  rw [tbV_eq m c]
  exact e

end Cert.KernelIdeal.Val
-- ==== Proof.VRun.lean ====
/- The kernel and the reference over the extended reals end with the same results. -/
module

public import proofs.«01_k».proof.Proof.VSame
public import proofs.«01_k».proof.Proof.VHost
public import proofs.«01_k».proof.Proof.VPre
public import Idealize.ShloMosaic.Lib.Claim

@[expose] public section

set_option maxRecDepth 16384

noncomputable section

namespace Cert.KernelIdeal.Val

open Cert.KernelIdeal Cert.KernelIdeal.Gen Cert.KernelIdeal.Body
open Idealize.ShloMosaic Idealize.ShloMosaic.TcCoe Idealize.SL.Sem

variable (m : (ℓ : Loc nD τ sig) → Buf (Elt Ideal) ℓ) (ρ : Dev nD → PrngReg)

/-- Where every key count lies between one and the row's length, the kernel ends with the five arrays named and its
arguments unchanged. -/
theorem results (hn : ∀ (c : Dev nD) (b : Fin 3), 1 ≤ cntV m c b ∧ cntV m c b ≤ 640) :
    θ_run (defs (F := Ideal)) (onTc (τ := τ) (main (F := Ideal))) ⟨m, fun _ => 0, ρ⟩ (fun r => (∀ c : Dev nD,
      r.2.mem ((c.tc : Thread nD τ).loc main_v8_0) = codesG 0 (tbV m c) (wV m c) (m ((c.tc : Thread nD τ).loc main_arg2))
      ∧ r.2.mem ((c.tc : Thread nD τ).loc main_v8_1) = codesG 1 (tbV m c) (wV m c) (m ((c.tc : Thread nD τ).loc main_arg2))
      ∧ r.2.mem ((c.tc : Thread nD τ).loc main_v8_2) = codesG 2 (tbV m c) (wV m c) (m ((c.tc : Thread nD τ).loc main_arg2))
      ∧ r.2.mem ((c.tc : Thread nD τ).loc main_v8_3) = attnG (cntV m c) (tbV m c) (wV m c) (woV m c) (m ((c.tc : Thread nD τ).loc main_arg2))
      ∧ r.2.mem ((c.tc : Thread nD τ).loc main_v8_4) = yG (cntV m c) (tbV m c) (wV m c) (woV m c) (m ((c.tc : Thread nD τ).loc main_arg2)) (m ((c.tc : Thread nD τ).loc main_arg3)))
      ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  θ_run_and ((θ_run defs _ _).mono (fun _ h c => ⟨((h c).1 6).trans (arr6 m c), ((h c).1 7).trans (arr7 m c), ((h c).1 8).trans (arr8 m c), ((h c).1 9).trans (arr9 m c), ((h c).1 10).trans (arr10 m c)⟩) (run_main m ρ hn))
    (frame_of m ρ (dats m) (A_eq m) (run_main m ρ hn))

end Cert.KernelIdeal.Val

namespace Cert.RefIdeal.Val

open Cert.RefIdeal Cert.RefIdeal.Gen
open Idealize.ShloMosaic Idealize.ShloMosaic.TcCoe Idealize.SL.Sem

variable (m : (ℓ : Loc nD τ sig) → Buf (Elt Ideal) ℓ) (ρ : Dev nD → PrngReg)

/-- The reference ends with the five arrays named and its arguments unchanged. -/
theorem results :
    θ_run (defs (F := Ideal)) (onTc (τ := τ) (main (F := Ideal))) ⟨m, fun _ => 0, ρ⟩ (fun r => (∀ c : Dev nD,
      r.2.mem ((c.tc : Thread nD τ).loc main_v27_0) = qA m c
      ∧ r.2.mem ((c.tc : Thread nD τ).loc main_v27_1) = kA m c
      ∧ r.2.mem ((c.tc : Thread nD τ).loc main_v27_2) = vA m c
      ∧ r.2.mem ((c.tc : Thread nD τ).loc main_v68) = rattA (m ((c.tc : Thread nD τ).loc main_arg0)) (m ((c.tc : Thread nD τ).loc main_arg1)) (qA m c) (kA m c) (vA m c) (m ((c.tc : Thread nD τ).loc main_arg7))
      ∧ r.2.mem ((c.tc : Thread nD τ).loc main_v67) = (show FVec Ideal S3x56x192x640 .f32 from fun y => (show FVec Ideal S3x56x192x640 .f32 from m ((c.tc : Thread nD τ).loc main_arg3)) y + rattA (m ((c.tc : Thread nD τ).loc main_arg0)) (m ((c.tc : Thread nD τ).loc main_arg1)) (qA m c) (kA m c) (vA m c) (m ((c.tc : Thread nD τ).loc main_arg7)) y))
      ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  θ_run_and ((θ_run defs _ _).mono (fun _ h c => ⟨((h c).1 3).trans (arr3 m c), ((h c).1 4).trans (arr4 m c), ((h c).1 5).trans (arr5 m c),
      ((h c).2 main_v68 (Pipeline.mem_restRefs_of main_v68 (by decide) (by decide))).trans (tail_v68 m c),
      ((h c).2 main_v67 (Pipeline.mem_restRefs_of main_v67 (by decide) (by decide))).trans (tail_v67 m c)⟩) (run_main m ρ))
    (unchanged m ρ)

end Cert.RefIdeal.Val

namespace Cert.Same

open Idealize.ShloMosaic Idealize.ShloMosaic.TcCoe Idealize.SL.Sem
open Cert.KernelIdeal.Val (tbV wV woV cntV tbV_eq nV_eq w_at0 w_at1 w_at2 wo_at cnt_of tab_of)

/-- From memories agreeing on the arguments, in the domain, the kernel and the reference end with equal results and
their arguments unchanged. -/
theorem algebraic [hP : Cert.Pre_in_domain.Facts] :
    Cert.algebraic_KernelIdeal_RefIdeal_pre_in_domain (hKernelIdeal := Cert.KernelIdeal.Gen.facts) (hRefIdeal := Cert.RefIdeal.Gen.facts) (hPre_in_domain := hP) := by
  intro m g m' g' hpre ha
  have hn := fun c b => cnt_of m hpre c b
  have hT := fun c b i => tab_of m hpre c b i
  have hcnt : ∀ c, cntV m c = fun b => ((show IVec Cert.RefIdeal.S3 32 from m ((c.tc : Thread Cert.KernelIdeal.nD Cert.KernelIdeal.τ).loc Cert.KernelIdeal.main_arg1)) (ix1 b)).toNat := fun c => by
    funext b; unfold cntV; rw [nV_eq m c]
  refine ⟨_, _, _, _, _, (θ_run _ _ _).mono (fun r h c => ⟨(h.1 c).1, (h.1 c).2.1, (h.1 c).2.2.1, (h.1 c).2.2.2.1, (h.1 c).2.2.2.2, h.2 c⟩) (Cert.KernelIdeal.Val.results m g hn), (θ_run _ _ _).mono (fun r h c => ?_) (Cert.RefIdeal.Val.results m' g')⟩
  obtain ⟨h0, h1, h2, h3, h4⟩ := h.1 c
  obtain ⟨a0, a1, a2, a3, a4, a5, a6, a7⟩ := ha c
  have hn1 : ∀ b, 1 ≤ ((show IVec Cert.RefIdeal.S3 32 from m ((c.tc : Thread Cert.KernelIdeal.nD Cert.KernelIdeal.τ).loc Cert.KernelIdeal.main_arg1)) (ix1 b)).toNat := fun b => by
    have := (hn c b).1; rw [hcnt] at this; exact this
  have hn2 : ∀ b, ((show IVec Cert.RefIdeal.S3 32 from m ((c.tc : Thread Cert.KernelIdeal.nD Cert.KernelIdeal.τ).loc Cert.KernelIdeal.main_arg1)) (ix1 b)).toNat ≤ 640 := fun b => by
    have := (hn c b).2; rw [hcnt] at this; exact this
  have e0 := codes_eq (tbV m c) (wV m c) _ (m ((c.tc : Thread Cert.KernelIdeal.nD Cert.KernelIdeal.τ).loc Cert.KernelIdeal.main_arg2)) 0 (hT c) (w_at0 m c)
  have e1 := codes_eq (tbV m c) (wV m c) _ (m ((c.tc : Thread Cert.KernelIdeal.nD Cert.KernelIdeal.τ).loc Cert.KernelIdeal.main_arg2)) 1 (hT c) (w_at1 m c)
  have e2 := codes_eq (tbV m c) (wV m c) _ (m ((c.tc : Thread Cert.KernelIdeal.nD Cert.KernelIdeal.τ).loc Cert.KernelIdeal.main_arg2)) 2 (hT c) (w_at2 m c)
  have e3 := attn_eq (tbV m c) _ hn1 hn2 (hT c) (wV m c) (woV m c) (m ((c.tc : Thread Cert.KernelIdeal.nD Cert.KernelIdeal.τ).loc Cert.KernelIdeal.main_arg2)) _ _ _ _ (w_at0 m c) (w_at1 m c) (w_at2 m c) (wo_at m c)
  have e4 := y_eq (tbV m c) _ hn1 hn2 (hT c) (wV m c) (woV m c) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) _ _ _ _ (w_at0 m c) (w_at1 m c) (w_at2 m c) (wo_at m c)
  rw [← hcnt c] at e3 e4
  unfold Cert.RefIdeal.Val.qA at h0 h3 h4
  unfold Cert.RefIdeal.Val.kA at h1 h3 h4
  unfold Cert.RefIdeal.Val.vA at h2 h3 h4
  rw [a0, a2, a4] at h0
  rw [a0, a2, a5] at h1
  rw [a0, a2, a6] at h2
  rw [a0, a1, a2, a4, a5, a6, a7] at h3
  rw [a0, a1, a2, a3, a4, a5, a6, a7] at h4
  rw [tbV_eq m c] at e0 e1 e2 e3 e4
  refine ⟨h0.trans ?_, h1.trans ?_, h2.trans ?_, h3.trans ?_, h4.trans ?_, h.2 c⟩
  · rw [tbV_eq m c]; exact e0.symm
  · rw [tbV_eq m c]; exact e1.symm
  · rw [tbV_eq m c]; exact e2.symm
  · rw [tbV_eq m c]; exact e3.symm
  · rw [tbV_eq m c]; exact e4.symm

end Cert.Same

end
-- ==== Proof.lean ====
module

public import proofs.«01_k».proof.Defs
public import proofs.«01_k».proof.Proof.BFrame
public import proofs.«01_k».proof.Proof.IFrame
public import proofs.«01_k».proof.Proof.Gen.RefIdeal.Frame
public import proofs.«01_k».proof.Proof.Gen.Pre_in_domain
public import proofs.«01_k».proof.Proof.Gen.KernelIdeal.Frame
public import proofs.«01_k».proof.Proof.VRun
public import Idealize.ShloMosaic.Adequacy
public import Idealize.ShloMosaic.Init

@[expose] public section

noncomputable section

namespace Cert.Proof

open Idealize.ShloMosaic Idealize.SL.Sem

/-- The kernel's frame at the machine's floats. -/
theorem frame_p : Cert.quiescent_Kernel := fun m ρ _ => Cert.Kernel.Body.frame m ρ
/-- The ideal kernel's frame. -/
theorem frame_pi : Cert.quiescent_KernelIdeal := fun m ρ _ => Cert.KernelIdeal.Body.frame m ρ
/-- The ideal kernel's frame, in the domain. -/
theorem frame_pi_pre [Cert.Pre_in_domain.Facts] : Cert.quiescent_KernelIdeal_pre_in_domain := fun m ρ _ => Cert.KernelIdeal.Body.frame m ρ
/-- The ideal reference's frame. -/
theorem frame_ri : Cert.quiescent_RefIdeal := fun m ρ _ => Cert.RefIdeal.Gen.frame m ρ
/-- The ideal reference's frame, in the domain. -/
theorem frame_ri_pre [Cert.Pre_in_domain.Facts] : Cert.quiescent_RefIdeal_pre_in_domain := fun m ρ _ => Cert.RefIdeal.Gen.frame m ρ
/-- The one named constant is the real it was computed from. -/
theorem preserves : Cert.preserves_Kernel_KernelIdeal :=
  IdealRules.named_const.statement Cert.KernelIdeal.κ "score_scale_log2e" .f32 0x3E553B95#32 (((Real.sqrt 48)⁻¹ * (Real.log 2)⁻¹ : ℝ) : EReal) rfl

/-- The claim: the frames, the named constant, and the equality of the results over the extended reals. -/
theorem claim : Cert.Claim :=
  ⟨Cert.Kernel.Gen.facts, Cert.KernelIdeal.Gen.facts, Cert.RefIdeal.Gen.facts, Cert.Pre_in_domain.Gen.facts,
    frame_p, frame_pi, frame_pi_pre, frame_ri, frame_ri_pre, preserves, Cert.Same.algebraic⟩

end Cert.Proof

end
